-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v153) = v1 c
          ∧ r.2.mem ((c.tc : Thread Cert.Reference3Ideal.nD Cert.Reference3Ideal.τ).loc Cert.Reference3Ideal.main_v157) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attn_finite : Cert.Pre_attn_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_attn_finite (hKernelIdeal := hKernelIdeal) (hReferenceIdeal := hReferenceIdeal) (hPre_attn_finite := hPre_attn_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_attn_finite.lean ====
abbrev S1 : Shape := ⟨1, ![1]⟩
abbrev S2x1024x8448 : Shape := ⟨3, ![2, 1024, 8448]⟩
abbrev S2x8448x1024 : Shape := ⟨3, ![2, 8448, 1024]⟩
abbrev S2x33x512x256 : Shape := ⟨4, ![2, 33, 512, 256]⟩
abbrev S8x128 : Shape := ⟨2, ![8, 128]⟩
abbrev S_ : Shape := ⟨0, ![]⟩

class Facts : Prop where
  bitsLt_bf16_f32 : FTy.bits .bf16 < FTy.bits .f32
  bcast_S_S2x1024x8448 : S_.BroadcastsInDim S2x1024x8448 (![] : Fin 0 → Fin S2x1024x8448.rank)
  reducesTo_S2x1024x8448_S_d0_1_2 : S2x1024x8448.ReducesTo [0, 1, 2] S_
  h_S_ : 0 < S_.numel
  bcast_S_S2x8448x1024 : S_.BroadcastsInDim S2x8448x1024 (![] : Fin 0 → Fin S2x8448x1024.rank)
  reducesTo_S2x8448x1024_S_d0_1_2 : S2x8448x1024.ReducesTo [0, 1, 2] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : IVec S1 32) (main_arg1 : FVec F S2x1024x8448 .bf16) (main_arg2 : FVec F S2x8448x1024 .bf16) (main_arg3 : FVec F S2x33x512x256 .bf16) (main_arg4 : FVec F S8x128 .f32) : IVec S_ 1 :=
  let main_v0 : FVec F S2x1024x8448 .f32 := (extf .f32 · bitsLt_bf16_f32) main_arg1
  let main_v1 : FVec F S2x1024x8448 .f32 := Host.absf main_v0
  let main_cst : FVec F S_ .f32 := constant S_ .f32 0x7F800000#32
  let main_v2 : FVec F S2x1024x8448 .f32 := broadcastInDim S2x1024x8448 ![] bcast_S_S2x1024x8448 main_cst
  let main_v3 : IVec S2x1024x8448 1 := cmpf .olt main_v1 main_v2
  let main_c : IVec S_ 1 := constantI S_ 1 1#1
  let main_v4 : IVec S_ 1 := (fun x v => Host.reduce IntOp.andi x v reducesTo_S2x1024x8448_S_d0_1_2 h_S_) main_v3 main_c
  let main_v5 : FVec F S2x8448x1024 .f32 := (extf .f32 · bitsLt_bf16_f32) main_arg2
  let main_v6 : FVec F S2x8448x1024 .f32 := Host.absf main_v5
  let main_cst_0 : FVec F S_ .f32 := constant S_ .f32 0x7F800000#32
  let main_v7 : FVec F S2x8448x1024 .f32 := broadcastInDim S2x8448x1024 ![] bcast_S_S2x8448x1024 main_cst_0
  let main_v8 : IVec S2x8448x1024 1 := cmpf .olt main_v6 main_v7
  let main_c_1 : IVec S_ 1 := constantI S_ 1 1#1
  let main_v9 : IVec S_ 1 := (fun x v => Host.reduce IntOp.andi x v reducesTo_S2x8448x1024_S_d0_1_2 h_S_) main_v8 main_c_1
  let main_v10 : FVec F S8x128 .f32 := Host.absf main_arg4
  let main_cst_2 : FVec F S_ .f32 := constant S_ .f32 0x7F800000#32
  let main_v11 : FVec F S8x128 .f32 := broadcastInDim S8x128 ![] bcast_S_S8x128 main_cst_2
  let main_v12 : IVec S8x128 1 := cmpf .olt main_v10 main_v11
  let main_c_3 : IVec S_ 1 := constantI S_ 1 1#1
  let main_v13 : IVec S_ 1 := (fun x v => Host.reduce IntOp.andi x v reducesTo_S8x128_S_d0_1 h_S_) main_v12 main_c_3
  let main_v14 : IVec S_ 1 := andi main_v4 main_v9
  let main_v15 : IVec S_ 1 := andi main_v14 main_v13
  main_v15
-- ==== Kernel.lean ====
abbrev S1 : Shape := ⟨1, ![1]⟩
abbrev S2x1024x8448 : Shape := ⟨3, ![2, 1024, 8448]⟩
abbrev S2x8448x1024 : Shape := ⟨3, ![2, 8448, 1024]⟩
abbrev S2x33x512x256 : Shape := ⟨4, ![2, 33, 512, 256]⟩
abbrev S8x128 : Shape := ⟨2, ![8, 128]⟩
abbrev S2x8192x512 : Shape := ⟨3, ![2, 8192, 512]⟩
abbrev S1x256x2048 : Shape := ⟨3, ![1, 256, 2048]⟩
abbrev S1x8448x256 : Shape := ⟨3, ![1, 8448, 256]⟩
abbrev S1x33x128x256 : Shape := ⟨4, ![1, 33, 128, 256]⟩
abbrev S1x2048x128 : Shape := ⟨3, ![1, 2048, 128]⟩
abbrev S128x2048 : Shape := ⟨2, ![128, 2048]⟩
abbrev S8x2048 : Shape := ⟨2, ![8, 2048]⟩
abbrev S16x256 : Shape := ⟨2, ![16, 256]⟩
abbrev S1x1 : Shape := ⟨2, ![1, 1]⟩
abbrev S1x2816x128 : Shape := ⟨3, ![1, 2816, 128]⟩
abbrev S2816x128 : Shape := ⟨2, ![2816, 128]⟩
abbrev S1x128x512 : Shape := ⟨3, ![1, 128, 512]⟩
abbrev S128x512 : Shape := ⟨2, ![128, 512]⟩
abbrev S2816x512 : Shape := ⟨2, ![2816, 512]⟩
abbrev S1x1x64x256 : Shape := ⟨4, ![1, 1, 64, 256]⟩
abbrev S64x256 : Shape := ⟨2, ![64, 256]⟩
abbrev S80x256 : Shape := ⟨2, ![80, 256]⟩
abbrev S256x512 : Shape := ⟨2, ![256, 512]⟩
abbrev S80x512 : Shape := ⟨2, ![80, 512]⟩
abbrev S64x512 : Shape := ⟨2, ![64, 512]⟩
abbrev S1x512 : Shape := ⟨2, ![1, 512]⟩
abbrev S512 : Shape := ⟨1, ![512]⟩
abbrev S1x2048 : Shape := ⟨2, ![1, 2048]⟩
abbrev S2048x128 : Shape := ⟨2, ![2048, 128]⟩

abbrev nBuf : Space → Nat
  | .hbm => 5
  | .vmem => 12
  | .smem => 1
  | _ => 0

abbrev bufTy : (tb : Table) → Fin (tcTables nBuf tb) → BufTy
  | .hbm, ⟨0, _⟩ => ⟨S2x1024x8448, .bf16⟩
  | .hbm, ⟨1, _⟩ => ⟨S2x8448x1024, .bf16⟩
  | .hbm, ⟨2, _⟩ => ⟨S2x33x512x256, .bf16⟩
  | .hbm, ⟨3, _⟩ => ⟨S8x128, .f32⟩
  | .hbm, ⟨4, _⟩ => ⟨S2x8192x512, .f32⟩
  | .local _ .vmem, ⟨0, _⟩ => ⟨S1x256x2048, .bf16⟩
  | .local _ .vmem, ⟨1, _⟩ => ⟨S1x256x2048, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x33x128x256, .bf16⟩
  | .local _ .vmem, ⟨5, _⟩ => ⟨S1x33x128x256, .bf16⟩
  | .local _ .vmem, ⟨6, _⟩ => ⟨S8x128, .f32⟩
  | .local _ .vmem, ⟨7, _⟩ => ⟨S1x2048x128, .f32⟩
  | .local _ .vmem, ⟨8, _⟩ => ⟨S1x2048x128, .f32⟩
  | .local _ .vmem, ⟨9, _⟩ => ⟨S128x2048, .f32⟩
  | .local _ .vmem, ⟨10, _⟩ => ⟨S8x2048, .f32⟩
  | .local _ .vmem, ⟨11, _⟩ => ⟨S8x2048, .f32⟩
  | .local _ .smem, ⟨0, _⟩ => ⟨S1, .i32⟩
  | _, _ => ⟨S2x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_19 : BitVec 32 := 0#32
  let c3_i32 : BitVec 32 := 3#32
  let v37 : BitVec 32 := Scalar.addi c0_i32_19 c3_i32
  let c1_i32_20 : BitVec 32 := 1#32
  ⟨c0_i32_19, v37, c1_i32_20⟩
def k0_mult1 (k0_t1 : Fin k0_t1_loop.trips) : BitVec 32 :=
  let c0_i32_19 : BitVec 32 := 0#32
  let c1_i32_20 : BitVec 32 := 1#32
  let arg12 : BitVec 32 := Scf.iv c0_i32_19 c1_i32_20 k0_t1
  let c2816_i32 : BitVec 32 := 2816#32
  let v38 : BitVec 32 := Scalar.muli arg12 c2816_i32
  v38
def k0_off1 (k0_t1 : Fin k0_t1_loop.trips) : Fin 3 → Nat :=
  let c0_22 : Index := 0#32
  let c0_i32_19 : BitVec 32 := 0#32
  let c1_i32_20 : BitVec 32 := 1#32
  let arg12 : BitVec 32 := Scf.iv c0_i32_19 c1_i32_20 k0_t1
  let c2816_i32 : BitVec 32 := 2816#32
  let v38 : BitVec 32 := Scalar.muli arg12 c2816_i32
  let v39 : BitVec 32 := v38
  let v40 : Index := Scalar.indexCast v39
  let c0_23 : Index := 0#32
  ![0, v40.toNat, 0]
def k0_off2 (k0_t1 : Fin k0_t1_loop.trips) (c0_i32_43 : BitVec 32) : Fin 4 → Nat :=
  let c0_44 : Index := 0#32
  let c0_i32_19 : BitVec 32 := 0#32
  let c1_i32_20 : BitVec 32 := 1#32
  let arg12 : BitVec 32 := Scf.iv c0_i32_19 c1_i32_20 k0_t1
  let c11_i32 : BitVec 32 := 11#32
  let v68 : BitVec 32 := Scalar.muli arg12 c11_i32
  let v69 : BitVec 32 := Scalar.addi v68 c0_i32_43
  let v70 : Index := Scalar.indexCast v69
  let c0_45 : Index := 0#32
  let c0_46 : Index := 0#32
  ![0, v70.toNat, 0, 0]
def k0_off3 (k0_t1 : Fin k0_t1_loop.trips) : Fin 3 → Nat :=
  let c0_108 : Index := 0#32
  let c0_i32_19 : BitVec 32 := 0#32
  let c1_i32_20 : BitVec 32 := 1#32
  let arg12 : BitVec 32 := Scf.iv c0_i32_19 c1_i32_20 k0_t1
  let c2816_i32 : BitVec 32 := 2816#32
  let v38 : BitVec 32 := Scalar.muli arg12 c2816_i32
  let v39 : BitVec 32 := v38
  let v178 : Index := Scalar.indexCast v39
  let c128 : Index := 128#32
  ![0, v178.toNat, 128]
def k0_off4 (k0_t1 : Fin k0_t1_loop.trips) (c0_i32_354 : BitVec 32) : Fin 4 → Nat :=
  let c0_355 : Index := 0#32
  let c0_i32_19 : BitVec 32 := 0#32
  let c1_i32_20 : BitVec 32 := 1#32
  let arg12 : BitVec 32 := Scf.iv c0_i32_19 c1_i32_20 k0_t1
  let c11_i32_353 : BitVec 32 := 11#32
  let v548 : BitVec 32 := Scalar.muli arg12 c11_i32_353
  let v549 : BitVec 32 := Scalar.addi v548 c0_i32_354
  let v550 : Index := Scalar.indexCast v549
  let c64 : Index := 64#32
  let c0_356 : Index := 0#32
  ![0, v550.toNat, 64, 0]
@[reducible] def k0_t2_loop : Scf.Loop 32 :=
  let c0_i32_22 : BitVec 32 := 0#32
  let c3_i32 : BitVec 32 := 3#32
  let v41 : BitVec 32 := Scalar.addi c0_i32_22 c3_i32
  let c1_i32_23 : BitVec 32 := 1#32
  ⟨c0_i32_22, v41, c1_i32_23⟩
def k0_mult2 (k0_t2 : Fin k0_t2_loop.trips) : BitVec 32 :=
  let c0_i32_22 : BitVec 32 := 0#32
  let c1_i32_23 : BitVec 32 := 1#32
  let arg12 : BitVec 32 := Scf.iv c0_i32_22 c1_i32_23 k0_t2
  let c2816_i32 : BitVec 32 := 2816#32
  let v42 : BitVec 32 := Scalar.muli arg12 c2816_i32
  v42
def k0_off5 (k0_t2 : Fin k0_t2_loop.trips) : Fin 3 → Nat :=
  let c0_25 : Index := 0#32
  let c0_i32_22 : BitVec 32 := 0#32
  let c1_i32_23 : BitVec 32 := 1#32
  let arg12 : BitVec 32 := Scf.iv c0_i32_22 c1_i32_23 k0_t2
  let c2816_i32 : BitVec 32 := 2816#32
  let v42 : BitVec 32 := Scalar.muli arg12 c2816_i32
  let v43 : BitVec 32 := v42
  let v44 : Index := Scalar.indexCast v43
  let c0_26 : Index := 0#32
  ![0, v44.toNat, 0]
def k0_off6 (k0_t2 : Fin k0_t2_loop.trips) (c0_i32_49 : BitVec 32) : Fin 4 → Nat :=
  let c0_50 : Index := 0#32
  let c0_i32_22 : BitVec 32 := 0#32
  let c1_i32_23 : BitVec 32 := 1#32
  let arg12 : BitVec 32 := Scf.iv c0_i32_22 c1_i32_23 k0_t2
  let c11_i32 : BitVec 32 := 11#32
  let v78 : BitVec 32 := Scalar.muli arg12 c11_i32
  let v79 : BitVec 32 := Scalar.addi v78 c0_i32_49
  let v80 : Index := Scalar.indexCast v79
  let c0_51 : Index := 0#32
  let c0_52 : Index := 0#32
  ![0, v80.toNat, 0, 0]
def k0_off7 (k0_t2 : Fin k0_t2_loop.trips) : Fin 3 → Nat :=
  let c0_116 : Index := 0#32
  let c0_i32_22 : BitVec 32 := 0#32
  let c1_i32_23 : BitVec 32 := 1#32
  let arg12 : BitVec 32 := Scf.iv c0_i32_22 c1_i32_23 k0_t2
  let c2816_i32 : BitVec 32 := 2816#32
  let v42 : BitVec 32 := Scalar.muli arg12 c2816_i32
  let v43 : BitVec 32 := v42
  let v194 : Index := Scalar.indexCast v43
  let c128 : Index := 128#32
  ![0, v194.toNat, 128]
def k0_off8 (k0_t2 : Fin k0_t2_loop.trips) (c0_i32_380 : BitVec 32) : Fin 4 → Nat :=
  let c0_381 : Index := 0#32
  let c0_i32_22 : BitVec 32 := 0#32
  let c1_i32_23 : BitVec 32 := 1#32
  let arg12 : BitVec 32 := Scf.iv c0_i32_22 c1_i32_23 k0_t2
  let c11_i32_379 : BitVec 32 := 11#32
  let v606 : BitVec 32 := Scalar.muli arg12 c11_i32_379
  let v607 : BitVec 32 := Scalar.addi v606 c0_i32_380
  let v608 : Index := Scalar.indexCast v607
  let c64 : Index := 64#32
  let c0_382 : Index := 0#32
  ![0, v608.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S1 : Shape := ⟨1, ![1]⟩
abbrev S2x1024x8448 : Shape := ⟨3, ![2, 1024, 8448]⟩
abbrev S2x8448x1024 : Shape := ⟨3, ![2, 8448, 1024]⟩
abbrev S2x33x512x256 : Shape := ⟨4, ![2, 33, 512, 256]⟩
abbrev S8x128 : Shape := ⟨2, ![8, 128]⟩
abbrev S2x8x128x8448 : Shape := ⟨4, ![2, 8, 128, 8448]⟩
abbrev S2x8x128x8192 : Shape := ⟨4, ![2, 8, 128, 8192]⟩
abbrev S2x8448x8x128 : Shape := ⟨4, ![2, 8448, 8, 128]⟩
abbrev S2x512x33x256 : Shape := ⟨4, ![2, 512, 33, 256]⟩
abbrev S2x8x64x33x256 : Shape := ⟨5, ![2, 8, 64, 33, 256]⟩
abbrev S2x8x64x8448 : Shape := ⟨4, ![2, 8, 64, 8448]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x8x64 : Shape := ⟨4, ![2, 8192, 8, 64]⟩
abbrev S2x8192x512 : Shape := ⟨3, ![2, 8192, 512]⟩

abbrev nBuf : Space → Nat
  | .hbm => 36
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1024x8448, .bf16⟩
  | .hbm, ⟨2, _⟩ => ⟨S2x8448x1024, .bf16⟩
  | .hbm, ⟨3, _⟩ => ⟨S2x33x512x256, .bf16⟩
  | .hbm, ⟨4, _⟩ => ⟨S8x128, .f32⟩
  | .hbm, ⟨5, _⟩ => ⟨S2x1024x8448, .f32⟩
  | .hbm, ⟨6, _⟩ => ⟨S2x8x128x8448, .f32⟩
  | .hbm, ⟨7, _⟩ => ⟨S2x8x128x8192, .f32⟩
  | .hbm, ⟨8, _⟩ => ⟨S2x8448x1024, .f32⟩
  | .hbm, ⟨9, _⟩ => ⟨S2x8448x8x128, .f32⟩
  | .hbm, ⟨10, _⟩ => ⟨S2x33x512x256, .f32⟩
  | .hbm, ⟨11, _⟩ => ⟨S2x512x33x256, .f32⟩
  | .hbm, ⟨12, _⟩ => ⟨S2x8x64x33x256, .f32⟩
  | .hbm, ⟨13, _⟩ => ⟨S2x8x64x8448, .f32⟩
  | .hbm, ⟨14, _⟩ => ⟨S2x8x8192x8448, .f32⟩
  | .hbm, ⟨15, _⟩ => ⟨S_, .f32⟩
  | .hbm, ⟨16, _⟩ => ⟨S_, .f32⟩
  | .hbm, ⟨17, _⟩ => ⟨S2x8x8192x8448, .f32⟩
  | .hbm, ⟨18, _⟩ => ⟨S2x8x8192x8448, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8448, .f32⟩
  | .hbm, ⟨26, _⟩ => ⟨S2x8x8192x8448, .f32⟩
  | .hbm, ⟨27, _⟩ => ⟨S2x8x8192x8448, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8448, .f32⟩
  | .hbm, ⟨32, _⟩ => ⟨S2x8x8192x8448, .f32⟩
  | .hbm, ⟨33, _⟩ => ⟨S2x8x64x8192, .f32⟩
  | .hbm, ⟨34, _⟩ => ⟨S2x8192x8x64, .f32⟩
  | .hbm, ⟨35, _⟩ => ⟨S2x8192x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S16x2384x1024 : Shape := ⟨3, ![16, 2384, 1024]⟩
abbrev S16x2384x128 : Shape := ⟨3, ![16, 2384, 128]⟩
abbrev S4x16x1024x1024 : Shape := ⟨4, ![4, 16, 1024, 1024]⟩
abbrev S1x2112x1024 : Shape := ⟨3, ![1, 2112, 1024]⟩
abbrev S1x2112x128 : Shape := ⟨3, ![1, 2112, 128]⟩
abbrev S1x1x1024x512 : Shape := ⟨4, ![1, 1, 1024, 512]⟩
abbrev S1x1x512x1024 : Shape := ⟨4, ![1, 1, 512, 1024]⟩
abbrev S1x2384x1024 : Shape := ⟨3, ![1, 2384, 1024]⟩
abbrev S2112x1024 : Shape := ⟨2, ![2112, 1024]⟩
abbrev S1024x512 : Shape := ⟨2, ![1024, 512]⟩
abbrev S512x1024 : Shape := ⟨2, ![512, 1024]⟩
abbrev S1x528x1024 : Shape := ⟨3, ![1, 528, 1024]⟩
abbrev S528x1024 : Shape := ⟨2, ![528, 1024]⟩
abbrev S528x512 : Shape := ⟨2, ![528, 512]⟩
abbrev S2112x128 : Shape := ⟨2, ![2112, 128]⟩
abbrev S272x1024 : Shape := ⟨2, ![272, 1024]⟩
abbrev S1x272x1024 : Shape := ⟨3, ![1, 272, 1024]⟩

abbrev nBuf : Space → Nat
  | .hbm => 6
  | .vmem => 13
  | .smem => 0
  | _ => 0

abbrev bufTy : (tb : Table) → Fin (tcTables nBuf tb) → BufTy
  | .hbm, ⟨0, _⟩ => ⟨S16x2384x1024, .bf16⟩
  | .hbm, ⟨1, _⟩ => ⟨S16x2384x128, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x2384x1024, .bf16⟩
  | .local _ .vmem, ⟨0, _⟩ => ⟨S1x2112x1024, .bf16⟩
  | .local _ .vmem, ⟨1, _⟩ => ⟨S1x2112x1024, .bf16⟩
  | .local _ .vmem, ⟨2, _⟩ => ⟨S1x2112x128, .f32⟩
  | .local _ .vmem, ⟨3, _⟩ => ⟨S1x2112x128, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x2384x1024, .bf16⟩
  | .local _ .vmem, ⟨11, _⟩ => ⟨S1x2384x1024, .bf16⟩
  | .local _ .vmem, ⟨12, _⟩ => ⟨S2112x1024, .f32⟩
  | _, _ => ⟨S16x2384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v100 : BitVec 1 := Scalar.cmpi .eq arg1 c1_i32
  let v101 : BitVec 32 := Scalar.extui v100
  let c0_i32_72 : BitVec 32 := 0#32
  let v102 : BitVec 1 := Scalar.cmpi .ne v101 c0_i32_72
  v102

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2384x1024 : Shape := ⟨3, ![16, 2384, 1024]⟩
abbrev S16x2384x128 : Shape := ⟨3, ![16, 2384, 128]⟩
abbrev S4x16x1024x1024 : Shape := ⟨4, ![4, 16, 1024, 1024]⟩
abbrev S16x2112x1024 : Shape := ⟨3, ![16, 2112, 1024]⟩
abbrev S1x16x1024x1024 : Shape := ⟨4, ![1, 16, 1024, 1024]⟩
abbrev S16x1024x1024 : Shape := ⟨3, ![16, 1024, 1024]⟩
abbrev S_ : Shape := ⟨0, ![]⟩
abbrev S16x2112x128 : Shape := ⟨3, ![16, 2112, 128]⟩
abbrev S1x16x1x2112x1x128 : Shape := ⟨6, ![1, 16, 1, 2112, 1, 128]⟩
abbrev S1x16x1x2112x8x128 : Shape := ⟨6, ![1, 16, 1, 2112, 8, 128]⟩

abbrev nBuf : Space → Nat
  | .hbm => 35
  | .vmem => 0
  | .smem => 0
  | _ => 0

abbrev bufTy : (tb : Table) → Fin (tcTables nBuf tb) → BufTy
  | .hbm, ⟨0, _⟩ => ⟨S16x2384x1024, .bf16⟩
  | .hbm, ⟨1, _⟩ => ⟨S16x2384x128, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x2112x1024, .bf16⟩
  | .hbm, ⟨6, _⟩ => ⟨S16x2112x1024, .f32⟩
  | .hbm, ⟨7, _⟩ => ⟨S1x16x1024x1024, .f32⟩
  | .hbm, ⟨8, _⟩ => ⟨S16x1024x1024, .f32⟩
  | .hbm, ⟨9, _⟩ => ⟨S16x2112x1024, .f32⟩
  | .hbm, ⟨10, _⟩ => ⟨S16x2112x1024, .f32⟩
  | .hbm, ⟨11, _⟩ => ⟨S16x2112x1024, .f32⟩
  | .hbm, ⟨12, _⟩ => ⟨S_, .f32⟩
  | .hbm, ⟨13, _⟩ => ⟨S16x2112x1024, .f32⟩
  | .hbm, ⟨14, _⟩ => ⟨S16x2112x1024, .f32⟩
  | .hbm, ⟨15, _⟩ => ⟨S_, .f32⟩
  | .hbm, ⟨16, _⟩ => ⟨S16x2112x1024, .f32⟩
  | .hbm, ⟨17, _⟩ => ⟨S16x2112x1024, .f32⟩
  | .hbm, ⟨18, _⟩ => ⟨S16x2112x1024, .f32⟩
  | .hbm, ⟨19, _⟩ => ⟨S1x16x1024x1024, .f32⟩
  | .hbm, ⟨20, _⟩ => ⟨S16x1024x1024, .f32⟩
  | .hbm, ⟨21, _⟩ => ⟨S16x2112x1024, .f32⟩
  | .hbm, ⟨22, _⟩ => ⟨S16x2112x1024, .f32⟩
  | .hbm, ⟨23, _⟩ => ⟨S1x16x1024x1024, .f32⟩
  | .hbm, ⟨24, _⟩ => ⟨S16x1024x1024, .f32⟩
  | .hbm, ⟨25, _⟩ => ⟨S16x2112x1024, .f32⟩
  | .hbm, ⟨26, _⟩ => ⟨S16x2112x128, .f32⟩
  | .hbm, ⟨27, _⟩ => ⟨S1x16x1x2112x1x128, .f32⟩
  | .hbm, ⟨28, _⟩ => ⟨S1x16x1x2112x8x128, .f32⟩
  | .hbm, ⟨29, _⟩ => ⟨S16x2112x1024, .f32⟩
  | .hbm, ⟨30, _⟩ => ⟨S16x2112x1024, .f32⟩
  | .hbm, ⟨31, _⟩ => ⟨S_, .i32⟩
  | .hbm, ⟨32, _⟩ => ⟨S_, .f32⟩
  | .hbm, ⟨33, _⟩ => ⟨S16x2384x1024, .f32⟩
  | .hbm, ⟨34, _⟩ => ⟨S16x2384x1024, .bf16⟩
  | _, _ => ⟨S16x2384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S2x8448x1024 : Shape := ⟨3, ![2, 8448, 1024]⟩
abbrev S8x1x6144 : Shape := ⟨3, ![8, 1, 6144]⟩
abbrev S1x1024 : Shape := ⟨2, ![1, 1024]⟩
abbrev S4x1024x7680 : Shape := ⟨3, ![4, 1024, 7680]⟩
abbrev S4x1x7680 : Shape := ⟨3, ![4, 1, 7680]⟩
abbrev S5x1024 : Shape := ⟨2, ![5, 1024]⟩
abbrev S2x8448x6656 : Shape := ⟨3, ![2, 8448, 6656]⟩
abbrev S2x8448x512 : Shape := ⟨3, ![2, 8448, 512]⟩
abbrev S1x256x1024 : Shape := ⟨3, ![1, 256, 1024]⟩
abbrev S1x8x1024 : Shape := ⟨3, ![1, 8, 1024]⟩
abbrev S1x1x6144 : Shape := ⟨3, ![1, 1, 6144]⟩
abbrev S1x1024x7680 : Shape := ⟨3, ![1, 1024, 7680]⟩
abbrev S1x1x7680 : Shape := ⟨3, ![1, 1, 7680]⟩
abbrev S1x256x6656 : Shape := ⟨3, ![1, 256, 6656]⟩
abbrev S1x256x512 : Shape := ⟨3, ![1, 256, 512]⟩
abbrev S272x1024 : Shape := ⟨2, ![272, 1024]⟩
abbrev S1x1x1024 : Shape := ⟨3, ![1, 1, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1x1024x1024 : Shape := ⟨3, ![1, 1024, 1024]⟩
abbrev S1024x1024 : Shape := ⟨2, ![1024, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x1024x3328 : Shape := ⟨3, ![1, 1024, 3328]⟩
abbrev S1024x3328 : Shape := ⟨2, ![1024, 3328]⟩
abbrev S128x3328 : Shape := ⟨2, ![128, 3328]⟩
abbrev S1x1x3328 : Shape := ⟨3, ![1, 1, 3328]⟩
abbrev S1x3328 : Shape := ⟨2, ![1, 3328]⟩
abbrev S1x128x3328 : Shape := ⟨3, ![1, 128, 3328]⟩
abbrev S256x1024 : Shape := ⟨2, ![256, 1024]⟩
abbrev S256x512 : Shape := ⟨2, ![256, 512]⟩

abbrev nBuf : Space → Nat
  | .hbm => 10
  | .vmem => 20
  | .smem => 0
  | _ => 0

abbrev bufTy : (tb : Table) → Fin (tcTables nBuf tb) → BufTy
  | .hbm, ⟨0, _⟩ => ⟨S2x8448x1024, .f32⟩
  | .hbm, ⟨1, _⟩ => ⟨S8x1x6144, .f32⟩
  | .hbm, ⟨2, _⟩ => ⟨S1x1024, .f32⟩
  | .hbm, ⟨3, _⟩ => ⟨S4x1024x7680, .bf16⟩
  | .hbm, ⟨4, _⟩ => ⟨S4x1x7680, .f32⟩
  | .hbm, ⟨5, _⟩ => ⟨S5x1024, .f32⟩
  | .hbm, ⟨6, _⟩ => ⟨S1x1024, .f32⟩
  | .hbm, ⟨7, _⟩ => ⟨S2x8448x6656, .f32⟩
  | .hbm, ⟨8, _⟩ => ⟨S2x8448x512, .bf16⟩
  | .hbm, ⟨9, _⟩ => ⟨S2x8448x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1x1024x7680, .bf16⟩
  | .local _ .vmem, ⟨10, _⟩ => ⟨S1x1x7680, .f32⟩
  | .local _ .vmem, ⟨11, _⟩ => ⟨S5x1024, .f32⟩
  | .local _ .vmem, ⟨12, _⟩ => ⟨S1x1024, .f32⟩
  | .local _ .vmem, ⟨13, _⟩ => ⟨S1x256x6656, .f32⟩
  | .local _ .vmem, ⟨14, _⟩ => ⟨S1x256x6656, .f32⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S272x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c2_i32 : BitVec 32 := 2#32
  let v1 : BitVec 32 := Scalar.select v0 arg0 c2_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x7680 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x7680 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x6656 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8448x1024 : Shape := ⟨3, ![2, 8448, 1024]⟩
abbrev S8x1x6144 : Shape := ⟨3, ![8, 1, 6144]⟩
abbrev S1x1024 : Shape := ⟨2, ![1, 1024]⟩
abbrev S4x1024x7680 : Shape := ⟨3, ![4, 1024, 7680]⟩
abbrev S4x1x7680 : Shape := ⟨3, ![4, 1, 7680]⟩
abbrev S5x1024 : Shape := ⟨2, ![5, 1024]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1x1024x7680 : Shape := ⟨3, ![1, 1024, 7680]⟩
abbrev S1024x7680 : Shape := ⟨2, ![1024, 7680]⟩
abbrev S2x8192x7680 : Shape := ⟨3, ![2, 8192, 7680]⟩
abbrev S1x1x7680 : Shape := ⟨3, ![1, 1, 7680]⟩
abbrev S7680 : Shape := ⟨1, ![7680]⟩
abbrev S2x256x1024 : Shape := ⟨3, ![2, 256, 1024]⟩
abbrev S2x256 : Shape := ⟨2, ![2, 256]⟩
abbrev S2x256x1 : Shape := ⟨3, ![2, 256, 1]⟩
abbrev S2x256x7680 : Shape := ⟨3, ![2, 256, 7680]⟩
abbrev S2x8196x1024 : Shape := ⟨3, ![2, 8196, 1024]⟩
abbrev S2x260x1024 : Shape := ⟨3, ![2, 260, 1024]⟩
abbrev S2x8448x7680 : Shape := ⟨3, ![2, 8448, 7680]⟩
abbrev S2x8448x6656 : Shape := ⟨3, ![2, 8448, 6656]⟩
abbrev S2x8448x512 : Shape := ⟨3, ![2, 8448, 512]⟩

abbrev nBuf : Space → Nat
  | .hbm => 188
  | .vmem => 0
  | .smem => 0
  | _ => 0

abbrev hbmTy0_0 (i : Nat) : BufTy := match i % 128 with
  | 0 => ⟨S2x8448x1024, .f32⟩
  | 1 => ⟨S8x1x6144, .f32⟩
  | 2 => ⟨S1x1024, .f32⟩
  | 3 => ⟨S4x1024x7680, .bf16⟩
  | 4 => ⟨S4x1x7680, .f32⟩
  | 5 => ⟨S5x1024, .f32⟩
  | 6 => ⟨S1x1024, .f32⟩
  | 7 => ⟨S2x8192x1024, .f32⟩
  | 8 => ⟨S2x1x1024, .f32⟩
  | 9 => ⟨S2x1x1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1024, .f32⟩
  | 24 => ⟨S1x1x1024, .f32⟩
  | 25 => ⟨S2x8192x1024, .f32⟩
  | 26 => ⟨S2x8192x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S1x1024x7680, .bf16⟩
  | 35 => ⟨S1024x7680, .bf16⟩
  | 36 => ⟨S1024x7680, .f32⟩
  | 37 => ⟨S2x8192x7680, .f32⟩
  | 38 => ⟨S1x1x7680, .f32⟩
  | 39 => ⟨S7680, .f32⟩
  | 40 => ⟨S1x1x7680, .f32⟩
  | 41 => ⟨S2x8192x7680, .f32⟩
  | 42 => ⟨S2x8192x7680, .f32⟩
  | 43 => ⟨S2x256x1024, .f32⟩
  | 44 => ⟨S1x1x1024, .f32⟩
  | 45 => ⟨S1x1x1024, .f32⟩
  | 46 => ⟨S2x256x1024, .f32⟩
  | 47 => ⟨S_, .f32⟩
  | 48 => ⟨S2x256, .f32⟩
  | 49 => ⟨S2x256x1, .f32⟩
  | 50 => ⟨S_, .f32⟩
  | 51 => ⟨S2x256x1, .f32⟩
  | 52 => ⟨S2x256x1, .f32⟩
  | 53 => ⟨S_, .f32⟩
  | 54 => ⟨S2x256x1, .f32⟩
  | 55 => ⟨S2x256x1, .f32⟩
  | 56 => ⟨S2x256x1, .f32⟩
  | 57 => ⟨S2x256x1024, .f32⟩
  | 58 => ⟨S2x256x1024, .f32⟩
  | 59 => ⟨S1024, .f32⟩
  | 60 => ⟨S1x1x1024, .f32⟩
  | 61 => ⟨S2x256x1024, .f32⟩
  | 62 => ⟨S2x256x1024, .f32⟩
  | 63 => ⟨S_, .f32⟩
  | 64 => ⟨S1x1x1024, .f32⟩
  | 65 => ⟨S1x1x1024, .f32⟩
  | 66 => ⟨S2x256x1024, .f32⟩
  | 67 => ⟨S2x256x1024, .f32⟩
  | 68 => ⟨S2x256x1024, .f32⟩
  | 69 => ⟨S2x256x1024, .f32⟩
  | 70 => ⟨S1x1024x7680, .bf16⟩
  | 71 => ⟨S1024x7680, .bf16⟩
  | 72 => ⟨S1024x7680, .f32⟩
  | 73 => ⟨S2x256x7680, .f32⟩
  | 74 => ⟨S1x1x7680, .f32⟩
  | 75 => ⟨S7680, .f32⟩
  | 76 => ⟨S1x1x7680, .f32⟩
  | 77 => ⟨S2x256x7680, .f32⟩
  | 78 => ⟨S2x256x7680, .f32⟩
  | 79 => ⟨S2x8192x1024, .f32⟩
  | 80 => ⟨S_, .i32⟩
  | 81 => ⟨S_, .f32⟩
  | 82 => ⟨S2x8196x1024, .f32⟩
  | 83 => ⟨S2x8192x1024, .f32⟩
  | 84 => ⟨S1x1024, .f32⟩
  | 85 => ⟨S1024, .f32⟩
  | 86 => ⟨S1x1x1024, .f32⟩
  | 87 => ⟨S2x8192x1024, .f32⟩
  | 88 => ⟨S2x8192x1024, .f32⟩
  | 89 => ⟨S_, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S1x1x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S1x1024, .f32⟩
  | 101 => ⟨S1024, .f32⟩
  | 102 => ⟨S1x1x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S1x1024, .f32⟩
  | 108 => ⟨S1024, .f32⟩
  | 109 => ⟨S1x1x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S1x1024, .f32⟩
  | 115 => ⟨S1024, .f32⟩
  | 116 => ⟨S1x1x1024, .f32⟩
  | 117 => ⟨S2x8192x1024, .f32⟩
  | 118 => ⟨S2x8192x1024, .f32⟩
  | 119 => ⟨S2x8192x1024, .f32⟩
  | 120 => ⟨S1024, .f32⟩
  | 121 => ⟨S1x1x1024, .f32⟩
  | 122 => ⟨S2x8192x1024, .f32⟩
  | 123 => ⟨S2x8192x1024, .f32⟩
  | 124 => ⟨S2x256x1024, .f32⟩
  | 125 => ⟨S_, .i32⟩
  | 126 => ⟨S_, .f32⟩
  | 127 => ⟨S2x260x1024, .f32⟩
  | _ => ⟨S2x8448x1024, .f32⟩

abbrev hbmTy0_1 (i : Nat) : BufTy := match i % 128 with
  | 0 => ⟨S2x256x1024, .f32⟩
  | 1 => ⟨S1x1024, .f32⟩
  | 2 => ⟨S1024, .f32⟩
  | 3 => ⟨S1x1x1024, .f32⟩
  | 4 => ⟨S2x256x1024, .f32⟩
  | 5 => ⟨S2x256x1024, .f32⟩
  | 6 => ⟨S_, .f32⟩
  | 7 => ⟨S2x256x1024, .f32⟩
  | 8 => ⟨S2x256x1024, .f32⟩
  | 9 => ⟨S2x256x1024, .f32⟩
  | 10 => ⟨S1x1024, .f32⟩
  | 11 => ⟨S1024, .f32⟩
  | 12 => ⟨S1x1x1024, .f32⟩
  | 13 => ⟨S2x256x1024, .f32⟩
  | 14 => ⟨S2x256x1024, .f32⟩
  | 15 => ⟨S2x256x1024, .f32⟩
  | 16 => ⟨S2x256x1024, .f32⟩
  | 17 => ⟨S1x1024, .f32⟩
  | 18 => ⟨S1024, .f32⟩
  | 19 => ⟨S1x1x1024, .f32⟩
  | 20 => ⟨S2x256x1024, .f32⟩
  | 21 => ⟨S2x256x1024, .f32⟩
  | 22 => ⟨S2x256x1024, .f32⟩
  | 23 => ⟨S2x256x1024, .f32⟩
  | 24 => ⟨S1x1024, .f32⟩
  | 25 => ⟨S1024, .f32⟩
  | 26 => ⟨S1x1x1024, .f32⟩
  | 27 => ⟨S2x256x1024, .f32⟩
  | 28 => ⟨S2x256x1024, .f32⟩
  | 29 => ⟨S2x256x1024, .f32⟩
  | 30 => ⟨S2x256x1024, .f32⟩
  | 31 => ⟨S1x1024, .f32⟩
  | 32 => ⟨S1024, .f32⟩
  | 33 => ⟨S1x1x1024, .f32⟩
  | 34 => ⟨S2x256x1024, .f32⟩
  | 35 => ⟨S2x256x1024, .f32⟩
  | 36 => ⟨S2x256x1024, .f32⟩
  | 37 => ⟨S1024, .f32⟩
  | 38 => ⟨S1x1x1024, .f32⟩
  | 39 => ⟨S2x256x1024, .f32⟩
  | 40 => ⟨S2x256x1024, .f32⟩
  | 41 => ⟨S2x8448x1024, .f32⟩
  | 42 => ⟨S2x8448x1024, .f32⟩
  | 43 => ⟨S2x8448x1024, .f32⟩
  | 44 => ⟨S_, .f32⟩
  | 45 => ⟨S2x8448x1024, .f32⟩
  | 46 => ⟨S2x8448x1024, .f32⟩
  | 47 => ⟨S_, .f32⟩
  | 48 => ⟨S2x8448x1024, .f32⟩
  | 49 => ⟨S2x8448x1024, .f32⟩
  | 50 => ⟨S2x8448x1024, .f32⟩
  | 51 => ⟨S2x8448x7680, .f32⟩
  | 52 => ⟨S2x8448x6656, .f32⟩
  | 53 => ⟨S2x8448x512, .f32⟩
  | 54 => ⟨S2x8448x512, .bf16⟩
  | 55 => ⟨S2x8448x512, .f32⟩
  | 56 => ⟨S_, .f32⟩
  | 57 => ⟨S2x8448x512, .f32⟩
  | 58 => ⟨S2x8448x512, .f32⟩
  | 59 => ⟨S2x8448x512, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c : Ref sig .tc := ⟨.hbm, 80, rfl⟩
abbrev main_call0_v0 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_c_8 : Ref sig .tc := ⟨.hbm, 125, rfl⟩
abbrev main_call1_v0 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_9 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_call2_v0 : Ref sig .tc := ⟨.hbm, 170, rfl⟩
abbrev main_call2_v1 : Ref sig .tc := ⟨.hbm, 171, rfl⟩
abbrev main_call2_cst : Ref sig .tc := ⟨.hbm, 172, rfl⟩
abbrev main_call2_v2 : Ref sig .tc := ⟨.hbm, 173, rfl⟩
abbrev main_call2_v3 : Ref sig .tc := ⟨.hbm, 174, rfl⟩
abbrev main_call2_cst_0 : Ref sig .tc := ⟨.hbm, 175, rfl⟩
abbrev main_call2_v4 : Ref sig .tc := ⟨.hbm, 176, rfl⟩
abbrev main_call2_v5 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_cst_10 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩

abbrev nD : Nat := 1
abbrev τ : Topo := Topo.v7x

variable {F : FTy → Type} [FloatOps F]
-- ==== Proof.KernelIdeal.Runs.lean ====
/- What the runs of the attention's body are stated over: the launch memory, the flag table, the windows' blocks, the
   staging memrefs and the body's two branches. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, since @main is the region alone. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The flag table as the launch memory holds it (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so any contents of it are admissible. -/
abbrev adm : (pcfg0 (F := F)).Adm := ⟨tbl m, trivial⟩
abbrev cfgM : Pipeline.Cfg sig Λ₀ := cfg0 (adm m)

/-- The flag table as the body is handed it. -/
abbrev tbM : Memref sig .tc .smem S1 .i32 := Memref.whole main_arg0
abbrev htbM : tbM.IsWhole := Memref.isWhole_whole _
abbrev TbBuf (c : Dev nD) {S : Shape} {e : EltTy} (M : Memref sig .tc .smem S e) : Type := Buf (Elt F) (M.view.loc (c : Thread nD τ))
/-- A table held at half the share: the pipeline keeps the other half. -/
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The flag word the body reads. -/
abbrev flagW (c : Dev nD) (xt : TbBuf (F := F) c tbM) : BitVec 32 :=
  tbM.view.readAt (Elt F) (Rect.unit (s := S1) ![0] S1.size inb_S1_S1_0).toLoadRect xt (Shape.Idx.first (numel1_S1.symm ▸ Nat.one_pos))

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! The queries' array has 8448 columns and its blocks 2048, so its window is of the kind that may overhang; the grid reaches
    only the first four blocks of columns, none of which does. -/

def dflt0 : ((cfgM m).win 0).block.Idx → Elt F ((cfgM m).win 0).elt := fun _ => Classical.choice inferInstance
/-- The queries' staging buffer at `t`: the block filled whole. -/
def X0 (c : Dev nD) (t : Fin (cfgM m).N) : ((cfgM m).win 0).block.Idx → Elt F ((cfgM m).win 0).elt :=
  ((cfgM m).win 0).fill ((cfgM m).grid.coords t) (dflt0 m) (iblk m c 0 t)
theorem xsize0 : ∀ t : Fin (cfgM m).N, ∀ a, ((cfgM m).win 0).xsize ((cfgM m).grid.coords t) a = ((cfgM m).win 0).size a :=
  (by decide +kernel : ∀ t : Fin grid0.N, ∀ a, (Pipeline.Clip.of (cc0_transform_0 (grid0.coords t) a) (S1x256x2048.size a) (S2x1024x8448.size a)).extent (S1x256x2048.size a) = S1x256x2048.size a)
theorem moved0 (t : Fin (cfgM m).N) (j : ((cfgM m).win 0).block.Idx) : ((cfgM m).win 0).moved ((cfgM m).grid.coords t) j = true :=
  (((cfgM m).win 0).moved_iff _ j).mpr fun a => by rw [xsize0 m t a]; exact (j a).isLt
theorem fill0 (t : Fin (cfgM m).N) (d d' : ((cfgM m).win 0).block.Idx → Elt F ((cfgM m).win 0).elt) (g) :
    ((cfgM m).win 0).fill ((cfgM m).grid.coords t) d g = ((cfgM m).win 0).fill ((cfgM m).grid.coords t) d' g := by
  funext j; unfold Pipeline.Window.fill; rw [dif_pos (moved0 m t j), dif_pos (moved0 m t j)]
theorem before0_of {c : Dev nD} (dat : Dat τ (Elt F) Unit ℕ (UR sig nD τ) ℕ (cfgM m) c) (hA : dat.A 0 = V m c (Pipeline.arrRef spec0 0))
    (hafter : ∀ t, dat.after 0 t = X0 m c t) (t : Fin (cfgM m).N) (d) : dat.before 0 t d = X0 m c t :=
  (dat.before_in_eq_fetched 0 rfl (fun _ => rfl)
      (fun t t' h => funext fun a => congrArg (fun n => Pipeline.Clip.of n (((cfgM m).win 0).size a) (S2x1024x8448.size a)) (congrFun h a))
      (fun t => by rw [hafter]; unfold X0; rw [Pipeline.Window.cut_fill]; unfold Dat.blockOf iblk; rw [hA]; try rfl) t d).trans
    (by unfold Dat.fetched X0; rw [fill0 m t d (dflt0 m)]; unfold Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run to the library's frame post, read at the argument arrays. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨(h c).2 main_arg0 (by decide : main_arg0 ∈ Pipeline.restRefs sig spec0),
      ((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩) h

/-- The bounded branch is taken, -/
abbrev cond0 (w : BitVec 32) : Prop := (Scalar.cmpi .ne (Scalar.extui (Scalar.cmpi .eq w 1#32)) 0#32) = 1#1
/-- and the online one. -/
abbrev cond1 (w : BitVec 32) : Prop := (Scalar.cmpi .ne (Scalar.extui (Scalar.xori (Scalar.cmpi .eq w 1#32) 1#1)) 0#32) = 1#1
theorem cond0_of {w : BitVec 32} (h : w = 1#32) : cond0 w := by subst h; decide
theorem cond1_not_of {w : BitVec 32} (h : w = 1#32) : ¬cond1 w := by subst h; decide
theorem cmp_of {w : BitVec 32} (h : w ≠ 1#32) : Scalar.cmpi .eq w 1#32 = 0#1 := by
  have hb : (w == 1#32) = false := by simpa using h
  simp [Scalar.cmpi, IntOp.cmpi, hb]
theorem cond0_not_of {w : BitVec 32} (h : w ≠ 1#32) : ¬cond0 w := by rw [cond0, cmp_of h]; decide
theorem cond1_of {w : BitVec 32} (h : w ≠ 1#32) : cond1 w := by rw [cond1, cmp_of h]; decide

/-- A staging buffer of the result, through which its contents are stated. -/
abbrev VO : View sig .tc .vmem S1x2048x128 .f32 := (Memref.whole cc0_stg4_0 : Memref sig .tc .vmem S1x2048x128 .f32).view
abbrev ms0 (t : Fin (cfgM m).N) : Memref sig .tc .vmem S1x256x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x8448x256 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x33x128x256 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S8x128 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x2048x128 .f32 := spec0_4.stage ((cfgM m).slots t 4)
abbrev hs4 (t : Fin (cfgM m).N) : (ms4 m t).IsWhole := hstage0_4 (((cfgM m).slots t 4).cast nbuf0_4)
abbrev scA : Memref sig .tc .vmem S128x2048 .f32 := Memref.whole cc0_scratch0
abbrev scM : Memref sig .tc .vmem S8x2048 .f32 := Memref.whole cc0_scratch1
abbrev scL : Memref sig .tc .vmem S8x2048 .f32 := Memref.whole cc0_scratch2

/-- The kernel body at point `t`, on what the pipeline calls it with. -/
abbrev bodyAt (t : Fin (cfgM m).N) : Prog (TpuEff nD τ sig (Elt F) Λ₀ .tc) PUnit :=
  cc0_attn (grid0.coords t) tbM htbM (ms0 m t) (hs0 m t) (ms1 m t) (hs1 m t) (ms2 m t) (hs2 m t) (ms3 m t) (hs3 m t) (ms4 m t) (hs4 m t) scA (Memref.isWhole_whole _) scM (Memref.isWhole_whole _) scL (Memref.isWhole_whole _)

theorem PhiA_eq (c : Dev nD) :
    (Pipeline.ΦA spec0 c : sProp 𝕄)
      = iprop(iprop((∃ d, owns (c : Thread nD τ) scA fullShare d) ∗ (∃ d, owns (c : Thread nD τ) scM fullShare d) ∗ (∃ d, owns (c : Thread nD τ) scL fullShare d)) ∗ (∃ r, prngReg c r)) := by
  unfold Pipeline.ΦA; rw [scopedRest0_eq]; simp only [scA, scM, scL, owns_whole]; try rfl

end Cert.KernelIdeal.Attn

end
-- ==== Proof.KernelIdeal.RunB.lean ====
/- The body's run in the bounded branch. -/
module

public import proofs.«01_k».proof.Proof.KernelIdeal.Runs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's staging memref in the bounded branch, with its triple: on the inputs at their contents and
    everything else at anything, the body ends with the inputs as they were and those pieces written. -/
noncomputable def runB (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt = 1#32) :
    { L4 : List (View.Piece (Elt F) S1x2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt c tbM xt
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ d, owns (c : Thread nD τ) arg9 fullShare d) ∗ (∃ d, owns (c : Thread nD τ) arg10 fullShare d) ∗ (∃ d, owns (c : Thread nD τ) arg11 fullShare d) ∗ tbPt c tbM xt) -∗ K ⟨⟩))
          ⊢ wp frame (wpE (defs₀ (F := F)) Variants.none c none) E (cc0_attn i tbM htbM arg4 harg4 arg5 harg5 arg6 harg6 arg7 harg7 arg8 harg8 arg9 harg9 arg10 harg10 arg11 harg11) K } := by
  refine ⟨?_, fun E K => ?run⟩
  case run =>
    simp only [cc0_attn_eq_skeleton]; unfold cc0_attn_skel
    simp only [k0_part57_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3
    sl_exec (disch := first | sl_exact (cond0_of h) | sl_exact (cond1_not_of h))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.KernelIdeal.Attn

end
-- ==== Proof.KernelIdeal.RunO.lean ====
/- The body's run in the online branch. -/
module

public import proofs.«01_k».proof.Proof.KernelIdeal.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's staging memref in the online branch, with its triple: on the inputs at their contents and
    everything else at anything, the body ends with the inputs as they were and those pieces written. -/
noncomputable def runO (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt ≠ 1#32) :
    { L4 : List (View.Piece (Elt F) S1x2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt c tbM xt
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ d, owns (c : Thread nD τ) arg9 fullShare d) ∗ (∃ d, owns (c : Thread nD τ) arg10 fullShare d) ∗ (∃ d, owns (c : Thread nD τ) arg11 fullShare d) ∗ tbPt c tbM xt) -∗ K ⟨⟩))
          ⊢ wp frame (wpE (defs₀ (F := F)) Variants.none c none) E (cc0_attn i tbM htbM arg4 harg4 arg5 harg5 arg6 harg6 arg7 harg7 arg8 harg8 arg9 harg9 arg10 harg10 arg11 harg11) K } := by
  refine ⟨?_, fun E K => ?run⟩
  case run =>
    simp only [cc0_attn_eq_skeleton]; unfold cc0_attn_skel
    simp only [k0_part57_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, Hk⟩
    obtain rfl := harg4.eq_unread hf0; obtain rfl := harg5.eq_unread hf1; obtain rfl := harg6.eq_unread hf2; obtain rfl := harg7.eq_unread hf3
    sl_exec (disch := first | sl_exact (cond0_not_of h) | sl_exact (cond1_of h))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.KernelIdeal.Attn

end
-- ==== Proof.KernelIdeal.Frame.lean ====
/- The frame of the attention: what the result's buffer holds at every point, the body's obligation and the launch. -/
module

public import proofs.«01_k».proof.Proof.KernelIdeal.RunO
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverB (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt = 1#32) (y : S1x2048x128.Idx) :
    ∃ pc ∈ (runB c i arg4 harg4 arg5 harg5 arg6 harg6 arg7 harg7 arg8 harg8 arg9 harg9 arg10 harg10 arg11 harg11 x0 x1 x2 x3 xt h).1, y ∈ pc.1.set :=
  View.cover_of_tiledL (runB c i arg4 harg4 arg5 harg5 arg6 harg6 arg7 harg7 arg8 harg8 arg9 harg9 arg10 harg10 arg11 harg11 x0 x1 x2 x3 xt h).1 S1x2048x128.size (by sl_kernel_rfl) y
/-- What the result's staging buffer ends with. -/
def outB (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt = 1#32) : Vec F S1x2048x128 .f32 :=
  VO.read (Elt F) (VO.writes (Elt F) VO.junk (runB c i arg4 harg4 arg5 harg5 arg6 harg6 arg7 harg7 arg8 harg8 arg9 harg9 arg10 harg10 arg11 harg11 x0 x1 x2 x3 xt h).1)

theorem coverO (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt ≠ 1#32) (y : S1x2048x128.Idx) :
    ∃ pc ∈ (runO c i arg4 harg4 arg5 harg5 arg6 harg6 arg7 harg7 arg8 harg8 arg9 harg9 arg10 harg10 arg11 harg11 x0 x1 x2 x3 xt h).1, y ∈ pc.1.set :=
  View.cover_of_tiledL (runO c i arg4 harg4 arg5 harg5 arg6 harg6 arg7 harg7 arg8 harg8 arg9 harg9 arg10 harg10 arg11 harg11 x0 x1 x2 x3 xt h).1 S1x2048x128.size (by sl_kernel_rfl) y
/-- What the result's staging buffer ends with. -/
def outO (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec F S1x256x2048 .bf16) (x1 : Vec F S1x8448x256 .bf16) (x2 : Vec F S1x33x128x256 .bf16) (x3 : Vec F S8x128 .f32) (xt : TbBuf (F := F) c tbM) (h : flagW c xt ≠ 1#32) : Vec F S1x2048x128 .f32 :=
  VO.read (Elt F) (VO.writes (Elt F) VO.junk (runO c i arg4 harg4 arg5 harg5 arg6 harg6 arg7 harg7 arg8 harg8 arg9 harg9 arg10 harg10 arg11 harg11 x0 x1 x2 x3 xt h).1)

/-- What the result's staging buffer holds after the body at point `t`. -/
def outsAt (c : Dev nD) (t : Fin (cfgM m).N) : Vec F S1x2048x128 .f32 :=
  if h : flagW c (tbl m 0) = 1#32 then outB c (grid0.coords t) (ms0 m t) (hs0 m t) (ms1 m t) (hs1 m t) (ms2 m t) (hs2 m t) (ms3 m t) (hs3 m t) (ms4 m t) (hs4 m t) scA (Memref.isWhole_whole _) scM (Memref.isWhole_whole _) scL (Memref.isWhole_whole _) (X0 m c t) (iblk m c 1 t) (iblk m c 2 t) (iblk m c 3 t) (tbl m 0) h
  else outO c (grid0.coords t) (ms0 m t) (hs0 m t) (ms1 m t) (hs1 m t) (ms2 m t) (hs2 m t) (ms3 m t) (hs3 m t) (ms4 m t) (hs4 m t) scA (Memref.isWhole_whole _) scM (Memref.isWhole_whole _) scL (Memref.isWhole_whole _) (X0 m c t) (iblk m c 1 t) (iblk m c 2 t) (iblk m c 3 t) (tbl m 0) h
theorem outsAt_B (c : Dev nD) (t : Fin (cfgM m).N) (h : flagW c (tbl m 0) = 1#32) :
    outsAt m c t = outB c (grid0.coords t) (ms0 m t) (hs0 m t) (ms1 m t) (hs1 m t) (ms2 m t) (hs2 m t) (ms3 m t) (hs3 m t) (ms4 m t) (hs4 m t) scA (Memref.isWhole_whole _) scM (Memref.isWhole_whole _) scL (Memref.isWhole_whole _) (X0 m c t) (iblk m c 1 t) (iblk m c 2 t) (iblk m c 3 t) (tbl m 0) h := by unfold outsAt; exact dif_pos h
theorem outsAt_O (c : Dev nD) (t : Fin (cfgM m).N) (h : flagW c (tbl m 0) ≠ 1#32) :
    outsAt m c t = outO c (grid0.coords t) (ms0 m t) (hs0 m t) (ms1 m t) (hs1 m t) (ms2 m t) (hs2 m t) (ms3 m t) (hs3 m t) (ms4 m t) (hs4 m t) scA (Memref.isWhole_whole _) scM (Memref.isWhole_whole _) scL (Memref.isWhole_whole _) (X0 m c t) (iblk m c 1 t) (iblk m c 2 t) (iblk m c 3 t) (tbl m 0) h := by unfold outsAt; exact dif_neg h

/-- The proof data: the arrays as launched; after the body the inputs' buffers at their blocks and the result's at `outsAt`. -/
def dats (_ : Fin 1) (c : Dev nD) : Dat τ (Elt F) Unit ℕ (UR sig nD τ) ℕ (cfgM m) c where
  A w := V m c (Pipeline.arrRef spec0 w)
  after w t := match w with
    | ⟨0, _⟩ => X0 m c t
    | ⟨1, _⟩ => iblk m c 1 t
    | ⟨2, _⟩ => iblk m c 2 t
    | ⟨3, _⟩ => iblk m c 3 t
    | ⟨4, _⟩ => (outsAt m c t)
  Φ _ := iprop(Pipeline.ΦA spec0 c ∗ Pipeline.ΦT pre0 (tbl m) c)
  q _ := fullShare
  owed _ := 0
theorem A_eq (c : Dev nD) (w : Fin (cfgM m).W) : (dats m 0 c).A w = V m c (Pipeline.arrRef spec0 w) := by
  dsimp only [dats]
theorem after0 (c : Dev nD) (t : Fin (cfgM m).N) : (dats m 0 c).after 0 t = X0 m c t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outsAt m c t := by dsimp only [dats]; try rfl
theorem before0 (c : Dev nD) (t : Fin (cfgM m).N) (d) : (dats m 0 c).before 0 t d = X0 m c t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))
/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t))

set_option maxHeartbeats 3200000 in
/-- The body at any point, by the run of the branch the flag selects. -/
theorem sound_body (c : Dev nD) (t : Fin (cfgM m).N) :
    bodyPre m c t
      ⊢ wp frame (wpE (defs₀ (F := F)) Variants.none c none) Set.univ (bodyAt (F := F) m t) fun _ => bodyPost m c t := by
  unfold bodyPre bodyPost bodyAt
  have howe : (dats m 0 c).owesAt () t.succ = (dats m 0 c).owesAt () t.castSucc := rfl
  have hΦ : ∀ u, (dats m 0 c).Φ u = iprop(Pipeline.ΦA spec0 c ∗ Pipeline.ΦT pre0 (tbl m) c) := fun _ => rfl
  simp only [before0, before1, before2, before3]
  rw [howe, hΦ, hΦ, after0, after1, after2, after3, after4, PhiA_eq, PhiT_eq]
  by_cases h : flagW c (tbl m 0) = 1#32
  · rw [outsAt_B m c t h]
    unfold outB
    iintro ⟨⟨⟨⟨HS0, HS1, HS2⟩, Hg⟩, HT0⟩, Ho, ⟨%d0, H0⟩, ⟨%d1, H1⟩, ⟨%d2, H2⟩, ⟨%d3, H3⟩, ⟨%d4, H4⟩⟩
    iapply ((runB c (grid0.coords t) _ _ _ _ _ _ _ _ _ _ _ _ _ _ _ _ (X0 m c t) (iblk m c 1 t) (iblk m c 2 t) (iblk m c 3 t) (tbl m 0) h).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    iintro ⟨H0, H1, H2, H3, ⟨%e4, H4⟩, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _ _ _ _ _ _)
  · rw [outsAt_O m c t h]
    unfold outO
    iintro ⟨⟨⟨⟨HS0, HS1, HS2⟩, Hg⟩, HT0⟩, Ho, ⟨%d0, H0⟩, ⟨%d1, H1⟩, ⟨%d2, H2⟩, ⟨%d3, H3⟩, ⟨%d4, H4⟩⟩
    iapply ((runO c (grid0.coords t) _ _ _ _ _ _ _ _ _ _ _ _ _ _ _ _ (X0 m c t) (iblk m c 1 t) (iblk m c 2 t) (iblk m c 3 t) (tbl m 0) h).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    iintro ⟨H0, H1, H2, H3, ⟨%e4, H4⟩, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverO c _ _ _ _ _ _ _ _ _ _ _ _ _ _ _ _ _ _ _ _ _ _ _)

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

set_option backward.isDefEq.respectTransparency.types false in
/-- The launch: every array at what the proof data compute, and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

theorem run_main : θ_run defs (onTc (τ := τ) (main (F := F))) (s₀ m ρ) (Pipeline.FramePost (Pipeline.pin pcfgs fun _ => adm m) (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.KernelIdeal.Max.lean ====
/- The running maximum of the scores, read at an index. -/
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

theorem negInf : Ideal.ofBits .f32 0xFF800000#32 = ⊥ := by
  simp [Ideal.ofBits, Ideal.ieee]

/-- The running maximum of each query after a unit. -/
def mO (sc : FVec Ideal S2816x512 .f32) (m : Vec Ideal S1x512 .f32) : FVec Ideal S1x512 .f32 :=
  maximumf m (shapeCast S1x512 (multiReduction (F := Ideal) .maximumf [0] S512 sc 0xFF800000#32 reduces_S2816x512_S512 (.inl rfl) rfl) shapeCasts_S512_S1x512)
theorem mO_apply (sc : FVec Ideal S2816x512 .f32) (m : Vec Ideal S1x512 .f32) (x : Fin 512) :
    mO sc m (ix2 0 x) = max (m (ix2 0 x)) (Finset.univ.fold max ⊥ fun r : Fin 2816 => sc (ix2 r x)) := by
  pointwise [mO]
  rw [negInf]

end Cert.KernelIdeal.Attn

end
-- ==== Proof.KernelIdeal.Unit.lean ====
/- One unit of the attention's key block: the scores of 2816 keys against 512 queries, their weights, and the weighted
   values with the weights' sums beneath them, read at an index. -/
module

public import proofs.«01_k».proof.Proof.Gen.KernelIdeal.Skeleton
public import Idealize.ShloMosaic.Lib.Pointwise
public import Idealize.ShloMosaic.Lib.Pipeline.FrameBody
public import proofs.«01_k».proof.Proof.KernelIdeal.Max

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- The scores of a unit: keys by features against features by queries. -/
def scU (k : Vec Ideal S1x2816x128 .bf16) (q : Vec Ideal S1x128x512 .bf16) : FVec Ideal S2816x512 .f32 :=
  matmul dot_S2816x128_S128x512_S2816x512_1_0_0_1_n_n none (φ₁ := .bf16) (φ₂ := .bf16) (shapeCast S2816x128 k shapeCasts_S1x2816x128_S2816x128)
    (shapeCast S128x512 q shapeCasts_S1x128x512_S128x512) (constant S2816x512 .f32 0x00000000#32)
theorem scU_apply (k : Vec Ideal S1x2816x128 .bf16) (q : Vec Ideal S1x128x512 .bf16) (r : Fin 2816) (x : Fin 512) :
    scU k q (ix2 r x) = ∑ e : Fin 128, k (ix3 0 r e) * q (ix3 0 e x) := by
  pointwise [scU]

/-- The weights of a unit under one bound for every query. -/
def wB (v3 : Vec Ideal S1x1 .f32) (sc : FVec Ideal S2816x512 .f32) : FVec Ideal S2816x512 .bf16 :=
  truncf .bf16 (exp2 (subf sc (broadcastTo S2816x512 v3 broadcasts_S1x1_S2816x512))) bitsLt_bf16_f32
theorem wB_apply (v3 : Vec Ideal S1x1 .f32) (sc : FVec Ideal S2816x512 .f32) (r : Fin 2816) (x : Fin 512) :
    wB v3 sc (ix2 r x) = Ideal.exp2 (sc (ix2 r x) - v3 (ix2 0 0)) := by
  pointwise [wB]
  rfl

/-- The weights of a unit under each query's maximum. -/
def wO (sc : FVec Ideal S2816x512 .f32) (m : FVec Ideal S1x512 .f32) : FVec Ideal S2816x512 .bf16 :=
  truncf .bf16 (exp2 (subf sc (broadcastTo S2816x512 m broadcasts_S1x512_S2816x512))) bitsLt_bf16_f32
theorem wO_apply (sc : FVec Ideal S2816x512 .f32) (m : FVec Ideal S1x512 .f32) (r : Fin 2816) (x : Fin 512) :
    wO sc m (ix2 r x) = Ideal.exp2 (sc (ix2 r x) - m (ix2 0 x)) := by
  pointwise [wO]
  rfl

/-- A tile of values with rows of ones beneath, against its 256 keys' weights. -/
def dotU (v : Vec Ideal S1x1x64x256 .bf16) (p : FVec Ideal S256x512 .bf16) : FVec Ideal S80x512 .f32 :=
  matmul dot_S80x256_S256x512_S80x512_1_0_0_1_n_n none (φ₁ := .bf16) (φ₂ := .bf16)
    (concatenate S80x256 0 [⟨S64x256, shapeCast S64x256 v shapeCasts_S1x1x64x256_S64x256⟩, ⟨S16x256, broadcast S16x256 (Scalar.ofBits (F := Ideal) .bf16 0x3F80#16)⟩] concatenates_S64x256_S16x256_S80x256_d0)
    p (constant S80x512 .f32 0x00000000#32)
theorem dotU_lo (v : Vec Ideal S1x1x64x256 .bf16) (p : FVec Ideal S256x512 .bf16) (d : Fin 80) (hd : d.val < 64) (x : Fin 512) :
    dotU v p (ix2 d x) = ∑ s : Fin 256, v (ix4 0 0 ⟨d.val, hd⟩ s) * p (ix2 s x) := by
  pointwise [dotU]
  simp only [hd, ↓reduceDIte, ↓reduceIte]
theorem dotU_hi (v : Vec Ideal S1x1x64x256 .bf16) (p : FVec Ideal S256x512 .bf16) (x : Fin 512) :
    dotU v p (ix2 ⟨64, by decide⟩ x) = ∑ s : Fin 256, p (ix2 s x) := by
  pointwise [dotU]

/-- The weighted values of a unit's eleven tiles, the weights' sums beneath. -/
def pvU (p : FVec Ideal S2816x512 .bf16) (v0 v1 v2 v3 v4 v5 v6 v7 v8 v9 v10 : Vec Ideal S1x1x64x256 .bf16) : FVec Ideal S80x512 .f32 :=
  (addf (addf (addf (addf (addf (addf (addf (addf (addf (addf (dotU v0 (extractStridedSlice S256x512 ![0, 0] p slices_S2816x512_o0_0_S256x512)) (dotU v1 (extractStridedSlice S256x512 ![256, 0] p slices_S2816x512_o256_0_S256x512))) (dotU v2 (extractStridedSlice S256x512 ![512, 0] p slices_S2816x512_o512_0_S256x512))) (dotU v3 (extractStridedSlice S256x512 ![768, 0] p slices_S2816x512_o768_0_S256x512))) (dotU v4 (extractStridedSlice S256x512 ![1024, 0] p slices_S2816x512_o1024_0_S256x512))) (dotU v5 (extractStridedSlice S256x512 ![1280, 0] p slices_S2816x512_o1280_0_S256x512))) (dotU v6 (extractStridedSlice S256x512 ![1536, 0] p slices_S2816x512_o1536_0_S256x512))) (dotU v7 (extractStridedSlice S256x512 ![1792, 0] p slices_S2816x512_o1792_0_S256x512))) (dotU v8 (extractStridedSlice S256x512 ![2048, 0] p slices_S2816x512_o2048_0_S256x512))) (dotU v9 (extractStridedSlice S256x512 ![2304, 0] p slices_S2816x512_o2304_0_S256x512))) (dotU v10 (extractStridedSlice S256x512 ![2560, 0] p slices_S2816x512_o2560_0_S256x512)))
theorem addf_apply' (x y : FVec Ideal S80x512 .f32) (j : S80x512.Idx) : addf x y j = x j + y j := rfl
theorem slice_ap (p : FVec Ideal S2816x512 .bf16) (o : ℕ) (h) (s : Fin 256) (x : Fin 512) (ho : o + s.val < 2816) :
    extractStridedSlice S256x512 ![o, 0] p h (ix2 s x) = p (ix2 ⟨o + s.val, ho⟩ x) := by
  unfold extractStridedSlice
  congr 1
  funext a
  refine Fin.ext ?_
  match a with
  | 0 => rfl
  | 1 => exact Nat.zero_add _
theorem dotS_lo (p : FVec Ideal S2816x512 .bf16) (v : Vec Ideal S1x1x64x256 .bf16) (o : ℕ) (t : Fin 11) (ho : o = 256 * t.val) (h)
    (d : Fin 80) (hd : d.val < 64) (x : Fin 512) :
    dotU v (extractStridedSlice S256x512 ![o, 0] p h) (ix2 d x)
      = ∑ s : Fin 256, v (ix4 0 0 ⟨d.val, hd⟩ s) * p (ix2 ⟨256 * t.val + s.val, by omega⟩ x) := by
  subst ho
  rw [dotU_lo _ _ d hd]
  exact Finset.sum_congr rfl fun s _ => congrArg _ (slice_ap p _ _ s x (by omega))
theorem dotS_hi (p : FVec Ideal S2816x512 .bf16) (v : Vec Ideal S1x1x64x256 .bf16) (o : ℕ) (t : Fin 11) (ho : o = 256 * t.val) (h)
    (x : Fin 512) :
    dotU v (extractStridedSlice S256x512 ![o, 0] p h) (ix2 ⟨64, by decide⟩ x)
      = ∑ s : Fin 256, p (ix2 ⟨256 * t.val + s.val, by omega⟩ x) := by
  subst ho
  rw [dotU_hi]
  exact Finset.sum_congr rfl fun s _ => slice_ap p _ _ s x (by omega)
theorem sum11 (f : Fin 11 → EReal) : f 0 + f 1 + f 2 + f 3 + f 4 + f 5 + f 6 + f 7 + f 8 + f 9 + f 10 = ∑ t : Fin 11, f t := by
  simp only [Fin.sum_univ_succ, Fin.sum_univ_zero, add_zero, add_assoc]; rfl
theorem pvU_lo (p : FVec Ideal S2816x512 .bf16) (V : Fin 11 → Vec Ideal S1x1x64x256 .bf16) (d : Fin 80) (hd : d.val < 64) (x : Fin 512) :
    pvU p (V 0) (V 1) (V 2) (V 3) (V 4) (V 5) (V 6) (V 7) (V 8) (V 9) (V 10) (ix2 d x)
      = ∑ t : Fin 11, ∑ s : Fin 256, V t (ix4 0 0 ⟨d.val, hd⟩ s) * p (ix2 ⟨256 * t.val + s.val, by omega⟩ x) := by
  rw [← sum11]
  rw [pvU]
  simp only [addf_apply']
  rw [dotS_lo p (V 0) 0 0 rfl _ d hd x, dotS_lo p (V 1) 256 1 rfl _ d hd x, dotS_lo p (V 2) 512 2 rfl _ d hd x, dotS_lo p (V 3) 768 3 rfl _ d hd x, dotS_lo p (V 4) 1024 4 rfl _ d hd x, dotS_lo p (V 5) 1280 5 rfl _ d hd x, dotS_lo p (V 6) 1536 6 rfl _ d hd x, dotS_lo p (V 7) 1792 7 rfl _ d hd x, dotS_lo p (V 8) 2048 8 rfl _ d hd x, dotS_lo p (V 9) 2304 9 rfl _ d hd x, dotS_lo p (V 10) 2560 10 rfl _ d hd x]
theorem pvU_hi (p : FVec Ideal S2816x512 .bf16) (V : Fin 11 → Vec Ideal S1x1x64x256 .bf16) (x : Fin 512) :
    pvU p (V 0) (V 1) (V 2) (V 3) (V 4) (V 5) (V 6) (V 7) (V 8) (V 9) (V 10) (ix2 ⟨64, by decide⟩ x)
      = ∑ t : Fin 11, ∑ s : Fin 256, p (ix2 ⟨256 * t.val + s.val, by omega⟩ x) := by
  rw [← sum11]
  rw [pvU]
  simp only [addf_apply']
  rw [dotS_hi p (V 0) 0 0 rfl _ x, dotS_hi p (V 1) 256 1 rfl _ x, dotS_hi p (V 2) 512 2 rfl _ x, dotS_hi p (V 3) 768 3 rfl _ x, dotS_hi p (V 4) 1024 4 rfl _ x, dotS_hi p (V 5) 1280 5 rfl _ x, dotS_hi p (V 6) 1536 6 rfl _ x, dotS_hi p (V 7) 1792 7 rfl _ x, dotS_hi p (V 8) 2048 8 rfl _ x, dotS_hi p (V 9) 2304 9 rfl _ x, dotS_hi p (V 10) 2560 10 rfl _ x]

/-- The accumulated values of a unit, -/
def accB (pv : FVec Ideal S80x512 .f32) (a : Vec Ideal S64x512 .f32) : FVec Ideal S64x512 .f32 :=
  addf a (extractStridedSlice S64x512 ![0, 0] pv slices_S80x512_o0_0_S64x512)
theorem accB_apply (pv : FVec Ideal S80x512 .f32) (a : Vec Ideal S64x512 .f32) (d : Fin 64) (x : Fin 512) :
    accB pv a (ix2 d x) = a (ix2 d x) + pv (ix2 ⟨d.val, by omega⟩ x) := by
  pointwise [accB]
/-- and its accumulated weights. -/
def lB (pv : FVec Ideal S80x512 .f32) (l : Vec Ideal S1x512 .f32) : FVec Ideal S1x512 .f32 :=
  addf l (extractStridedSlice S1x512 ![64, 0] pv slices_S80x512_o64_0_S1x512)
theorem lB_apply (pv : FVec Ideal S80x512 .f32) (l : Vec Ideal S1x512 .f32) (x : Fin 512) :
    lB pv l (ix2 0 x) = l (ix2 0 x) + pv (ix2 ⟨64, by decide⟩ x) := by
  pointwise [lB]

/-- The factor that takes what was accumulated under the old maximum to the new one. -/
def alO (m m' : FVec Ideal S1x512 .f32) : FVec Ideal S1x512 .f32 := exp2 (subf m m')
theorem alO_apply (m m' : FVec Ideal S1x512 .f32) (x : Fin 512) : alO m m' (ix2 0 x) = Ideal.exp2 (m (ix2 0 x) - m' (ix2 0 x)) := by
  pointwise [alO]
  rfl
/-- The same two of the online branch, the old ones rescaled. -/
def accO (al : FVec Ideal S1x512 .f32) (pv : FVec Ideal S80x512 .f32) (a : Vec Ideal S64x512 .f32) : FVec Ideal S64x512 .f32 :=
  addf (mulf (broadcastTo S64x512 al broadcasts_S1x512_S64x512) a) (extractStridedSlice S64x512 ![0, 0] pv slices_S80x512_o0_0_S64x512)
theorem accO_apply (al : FVec Ideal S1x512 .f32) (pv : FVec Ideal S80x512 .f32) (a : Vec Ideal S64x512 .f32) (d : Fin 64) (x : Fin 512) :
    accO al pv a (ix2 d x) = al (ix2 0 x) * a (ix2 d x) + pv (ix2 ⟨d.val, by omega⟩ x) := by
  pointwise [accO]
def lO (al : FVec Ideal S1x512 .f32) (pv : FVec Ideal S80x512 .f32) (l : Vec Ideal S1x512 .f32) : FVec Ideal S1x512 .f32 :=
  addf (mulf al l) (extractStridedSlice S1x512 ![64, 0] pv slices_S80x512_o64_0_S1x512)
theorem lO_apply (al : FVec Ideal S1x512 .f32) (pv : FVec Ideal S80x512 .f32) (l : Vec Ideal S1x512 .f32) (x : Fin 512) :
    lO al pv l (ix2 0 x) = al (ix2 0 x) * l (ix2 0 x) + pv (ix2 ⟨64, by decide⟩ x) := by
  pointwise [lO]

end Cert.KernelIdeal.Attn

end
-- ==== Proof.KernelIdeal.Spec.lean ====
/- What one trip of either key loop adds, read at an index of the scratch arrays. -/
module

public import proofs.«01_k».proof.Proof.KernelIdeal.Unit
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- A tile index of a trip's key block, -/
abbrev tileIx (k : Fin 3) (t : Fin 11) : Fin 33 := ⟨11 * k.val + t.val, by omega⟩
/-- a key of it by its row in the block, -/
abbrev keyIx (k : Fin 3) (r : Fin 2816) : Fin 8448 := ⟨2816 * k.val + r.val, by omega⟩
/-- a key's row by its tile and place there, -/
abbrev rowIx (t : Fin 11) (s : Fin 256) : Fin 2816 := ⟨256 * t.val + s.val, by omega⟩
/-- and the head of a row of the accumulator. -/
abbrev headIx (D : Fin 128) : Fin 2 := ⟨D.val / 64, by omega⟩

/-- The score of a key against a query under a head of the pair. -/
def score (Q : Vec Ideal S1x256x2048 .bf16) (K : Vec Ideal S1x8448x256 .bf16) (j : Fin 2) (r : Fin 8448) (x : Fin 2048) : EReal :=
  ∑ e : Fin 128, K (ix3 0 r ⟨128 * j.val + e.val, by omega⟩) * Q (ix3 0 ⟨128 * j.val + e.val, by omega⟩ x)

/-- What a trip adds to the accumulator under weights `w`, -/
def addA (V : Vec Ideal S1x33x128x256 .bf16) (w : Fin 2 → Fin 8448 → Fin 2048 → EReal) (k : Fin 3) (D : Fin 128) (x : Fin 2048) : EReal :=
  ∑ t : Fin 11, ∑ s : Fin 256, V (ix4 0 (tileIx k t) D s) * w (headIx D) (keyIx k (rowIx t s)) x
/-- and to the weights' sums. -/
def addL (w : Fin 2 → Fin 8448 → Fin 2048 → EReal) (k : Fin 3) (j : Fin 2) (x : Fin 2048) : EReal :=
  ∑ t : Fin 11, ∑ s : Fin 256, w j (keyIx k (rowIx t s)) x

/-- The largest of a running maximum and a trip's scores. -/
def maxM (S : Fin 2 → Fin 8448 → Fin 2048 → EReal) (k : Fin 3) (M : Fin 2 → Fin 2048 → EReal) (j : Fin 2) (x : Fin 2048) : EReal :=
  max (M j x) (Finset.univ.fold max ⊥ fun r : Fin 2816 => S j (keyIx k r) x)

/-- The rows of a head's sums or maxima, -/
def rows (f : Vec Ideal S8x2048 .f32) (j : Fin 2) (x : Fin 2048) : EReal := f (ix2 ⟨j.val, by omega⟩ x)
/-- the factor a trip rescales by, -/
def alF (S : Fin 2 → Fin 8448 → Fin 2048 → EReal) (k : Fin 3) (M : Fin 2 → Fin 2048 → EReal) (j : Fin 2) (x : Fin 2048) : EReal :=
  Ideal.exp2 (M j x - maxM S k M j x)
/-- its weights, -/
def wF (S : Fin 2 → Fin 8448 → Fin 2048 → EReal) (M : Fin 2 → Fin 2048 → EReal) (j : Fin 2) (r : Fin 8448) (x : Fin 2048) : EReal :=
  Ideal.exp2 (S j r x - M j x)
/-- and the arrays it leaves. -/
def gA (V : Vec Ideal S1x33x128x256 .bf16) (w : Fin 2 → Fin 8448 → Fin 2048 → EReal) (al : Fin 2 → Fin 2048 → EReal) (k : Fin 3) (A : Vec Ideal S128x2048 .f32) : Vec Ideal S128x2048 .f32 :=
  fun y => al (headIx (y 0)) (y 1) * A y + addA V w k (y 0) (y 1)
def gL (w : Fin 2 → Fin 8448 → Fin 2048 → EReal) (al : Fin 2 → Fin 2048 → EReal) (k : Fin 3) (L : Vec Ideal S8x2048 .f32) : Vec Ideal S8x2048 .f32 :=
  fun y => al ⟨(y 0).val % 2, Nat.mod_lt _ (by decide)⟩ (y 1) * L y + addL w k ⟨(y 0).val % 2, Nat.mod_lt _ (by decide)⟩ (y 1)
def gM (M : Fin 2 → Fin 2048 → EReal) : Vec Ideal S8x2048 .f32 := fun y => M ⟨(y 0).val % 2, Nat.mod_lt _ (by decide)⟩ (y 1)
theorem gA_apply (V : Vec Ideal S1x33x128x256 .bf16) (w : Fin 2 → Fin 8448 → Fin 2048 → EReal) (al : Fin 2 → Fin 2048 → EReal) (k : Fin 3) (A : Vec Ideal S128x2048 .f32)
    (j : Fin 2) (d : Fin 64) (x : Fin 2048) :
    gA V w al k A (ix2 ⟨64 * j.val + d.val, by omega⟩ x) = al j x * A (ix2 ⟨64 * j.val + d.val, by omega⟩ x) + addA V w k ⟨64 * j.val + d.val, by omega⟩ x := by
  have hj : headIx ⟨64 * j.val + d.val, by omega⟩ = j := Fin.ext (by show (64 * j.val + d.val) / 64 = j.val; omega)
  unfold gA
  simp only [ix2_0, ix2_1]
  exact congrArg (fun j' => al j' x * _ + _) hj
theorem gL_apply (w : Fin 2 → Fin 8448 → Fin 2048 → EReal) (al : Fin 2 → Fin 2048 → EReal) (k : Fin 3) (L : Vec Ideal S8x2048 .f32) (j : Fin 2) (x : Fin 2048) :
    gL w al k L (ix2 ⟨j.val, by omega⟩ x) = al j x * rows L j x + addL w k j x :=
  congrArg (fun j' : Fin 2 => al j' x * rows L j x + addL w k j' x) (Fin.ext (Nat.mod_eq_of_lt j.isLt))
theorem gM_apply (M : Fin 2 → Fin 2048 → EReal) (j : Fin 2) (x : Fin 2048) : gM M (ix2 ⟨j.val, by omega⟩ x) = M j x :=
  congrArg (fun j' : Fin 2 => M j' x) (Fin.ext (Nat.mod_eq_of_lt j.isLt))

theorem ldK (K : Vec Ideal S1x8448x256 .bf16) (off : Fin 3 → ℕ) (inb) (k : Fin 3) (j : Fin 2) (h : off = ![0, 2816 * k.val, 128 * j.val]) (r : Fin 2816) (e : Fin 128) :
    View.ld K (Rect.unit (s := S1x8448x256) off S1x2816x128.size inb) (ix3 0 r e) = K (ix3 0 (keyIx k r) ⟨128 * j.val + e.val, by omega⟩) := by
  refine View.ld_unit_apply_of _ _ _ _ _ _ fun a => ?_
  subst h
  match a with
  | 0 => rfl
  | 1 => rfl
  | 2 => rfl
theorem ldQ (Q : Vec Ideal S1x256x2048 .bf16) (off : Fin 3 → ℕ) (inb) (j : Fin 2) (c : Fin 4) (h : off = ![0, 128 * j.val, 512 * c.val]) (e : Fin 128) (x : Fin 512) :
    View.ld Q (Rect.unit (s := S1x256x2048) off S1x128x512.size inb) (ix3 0 e x) = Q (ix3 0 ⟨128 * j.val + e.val, by omega⟩ ⟨512 * c.val + x.val, by omega⟩) := by
  refine View.ld_unit_apply_of _ _ _ _ _ _ fun a => ?_
  subst h
  match a with
  | 0 => rfl
  | 1 => rfl
  | 2 => rfl
theorem ldV (V : Vec Ideal S1x33x128x256 .bf16) (off : Fin 4 → ℕ) (inb) (k : Fin 3) (t : Fin 11) (j : Fin 2) (h : off = ![0, 11 * k.val + t.val, 64 * j.val, 0]) (d : Fin 64) (s : Fin 256) :
    View.ld V (Rect.unit (s := S1x33x128x256) off S1x1x64x256.size inb) (ix4 0 0 d s) = V (ix4 0 (tileIx k t) ⟨64 * j.val + d.val, by omega⟩ s) := by
  refine View.ld_unit_apply_of _ _ _ _ _ _ fun a => ?_
  subst h
  match a with
  | 0 => rfl
  | 1 => rfl
  | 2 => rfl
  | 3 => exact (Nat.zero_add _).symm
theorem ldA (A : Vec Ideal S128x2048 .f32) (off : Fin 2 → ℕ) (inb) (j : Fin 2) (c : Fin 4) (h : off = ![64 * j.val, 512 * c.val]) (d : Fin 64) (x : Fin 512) :
    View.ld A (Rect.unit (s := S128x2048) off S64x512.size inb) (ix2 d x) = A (ix2 ⟨64 * j.val + d.val, by omega⟩ ⟨512 * c.val + x.val, by omega⟩) := by
  refine View.ld_unit_apply_of _ _ _ _ _ _ fun a => ?_
  subst h
  match a with
  | 0 => rfl
  | 1 => rfl
theorem ldL (L : Vec Ideal S8x2048 .f32) (off : Fin 2 → ℕ) (inb) (j : Fin 2) (c : Fin 4) (h : off = ![j.val, 512 * c.val]) (x : Fin 512) :
    View.ld L (Rect.unit (s := S8x2048) off S1x512.size inb) (ix2 0 x) = L (ix2 ⟨j.val, by omega⟩ ⟨512 * c.val + x.val, by omega⟩) := by
  refine View.ld_unit_apply_of _ _ _ _ _ _ fun a => ?_
  subst h
  match a with
  | 0 => rfl
  | 1 => rfl

/-- A piece of the accumulator agrees with a whole array where its elements do. -/
theorem pieceA (G : Vec Ideal S128x2048 .f32) (off : Fin 2 → ℕ) (inb) (j : Fin 2) (c : Fin 4) (h : off = ![64 * j.val, 512 * c.val]) (P : Vec Ideal S64x512 .f32)
    (hP : ∀ (d : Fin 64) (x : Fin 512), P (ix2 d x) = G (ix2 ⟨64 * j.val + d.val, by omega⟩ ⟨512 * c.val + x.val, by omega⟩))
    (x : (Rect.unit (s := S128x2048) off S64x512.size inb).shape.Idx) : P x = G ((Rect.unit (s := S128x2048) off S64x512.size inb).emb x) := by
  obtain ⟨d, y, rfl⟩ : ∃ (d : Fin 64) (y : Fin 512), x = ix2 d y := ⟨x 0, x 1, eq_ix2 x⟩
  exact (hP d y).trans (ldA G off inb j c h d y).symm
theorem pieceL (G : Vec Ideal S8x2048 .f32) (off : Fin 2 → ℕ) (inb) (j : Fin 2) (c : Fin 4) (h : off = ![j.val, 512 * c.val]) (P : Vec Ideal S1x512 .f32)
    (hP : ∀ (x : Fin 512), P (ix2 0 x) = G (ix2 ⟨j.val, by omega⟩ ⟨512 * c.val + x.val, by omega⟩))
    (x : (Rect.unit (s := S8x2048) off S1x512.size inb).shape.Idx) : P x = G ((Rect.unit (s := S8x2048) off S1x512.size inb).emb x) := by
  obtain ⟨d, y, rfl⟩ : ∃ (d : Fin 1) (y : Fin 512), x = ix2 d y := ⟨x 0, x 1, eq_ix2 x⟩
  obtain rfl : d = 0 := Subsingleton.elim _ _
  exact (hP y).trans (ldL G off inb j c h y).symm

/-- A place of the accumulator lies in the piece of its head and query chunk. -/
theorem memA (off : Fin 2 → ℕ) (inb) (j : Fin 2) (c : Fin 4) (h : off = ![64 * j.val, 512 * c.val]) (d : Fin 64) (x : Fin 512) :
    (ix2 ⟨64 * j.val + d.val, by omega⟩ ⟨512 * c.val + x.val, by omega⟩ : S128x2048.Idx) ∈ (Rect.unit (s := S128x2048) off S64x512.size inb).set := by
  subst h
  refine Rect.mem_set_unit.mpr fun a => ?_
  match a with
  | 0 => exact ⟨Nat.le_add_right _ _, Nat.add_lt_add_left d.isLt _⟩
  | 1 => exact ⟨Nat.le_add_right _ _, Nat.add_lt_add_left x.isLt _⟩
theorem memL (off : Fin 2 → ℕ) (inb) (j : Fin 2) (c : Fin 4) (h : off = ![j.val, 512 * c.val]) (x : Fin 512) :
    (ix2 ⟨j.val, by omega⟩ ⟨512 * c.val + x.val, by omega⟩ : S8x2048.Idx) ∈ (Rect.unit (s := S8x2048) off S1x512.size inb).set := by
  subst h
  refine Rect.mem_set_unit.mpr fun a => ?_
  match a with
  | 0 => exact ⟨Nat.le_refl _, Nat.lt_succ_self _⟩
  | 1 => exact ⟨Nat.le_add_right _ _, Nat.add_lt_add_left x.isLt _⟩

section unit
variable (Q : Vec Ideal S1x256x2048 .bf16) (K : Vec Ideal S1x8448x256 .bf16) (V : Vec Ideal S1x33x128x256 .bf16) (k : Fin 3) (j : Fin 2) (c : Fin 4)
  (offK : Fin 3 → ℕ) (inbK) (hK : offK = ![0, 2816 * k.val, 128 * j.val])
  (offQ : Fin 3 → ℕ) (inbQ) (hQ : offQ = ![0, 128 * j.val, 512 * c.val])
  (vv : Fin 11 → Vec Ideal S1x1x64x256 .bf16) (hV : ∀ t d s, vv t (ix4 0 0 d s) = V (ix4 0 (tileIx k t) ⟨64 * j.val + d.val, by omega⟩ s))
include hK hQ
theorem sc_unit (r : Fin 2816) (x : Fin 512) :
    scU (View.ld K (Rect.unit (s := S1x8448x256) offK S1x2816x128.size inbK)) (View.ld Q (Rect.unit (s := S1x256x2048) offQ S1x128x512.size inbQ)) (ix2 r x)
      = score Q K j (keyIx k r) ⟨512 * c.val + x.val, by omega⟩ := by
  rw [scU_apply]
  exact Finset.sum_congr rfl fun e _ => by rw [ldK K offK inbK k j hK, ldQ Q offQ inbQ j c hQ]
omit hK hQ
include hV
/-- The weighted values of a unit, -/
theorem pv_unit_lo (p : FVec Ideal S2816x512 .bf16) (w : Fin 2 → Fin 8448 → Fin 2048 → EReal)
    (hp : ∀ r x, p (ix2 r x) = w j (keyIx k r) ⟨512 * c.val + x.val, by omega⟩) (d : Fin 64) (x : Fin 512) :
    pvU p (vv 0) (vv 1) (vv 2) (vv 3) (vv 4) (vv 5) (vv 6) (vv 7) (vv 8) (vv 9) (vv 10) (ix2 ⟨d.val, by omega⟩ x)
      = addA V w k ⟨64 * j.val + d.val, by omega⟩ ⟨512 * c.val + x.val, by omega⟩ := by
  rw [pvU_lo p vv ⟨d.val, by omega⟩ d.isLt x]
  have hj : headIx ⟨64 * j.val + d.val, by omega⟩ = j := Fin.ext (by show (64 * j.val + d.val) / 64 = j.val; omega)
  unfold addA
  rw [hj]
  exact Finset.sum_congr rfl fun t _ => Finset.sum_congr rfl fun s _ => by rw [hV, hp]
omit hV
/-- and the sums of its weights. -/
theorem pv_unit_hi (p : FVec Ideal S2816x512 .bf16) (w : Fin 2 → Fin 8448 → Fin 2048 → EReal)
    (hp : ∀ r x, p (ix2 r x) = w j (keyIx k r) ⟨512 * c.val + x.val, by omega⟩) (x : Fin 512) :
    pvU p (vv 0) (vv 1) (vv 2) (vv 3) (vv 4) (vv 5) (vv 6) (vv 7) (vv 8) (vv 9) (vv 10) (ix2 ⟨64, by decide⟩ x)
      = addL w k j ⟨512 * c.val + x.val, by omega⟩ := by
  rw [pvU_hi p vv x]
  unfold addL
  exact Finset.sum_congr rfl fun t _ => Finset.sum_congr rfl fun s _ => hp _ _
end unit

end Cert.KernelIdeal.Attn

end
-- ==== Proof.KernelIdeal.TripB.lean ====
/- One trip of the bounded branch's key loop. -/
module

public import proofs.«01_k».proof.Proof.KernelIdeal.Unit
public import proofs.«01_k».proof.Proof.Gen.KernelIdeal.Loops
public import Idealize.ShloMosaic.Lib.Pointwise
public import Idealize.ShloMosaic.Lib.Pipeline.Value
public import Idealize.ShloMosaic.Lib.Pipeline.ValueKit.Tiles
public import proofs.«01_k».proof.Proof.KernelIdeal.Spec

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

theorem t1_3 : k0_t1_loop.trips = 3 := by decide +kernel
/-- A trip of the loop, of its three. -/
abbrev t1k (k : Fin k0_t1_loop.trips) : Fin 3 := Fin.cast t1_3 k
theorem k0_off1_eq : ∀ k : Fin k0_t1_loop.trips, k0_off1 k = ![0, 2816 * k.val, 0] := by decide +kernel
theorem k0_off2_eq : ∀ (k : Fin k0_t1_loop.trips) (t : Fin 11), k0_off2 k (BitVec.ofNat 32 t.val) = ![0, 11 * k.val + t.val, 0, 0] := by decide +kernel
theorem k0_off3_eq : ∀ k : Fin k0_t1_loop.trips, k0_off3 k = ![0, 2816 * k.val, 128] := by decide +kernel
theorem k0_off4_eq : ∀ (k : Fin k0_t1_loop.trips) (t : Fin 11), k0_off4 k (BitVec.ofNat 32 t.val) = ![0, 11 * k.val + t.val, 64, 0] := by decide +kernel

section trip
variable (𝒱 : Variants) (c : Dev nD) (bd : Option 𝒱.V) (i : grid0.Coords) (arg3 : Memref sig .tc .smem S1 .i32) (harg3 : arg3.IsWhole) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole) (v3 : Vec Ideal S1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (f9 : BufTy.Contents (Elt Ideal) arg9.view.ty) (f11 : BufTy.Contents (Elt Ideal) arg11.view.ty)

theorem t1_acc : (trip_k0_t1 (F := Ideal) 𝒱 c bd i arg3 harg3 arg4 harg4 arg5 harg5 arg6 harg6 arg7 harg7 arg8 harg8 arg9 harg9 arg10 harg10 arg11 harg11 v3 X_arg4 X_arg5 X_arg6 k).1 f9 f11 =
  [⟨Rect.unit ![64, 1536] S64x512.size inb_S128x2048_S64x512_64_1536, accB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 1536] S1x128x512.size inb_S1x256x2048_S1x128x512_0_128_1536)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg9.view.read (Elt Ideal) f9) (Rect.unit (s := S128x2048) ![64, 1536] S64x512.size inb_S128x2048_S64x512_64_1536))⟩,
  ⟨Rect.unit ![64, 1024] S64x512.size inb_S128x2048_S64x512_64_1024, accB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 1024] S1x128x512.size inb_S1x256x2048_S1x128x512_0_128_1024)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg9.view.read (Elt Ideal) f9) (Rect.unit (s := S128x2048) ![64, 1024] S64x512.size inb_S128x2048_S64x512_64_1024))⟩,
  ⟨Rect.unit ![64, 512] S64x512.size inb_S128x2048_S64x512_64_512, accB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 512] S1x128x512.size inb_S1x256x2048_S1x128x512_0_128_512)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg9.view.read (Elt Ideal) f9) (Rect.unit (s := S128x2048) ![64, 512] S64x512.size inb_S128x2048_S64x512_64_512))⟩,
  ⟨Rect.unit ![64, 0] S64x512.size inb_S128x2048_S64x512_64_0, accB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 0] S1x128x512.size inb_S1x256x2048_S1x128x512_0_128_0)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg9.view.read (Elt Ideal) f9) (Rect.unit (s := S128x2048) ![64, 0] S64x512.size inb_S128x2048_S64x512_64_0))⟩,
  ⟨Rect.unit ![0, 1536] S64x512.size inb_S128x2048_S64x512_0_1536, accB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 1536] S1x128x512.size inb_S1x256x2048_S1x128x512_0_0_1536)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg9.view.read (Elt Ideal) f9) (Rect.unit (s := S128x2048) ![0, 1536] S64x512.size inb_S128x2048_S64x512_0_1536))⟩,
  ⟨Rect.unit ![0, 1024] S64x512.size inb_S128x2048_S64x512_0_1024, accB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 1024] S1x128x512.size inb_S1x256x2048_S1x128x512_0_0_1024)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg9.view.read (Elt Ideal) f9) (Rect.unit (s := S128x2048) ![0, 1024] S64x512.size inb_S128x2048_S64x512_0_1024))⟩,
  ⟨Rect.unit ![0, 512] S64x512.size inb_S128x2048_S64x512_0_512, accB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 512] S1x128x512.size inb_S1x256x2048_S1x128x512_0_0_512)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg9.view.read (Elt Ideal) f9) (Rect.unit (s := S128x2048) ![0, 512] S64x512.size inb_S128x2048_S64x512_0_512))⟩,
  ⟨Rect.unit ![0, 0] S64x512.size inb_S128x2048_S64x512_0_0, accB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 0] S1x128x512.size inb_S1x256x2048_S1x128x512_0_0_0)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg9.view.read (Elt Ideal) f9) (Rect.unit (s := S128x2048) ![0, 0] S64x512.size inb_S128x2048_S64x512_0_0))⟩] := by
  unfold trip_k0_t1
  dsimp only
  sl_unfold_run_names
  unfold_payloads
  simp only [View.readAt_eq_ld, shapeCast_self]
  rfl

theorem t1_l : (trip_k0_t1 (F := Ideal) 𝒱 c bd i arg3 harg3 arg4 harg4 arg5 harg5 arg6 harg6 arg7 harg7 arg8 harg8 arg9 harg9 arg10 harg10 arg11 harg11 v3 X_arg4 X_arg5 X_arg6 k).2.1 f9 f11 =
  [⟨Rect.unit ![1, 1536] S1x512.size inb_S8x2048_S1x512_1_1536, lB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 1536] S1x128x512.size inb_S1x256x2048_S1x128x512_0_128_1536)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg11.view.read (Elt Ideal) f11) (Rect.unit (s := S8x2048) ![1, 1536] S1x512.size inb_S8x2048_S1x512_1_1536))⟩,
  ⟨Rect.unit ![1, 1024] S1x512.size inb_S8x2048_S1x512_1_1024, lB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 1024] S1x128x512.size inb_S1x256x2048_S1x128x512_0_128_1024)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg11.view.read (Elt Ideal) f11) (Rect.unit (s := S8x2048) ![1, 1024] S1x512.size inb_S8x2048_S1x512_1_1024))⟩,
  ⟨Rect.unit ![1, 512] S1x512.size inb_S8x2048_S1x512_1_512, lB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 512] S1x128x512.size inb_S1x256x2048_S1x128x512_0_128_512)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg11.view.read (Elt Ideal) f11) (Rect.unit (s := S8x2048) ![1, 512] S1x512.size inb_S8x2048_S1x512_1_512))⟩,
  ⟨Rect.unit ![1, 0] S1x512.size inb_S8x2048_S1x512_1_0, lB (pvU (wB v3 (scU (View.ld (arg5.view.read (Elt Ideal) X_arg5) (Rect.unit (s := S1x8448x256) (k0_off3 k) S1x2816x128.size (k0_off3_inb k))) (View.ld (arg4.view.read (Elt Ideal) X_arg4) (Rect.unit (s := S1x256x2048) ![0, 128, 0] S1x128x512.size inb_S1x256x2048_S1x128x512_0_128_0)))) (View.ld (arg6.view.read (Elt Ideal) X_arg6) (Rect.unit (s := S1x33x128x256) (k0_off4 k 0#32) S1x1x64x256.size (k0_off4_inb k 0))) (View.ld (arg6.view.read (Elt Ideal) X_arg6) (Rect.unit (s := S1x33x128x256) (k0_off4 k 1#32) S1x1x64x256.size (k0_off4_inb k 1))) (View.ld (arg6.view.read (Elt Ideal) X_arg6) (Rect.unit (s := S1x33x128x256) (k0_off4 k 2#32) S1x1x64x256.size (k0_off4_inb k 2))) (View.ld (arg6.view.read (Elt Ideal) X_arg6) (Rect.unit (s := S1x33x128x256) (k0_off4 k 3#32) S1x1x64x256.size (k0_off4_inb k 3))) (View.ld (arg6.view.read (Elt Ideal) X_arg6) (Rect.unit (s := S1x33x128x256) (k0_off4 k 4#32) S1x1x64x256.size (k0_off4_inb k 4))) (View.ld (arg6.view.read (Elt Ideal) X_arg6) (Rect.unit (s := S1x33x128x256) (k0_off4 k 5#32) S1x1x64x256.size (k0_off4_inb k 5))) (View.ld (arg6.view.read (Elt Ideal) X_arg6) (Rect.unit (s := S1x33x128x256) (k0_off4 k 6#32) S1x1x64x256.size (k0_off4_inb k 6))) (View.ld (arg6.view.read (Elt Ideal) X_arg6) (Rect.unit (s := S1x33x128x256) (k0_off4 k 7#32) S1x1x64x256.size (k0_off4_inb k 7))) (View.ld (arg6.view.read (Elt Ideal) X_arg6) (Rect.unit (s := S1x33x128x256) (k0_off4 k 8#32) S1x1x64x256.size (k0_off4_inb k 8))) (View.ld (arg6.view.read (Elt Ideal) X_arg6) (Rect.unit (s := S1x33x128x256) (k0_off4 k 9#32) S1x1x64x256.size (k0_off4_inb k 9))) (View.ld (arg6.view.read (Elt Ideal) X_arg6) (Rect.unit (s := S1x33x128x256) (k0_off4 k 10#32) S1x1x64x256.size (k0_off4_inb k 10)))) (View.ld (arg11.view.read (Elt Ideal) f11) (Rect.unit (s := S8x2048) ![1, 0] S1x512.size inb_S8x2048_S1x512_1_0))⟩,
  ⟨Rect.unit ![0, 1536] S1x512.size inb_S8x2048_S1x512_0_1536, lB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 1536] S1x128x512.size inb_S1x256x2048_S1x128x512_0_0_1536)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg11.view.read (Elt Ideal) f11) (Rect.unit (s := S8x2048) ![0, 1536] S1x512.size inb_S8x2048_S1x512_0_1536))⟩,
  ⟨Rect.unit ![0, 1024] S1x512.size inb_S8x2048_S1x512_0_1024, lB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 1024] S1x128x512.size inb_S1x256x2048_S1x128x512_0_0_1024)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg11.view.read (Elt Ideal) f11) (Rect.unit (s := S8x2048) ![0, 1024] S1x512.size inb_S8x2048_S1x512_0_1024))⟩,
  ⟨Rect.unit ![0, 512] S1x512.size inb_S8x2048_S1x512_0_512, lB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 512] S1x128x512.size inb_S1x256x2048_S1x128x512_0_0_512)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg11.view.read (Elt Ideal) f11) (Rect.unit (s := S8x2048) ![0, 512] S1x512.size inb_S8x2048_S1x512_0_512))⟩,
  ⟨Rect.unit ![0, 0] S1x512.size inb_S8x2048_S1x512_0_0, lB (pvU (wB v3 (scU (View.ld (arg5.view.read (Elt Ideal) X_arg5) (Rect.unit (s := S1x8448x256) (k0_off1 k) S1x2816x128.size (k0_off1_inb k))) (View.ld (arg4.view.read (Elt Ideal) X_arg4) (Rect.unit (s := S1x256x2048) ![0, 0, 0] S1x128x512.size inb_S1x256x2048_S1x128x512_0_0_0)))) (View.ld (arg6.view.read (Elt Ideal) X_arg6) (Rect.unit (s := S1x33x128x256) (k0_off2 k 0#32) S1x1x64x256.size (k0_off2_inb k 0))) (View.ld (arg6.view.read (Elt Ideal) X_arg6) (Rect.unit (s := S1x33x128x256) (k0_off2 k 1#32) S1x1x64x256.size (k0_off2_inb k 1))) (View.ld (arg6.view.read (Elt Ideal) X_arg6) (Rect.unit (s := S1x33x128x256) (k0_off2 k 2#32) S1x1x64x256.size (k0_off2_inb k 2))) (View.ld (arg6.view.read (Elt Ideal) X_arg6) (Rect.unit (s := S1x33x128x256) (k0_off2 k 3#32) S1x1x64x256.size (k0_off2_inb k 3))) (View.ld (arg6.view.read (Elt Ideal) X_arg6) (Rect.unit (s := S1x33x128x256) (k0_off2 k 4#32) S1x1x64x256.size (k0_off2_inb k 4))) (View.ld (arg6.view.read (Elt Ideal) X_arg6) (Rect.unit (s := S1x33x128x256) (k0_off2 k 5#32) S1x1x64x256.size (k0_off2_inb k 5))) (View.ld (arg6.view.read (Elt Ideal) X_arg6) (Rect.unit (s := S1x33x128x256) (k0_off2 k 6#32) S1x1x64x256.size (k0_off2_inb k 6))) (View.ld (arg6.view.read (Elt Ideal) X_arg6) (Rect.unit (s := S1x33x128x256) (k0_off2 k 7#32) S1x1x64x256.size (k0_off2_inb k 7))) (View.ld (arg6.view.read (Elt Ideal) X_arg6) (Rect.unit (s := S1x33x128x256) (k0_off2 k 8#32) S1x1x64x256.size (k0_off2_inb k 8))) (View.ld (arg6.view.read (Elt Ideal) X_arg6) (Rect.unit (s := S1x33x128x256) (k0_off2 k 9#32) S1x1x64x256.size (k0_off2_inb k 9))) (View.ld (arg6.view.read (Elt Ideal) X_arg6) (Rect.unit (s := S1x33x128x256) (k0_off2 k 10#32) S1x1x64x256.size (k0_off2_inb k 10)))) (View.ld (arg11.view.read (Elt Ideal) f11) (Rect.unit (s := S8x2048) ![0, 0] S1x512.size inb_S8x2048_S1x512_0_0))⟩] := by
  unfold trip_k0_t1
  dsimp only
  sl_unfold_run_names
  unfold_payloads
  simp only [View.readAt_eq_ld, shapeCast_self]
  rfl

/-- What the trip leaves in the accumulator, -/
theorem t1_acc_apply (D : Fin 128) (x : Fin 2048) :
    arg9.view.read (Elt Ideal) (arg9.view.writes (Elt Ideal) f9 ((trip_k0_t1 (F := Ideal) 𝒱 c bd i arg3 harg3 arg4 harg4 arg5 harg5 arg6 harg6 arg7 harg7 arg8 harg8 arg9 harg9 arg10 harg10 arg11 harg11 v3 X_arg4 X_arg5 X_arg6 k).1 f9 f11)) (ix2 D x)
      = arg9.view.read (Elt Ideal) f9 (ix2 D x) + addA (arg6.view.read (Elt Ideal) X_arg6) (fun j r x => Ideal.exp2 (score (arg4.view.read (Elt Ideal) X_arg4) (arg5.view.read (Elt Ideal) X_arg5) j r x - v3 (ix2 0 0))) (t1k k) D x := by
  rw [t1_acc]
  refine View.read_writes_apply_of_pieces _ _ (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) _ ?_ (ix2 D x) ?_
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![64, 1536] inb_S128x2048_S64x512_64_1536 1 3 rfl _ (fun d x => (accB_apply _ _ d x).trans (congrArg₂ (· + ·) (ldA _ _ inb_S128x2048_S64x512_64_1536 1 3 rfl d x) (pv_unit_lo (arg6.view.read (Elt Ideal) X_arg6) (t1k k) 1 3 (fun t : Fin 11 => View.ld (arg6.view.read (Elt Ideal) X_arg6) (Rect.unit (s := S1x33x128x256) (k0_off4 k (BitVec.ofNat 32 t.val)) S1x1x64x256.size (k0_off4_inb k t))) (fun t d s => ldV _ _ (k0_off4_inb k t) (t1k k) t 1 (k0_off4_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 3 _ (k0_off3_inb k) (k0_off3_eq k) _ inb_S1x256x2048_S1x128x512_0_128_1536 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![64, 1024] inb_S128x2048_S64x512_64_1024 1 2 rfl _ (fun d x => (accB_apply _ _ d x).trans (congrArg₂ (· + ·) (ldA _ _ inb_S128x2048_S64x512_64_1024 1 2 rfl d x) (pv_unit_lo (arg6.view.read (Elt Ideal) X_arg6) (t1k k) 1 2 (fun t : Fin 11 => View.ld (arg6.view.read (Elt Ideal) X_arg6) (Rect.unit (s := S1x33x128x256) (k0_off4 k (BitVec.ofNat 32 t.val)) S1x1x64x256.size (k0_off4_inb k t))) (fun t d s => ldV _ _ (k0_off4_inb k t) (t1k k) t 1 (k0_off4_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 2 _ (k0_off3_inb k) (k0_off3_eq k) _ inb_S1x256x2048_S1x128x512_0_128_1024 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![64, 512] inb_S128x2048_S64x512_64_512 1 1 rfl _ (fun d x => (accB_apply _ _ d x).trans (congrArg₂ (· + ·) (ldA _ _ inb_S128x2048_S64x512_64_512 1 1 rfl d x) (pv_unit_lo (arg6.view.read (Elt Ideal) X_arg6) (t1k k) 1 1 (fun t : Fin 11 => View.ld (arg6.view.read (Elt Ideal) X_arg6) (Rect.unit (s := S1x33x128x256) (k0_off4 k (BitVec.ofNat 32 t.val)) S1x1x64x256.size (k0_off4_inb k t))) (fun t d s => ldV _ _ (k0_off4_inb k t) (t1k k) t 1 (k0_off4_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 1 _ (k0_off3_inb k) (k0_off3_eq k) _ inb_S1x256x2048_S1x128x512_0_128_512 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![64, 0] inb_S128x2048_S64x512_64_0 1 0 rfl _ (fun d x => (accB_apply _ _ d x).trans (congrArg₂ (· + ·) (ldA _ _ inb_S128x2048_S64x512_64_0 1 0 rfl d x) (pv_unit_lo (arg6.view.read (Elt Ideal) X_arg6) (t1k k) 1 0 (fun t : Fin 11 => View.ld (arg6.view.read (Elt Ideal) X_arg6) (Rect.unit (s := S1x33x128x256) (k0_off4 k (BitVec.ofNat 32 t.val)) S1x1x64x256.size (k0_off4_inb k t))) (fun t d s => ldV _ _ (k0_off4_inb k t) (t1k k) t 1 (k0_off4_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 0 _ (k0_off3_inb k) (k0_off3_eq k) _ inb_S1x256x2048_S1x128x512_0_128_0 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![0, 1536] inb_S128x2048_S64x512_0_1536 0 3 rfl _ (fun d x => (accB_apply _ _ d x).trans (congrArg₂ (· + ·) (ldA _ _ inb_S128x2048_S64x512_0_1536 0 3 rfl d x) (pv_unit_lo (arg6.view.read (Elt Ideal) X_arg6) (t1k k) 0 3 (fun t : Fin 11 => View.ld (arg6.view.read (Elt Ideal) X_arg6) (Rect.unit (s := S1x33x128x256) (k0_off2 k (BitVec.ofNat 32 t.val)) S1x1x64x256.size (k0_off2_inb k t))) (fun t d s => ldV _ _ (k0_off2_inb k t) (t1k k) t 0 (k0_off2_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 3 _ (k0_off1_inb k) (k0_off1_eq k) _ inb_S1x256x2048_S1x128x512_0_0_1536 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![0, 1024] inb_S128x2048_S64x512_0_1024 0 2 rfl _ (fun d x => (accB_apply _ _ d x).trans (congrArg₂ (· + ·) (ldA _ _ inb_S128x2048_S64x512_0_1024 0 2 rfl d x) (pv_unit_lo (arg6.view.read (Elt Ideal) X_arg6) (t1k k) 0 2 (fun t : Fin 11 => View.ld (arg6.view.read (Elt Ideal) X_arg6) (Rect.unit (s := S1x33x128x256) (k0_off2 k (BitVec.ofNat 32 t.val)) S1x1x64x256.size (k0_off2_inb k t))) (fun t d s => ldV _ _ (k0_off2_inb k t) (t1k k) t 0 (k0_off2_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 2 _ (k0_off1_inb k) (k0_off1_eq k) _ inb_S1x256x2048_S1x128x512_0_0_1024 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![0, 512] inb_S128x2048_S64x512_0_512 0 1 rfl _ (fun d x => (accB_apply _ _ d x).trans (congrArg₂ (· + ·) (ldA _ _ inb_S128x2048_S64x512_0_512 0 1 rfl d x) (pv_unit_lo (arg6.view.read (Elt Ideal) X_arg6) (t1k k) 0 1 (fun t : Fin 11 => View.ld (arg6.view.read (Elt Ideal) X_arg6) (Rect.unit (s := S1x33x128x256) (k0_off2 k (BitVec.ofNat 32 t.val)) S1x1x64x256.size (k0_off2_inb k t))) (fun t d s => ldV _ _ (k0_off2_inb k t) (t1k k) t 0 (k0_off2_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 1 _ (k0_off1_inb k) (k0_off1_eq k) _ inb_S1x256x2048_S1x128x512_0_0_512 rfl r x))) d x))) x
    · exact fun x => pieceA (fun y : S128x2048.Idx => arg9.view.read (Elt Ideal) f9 y + addA (arg6.view.read (Elt Ideal) X_arg6) (fun j r x => Ideal.exp2 (score (arg4.view.read (Elt Ideal) X_arg4) (arg5.view.read (Elt Ideal) X_arg5) j r x - v3 (ix2 0 0))) (t1k k) (y 0) (y 1)) ![0, 0] inb_S128x2048_S64x512_0_0 0 0 rfl _ (fun d x => (accB_apply _ _ d x).trans (congrArg₂ (· + ·) (ldA _ _ inb_S128x2048_S64x512_0_0 0 0 rfl d x) (pv_unit_lo (arg6.view.read (Elt Ideal) X_arg6) (t1k k) 0 0 (fun t : Fin 11 => View.ld (arg6.view.read (Elt Ideal) X_arg6) (Rect.unit (s := S1x33x128x256) (k0_off2 k (BitVec.ofNat 32 t.val)) S1x1x64x256.size (k0_off2_inb k t))) (fun t d s => ldV _ _ (k0_off2_inb k t) (t1k k) t 0 (k0_off2_eq k t) d s) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 0 _ (k0_off1_inb k) (k0_off1_eq k) _ inb_S1x256x2048_S1x128x512_0_0_0 rfl r x))) d x))) x
  obtain ⟨j, d, rfl⟩ : ∃ (j : Fin 2) (d : Fin 64), D = ⟨64 * j.val + d.val, by omega⟩ := ⟨⟨D.val / 64, by omega⟩, ⟨D.val % 64, by omega⟩, Fin.ext (by show D.val = 64 * (D.val / 64) + D.val % 64; omega)⟩
  obtain ⟨c, x, rfl⟩ : ∃ (c : Fin 4) (y : Fin 512), x = ⟨512 * c.val + y.val, by omega⟩ := ⟨⟨x.val / 512, by omega⟩, ⟨x.val % 512, by omega⟩, Fin.ext (by show x.val = 512 * (x.val / 512) + x.val % 512; omega)⟩
  match j, c with
  | 0, 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memA _ (inb_S128x2048_S64x512_0_0) 0 0 rfl d x⟩
  | 0, 1 => exact ⟨_, List.mem_cons_of_mem _ (List.mem_cons_of_mem _ (List.mem_cons_of_mem _ (List.mem_cons_of_mem _ (List.mem_cons_of_mem _ (List.mem_cons_of_mem _ (List.mem_cons_self)))))), memA _ (inb_S128x2048_S64x512_0_512) 0 1 rfl d x⟩
  | 0, 2 => exact ⟨_, List.mem_cons_of_mem _ (List.mem_cons_of_mem _ (List.mem_cons_of_mem _ (List.mem_cons_of_mem _ (List.mem_cons_of_mem _ (List.mem_cons_self))))), memA _ (inb_S128x2048_S64x512_0_1024) 0 2 rfl d x⟩
  | 0, 3 => exact ⟨_, List.mem_cons_of_mem _ (List.mem_cons_of_mem _ (List.mem_cons_of_mem _ (List.mem_cons_of_mem _ (List.mem_cons_self)))), memA _ (inb_S128x2048_S64x512_0_1536) 0 3 rfl d x⟩
  | 1, 0 => exact ⟨_, List.mem_cons_of_mem _ (List.mem_cons_of_mem _ (List.mem_cons_of_mem _ (List.mem_cons_self))), memA _ (inb_S128x2048_S64x512_64_0) 1 0 rfl d x⟩
  | 1, 1 => exact ⟨_, List.mem_cons_of_mem _ (List.mem_cons_of_mem _ (List.mem_cons_self)), memA _ (inb_S128x2048_S64x512_64_512) 1 1 rfl d x⟩
  | 1, 2 => exact ⟨_, List.mem_cons_of_mem _ (List.mem_cons_self), memA _ (inb_S128x2048_S64x512_64_1024) 1 2 rfl d x⟩
  | 1, 3 => exact ⟨_, List.mem_cons_self, memA _ (inb_S128x2048_S64x512_64_1536) 1 3 rfl d x⟩

/-- and in the weights' sums. -/
theorem t1_l_apply (j : Fin 2) (x : Fin 2048) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 v3 X_arg4 X_arg5 X_arg6 k).2.1 f9 f11)) (ix2 ⟨j.val, by omega⟩ x)
      = arg11.view.read (Elt Ideal) f11 (ix2 ⟨j.val, by omega⟩ x) + addL (fun j r x => Ideal.exp2 (score (arg4.view.read (Elt Ideal) X_arg4) (arg5.view.read (Elt Ideal) X_arg5) j r x - v3 (ix2 0 0))) (t1k k) j x := by
  rw [t1_l]
  refine (View.read_writes_apply_of_pieces _ _ (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) _ ?_ (ix2 ⟨j.val, by omega⟩ x) ?_).trans (congrArg (fun j' => arg11.view.read (Elt Ideal) f11 (ix2 ⟨j.val, by omega⟩ x) + addL (fun j r x => Ideal.exp2 (score (arg4.view.read (Elt Ideal) X_arg4) (arg5.view.read (Elt Ideal) X_arg5) j r x - v3 (ix2 0 0))) (t1k k) j' x) (Fin.ext (Nat.mod_eq_of_lt j.isLt)))
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![1, 1536] inb_S8x2048_S1x512_1_1536 1 3 rfl _ (fun x => (lB_apply _ _ x).trans (congrArg₂ (· + ·) (ldL _ _ inb_S8x2048_S1x512_1_1536 1 3 rfl x) (pv_unit_hi (t1k k) 1 3 (fun t : Fin 11 => View.ld (arg6.view.read (Elt Ideal) X_arg6) (Rect.unit (s := S1x33x128x256) (k0_off4 k (BitVec.ofNat 32 t.val)) S1x1x64x256.size (k0_off4_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 3 _ (k0_off3_inb k) (k0_off3_eq k) _ inb_S1x256x2048_S1x128x512_0_128_1536 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![1, 1024] inb_S8x2048_S1x512_1_1024 1 2 rfl _ (fun x => (lB_apply _ _ x).trans (congrArg₂ (· + ·) (ldL _ _ inb_S8x2048_S1x512_1_1024 1 2 rfl x) (pv_unit_hi (t1k k) 1 2 (fun t : Fin 11 => View.ld (arg6.view.read (Elt Ideal) X_arg6) (Rect.unit (s := S1x33x128x256) (k0_off4 k (BitVec.ofNat 32 t.val)) S1x1x64x256.size (k0_off4_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 2 _ (k0_off3_inb k) (k0_off3_eq k) _ inb_S1x256x2048_S1x128x512_0_128_1024 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![1, 512] inb_S8x2048_S1x512_1_512 1 1 rfl _ (fun x => (lB_apply _ _ x).trans (congrArg₂ (· + ·) (ldL _ _ inb_S8x2048_S1x512_1_512 1 1 rfl x) (pv_unit_hi (t1k k) 1 1 (fun t : Fin 11 => View.ld (arg6.view.read (Elt Ideal) X_arg6) (Rect.unit (s := S1x33x128x256) (k0_off4 k (BitVec.ofNat 32 t.val)) S1x1x64x256.size (k0_off4_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 1 _ (k0_off3_inb k) (k0_off3_eq k) _ inb_S1x256x2048_S1x128x512_0_128_512 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![1, 0] inb_S8x2048_S1x512_1_0 1 0 rfl _ (fun x => (lB_apply _ _ x).trans (congrArg₂ (· + ·) (ldL _ _ inb_S8x2048_S1x512_1_0 1 0 rfl x) (pv_unit_hi (t1k k) 1 0 (fun t : Fin 11 => View.ld (arg6.view.read (Elt Ideal) X_arg6) (Rect.unit (s := S1x33x128x256) (k0_off4 k (BitVec.ofNat 32 t.val)) S1x1x64x256.size (k0_off4_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 1 0 _ (k0_off3_inb k) (k0_off3_eq k) _ inb_S1x256x2048_S1x128x512_0_128_0 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![0, 1536] inb_S8x2048_S1x512_0_1536 0 3 rfl _ (fun x => (lB_apply _ _ x).trans (congrArg₂ (· + ·) (ldL _ _ inb_S8x2048_S1x512_0_1536 0 3 rfl x) (pv_unit_hi (t1k k) 0 3 (fun t : Fin 11 => View.ld (arg6.view.read (Elt Ideal) X_arg6) (Rect.unit (s := S1x33x128x256) (k0_off2 k (BitVec.ofNat 32 t.val)) S1x1x64x256.size (k0_off2_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 3 _ (k0_off1_inb k) (k0_off1_eq k) _ inb_S1x256x2048_S1x128x512_0_0_1536 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![0, 1024] inb_S8x2048_S1x512_0_1024 0 2 rfl _ (fun x => (lB_apply _ _ x).trans (congrArg₂ (· + ·) (ldL _ _ inb_S8x2048_S1x512_0_1024 0 2 rfl x) (pv_unit_hi (t1k k) 0 2 (fun t : Fin 11 => View.ld (arg6.view.read (Elt Ideal) X_arg6) (Rect.unit (s := S1x33x128x256) (k0_off2 k (BitVec.ofNat 32 t.val)) S1x1x64x256.size (k0_off2_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 2 _ (k0_off1_inb k) (k0_off1_eq k) _ inb_S1x256x2048_S1x128x512_0_0_1024 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![0, 512] inb_S8x2048_S1x512_0_512 0 1 rfl _ (fun x => (lB_apply _ _ x).trans (congrArg₂ (· + ·) (ldL _ _ inb_S8x2048_S1x512_0_512 0 1 rfl x) (pv_unit_hi (t1k k) 0 1 (fun t : Fin 11 => View.ld (arg6.view.read (Elt Ideal) X_arg6) (Rect.unit (s := S1x33x128x256) (k0_off2 k (BitVec.ofNat 32 t.val)) S1x1x64x256.size (k0_off2_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 1 _ (k0_off1_inb k) (k0_off1_eq k) _ inb_S1x256x2048_S1x128x512_0_0_512 rfl r x))) x))) x
    · exact fun x => pieceL (fun y : S8x2048.Idx => arg11.view.read (Elt Ideal) f11 y + addL (fun j r x => Ideal.exp2 (score (arg4.view.read (Elt Ideal) X_arg4) (arg5.view.read (Elt Ideal) X_arg5) j r x - v3 (ix2 0 0))) (t1k k) ⟨(y 0).val % 2, Nat.mod_lt _ (by decide)⟩ (y 1)) ![0, 0] inb_S8x2048_S1x512_0_0 0 0 rfl _ (fun x => (lB_apply _ _ x).trans (congrArg₂ (· + ·) (ldL _ _ inb_S8x2048_S1x512_0_0 0 0 rfl x) (pv_unit_hi (t1k k) 0 0 (fun t : Fin 11 => View.ld (arg6.view.read (Elt Ideal) X_arg6) (Rect.unit (s := S1x33x128x256) (k0_off2 k (BitVec.ofNat 32 t.val)) S1x1x64x256.size (k0_off2_inb k t))) _ (fun j r x => Ideal.exp2 (score (arg4.view.read (Elt Ideal) X_arg4) (arg5.view.read (Elt Ideal) X_arg5) j r x - v3 (ix2 0 0))) (fun r x => (wB_apply _ _ r x).trans (congrArg (fun z => Ideal.exp2 (z - v3 (ix2 0 0))) (sc_unit _ _ (t1k k) 0 0 _ (k0_off1_inb k) (k0_off1_eq k) _ inb_S1x256x2048_S1x128x512_0_0_0 rfl r x))) x))) x
  obtain ⟨c, x, rfl⟩ : ∃ (c : Fin 4) (y : Fin 512), x = ⟨512 * c.val + y.val, by omega⟩ := ⟨⟨x.val / 512, by omega⟩, ⟨x.val % 512, by omega⟩, Fin.ext (by show x.val = 512 * (x.val / 512) + x.val % 512; omega)⟩
  match j, c with
  | 0, 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memL _ (inb_S8x2048_S1x512_0_0) 0 0 rfl x⟩
  | 0, 1 => exact ⟨_, List.mem_cons_of_mem _ (List.mem_cons_of_mem _ (List.mem_cons_of_mem _ (List.mem_cons_of_mem _ (List.mem_cons_of_mem _ (List.mem_cons_of_mem _ (List.mem_cons_self)))))), memL _ (inb_S8x2048_S1x512_0_512) 0 1 rfl x⟩
  | 0, 2 => exact ⟨_, List.mem_cons_of_mem _ (List.mem_cons_of_mem _ (List.mem_cons_of_mem _ (List.mem_cons_of_mem _ (List.mem_cons_of_mem _ (List.mem_cons_self))))), memL _ (inb_S8x2048_S1x512_0_1024) 0 2 rfl x⟩
  | 0, 3 => exact ⟨_, List.mem_cons_of_mem _ (List.mem_cons_of_mem _ (List.mem_cons_of_mem _ (List.mem_cons_of_mem _ (List.mem_cons_self)))), memL _ (inb_S8x2048_S1x512_0_1536) 0 3 rfl x⟩
  | 1, 0 => exact ⟨_, List.mem_cons_of_mem _ (List.mem_cons_of_mem _ (List.mem_cons_of_mem _ (List.mem_cons_self))), memL _ (inb_S8x2048_S1x512_1_0) 1 0 rfl x⟩
  | 1, 1 => exact ⟨_, List.mem_cons_of_mem _ (List.mem_cons_of_mem _ (List.mem_cons_self)), memL _ (inb_S8x2048_S1x512_1_512) 1 1 rfl x⟩
  | 1, 2 => exact ⟨_, List.mem_cons_of_mem _ (List.mem_cons_self), memL _ (inb_S8x2048_S1x512_1_1024) 1 2 rfl x⟩
  | 1, 3 => exact ⟨_, List.mem_cons_self, memL _ (inb_S8x2048_S1x512_1_1536) 1 3 rfl x⟩
end trip

end Cert.KernelIdeal.Attn

end
-- ==== Proof.KernelIdeal.TripO.lean ====
/- One trip of the online branch's key loop. -/
module

public import proofs.«01_k».proof.Proof.KernelIdeal.Unit
public import proofs.«01_k».proof.Proof.Gen.KernelIdeal.Loops
public import Idealize.ShloMosaic.Lib.Pointwise
public import Idealize.ShloMosaic.Lib.Pipeline.Value
public import Idealize.ShloMosaic.Lib.Pipeline.ValueKit.Tiles
public import proofs.«01_k».proof.Proof.KernelIdeal.Spec

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

theorem t2_3 : k0_t2_loop.trips = 3 := by decide +kernel
/-- A trip of the loop, of its three. -/
abbrev t2k (k : Fin k0_t2_loop.trips) : Fin 3 := Fin.cast t2_3 k
theorem k0_off5_eq : ∀ k : Fin k0_t2_loop.trips, k0_off5 k = ![0, 2816 * k.val, 0] := by decide +kernel
theorem k0_off6_eq : ∀ (k : Fin k0_t2_loop.trips) (t : Fin 11), k0_off6 k (BitVec.ofNat 32 t.val) = ![0, 11 * k.val + t.val, 0, 0] := by decide +kernel
theorem k0_off7_eq : ∀ k : Fin k0_t2_loop.trips, k0_off7 k = ![0, 2816 * k.val, 128] := by decide +kernel
theorem k0_off8_eq : ∀ (k : Fin k0_t2_loop.trips) (t : Fin 11), k0_off8 k (BitVec.ofNat 32 t.val) = ![0, 11 * k.val + t.val, 64, 0] := by decide +kernel

section trip
variable (𝒱 : Variants) (c : Dev nD) (bd : Option 𝒱.V) (i : grid0.Coords) (arg3 : Memref sig .tc .smem S1 .i32) (harg3 : arg3.IsWhole) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole) (X_arg4 : BufTy.Contents (Elt Ideal) arg4.view.ty) (X_arg5 : BufTy.Contents (Elt Ideal) arg5.view.ty) (X_arg6 : BufTy.Contents (Elt Ideal) arg6.view.ty) (k : Fin k0_t2_loop.trips) (f9 : BufTy.Contents (Elt Ideal) arg9.view.ty) (f10 : BufTy.Contents (Elt Ideal) arg10.view.ty) (f11 : BufTy.Contents (Elt Ideal) arg11.view.ty)

theorem t2_acc : (trip_k0_t2 (F := Ideal) 𝒱 c bd i arg3 harg3 arg4 harg4 arg5 harg5 arg6 harg6 arg7 harg7 arg8 harg8 arg9 harg9 arg10 harg10 arg11 harg11 X_arg4 X_arg5 X_arg6 k).1 f9 f10 f11 =
  [⟨Rect.unit ![64, 1536] S64x512.size inb_S128x2048_S64x512_64_1536, accO (alO (View.ld (arg10.view.read (Elt Ideal) f10) (Rect.unit (s := S8x2048) ![1, 1536] S1x512.size inb_S8x2048_S1x512_1_1536)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (View.ld (arg10.view.read (Elt Ideal) f10) (Rect.unit (s := S8x2048) ![1, 1536] S1x512.size inb_S8x2048_S1x512_1_1536)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (View.ld (arg10.view.read (Elt Ideal) f10) (Rect.unit (s := S8x2048) ![1, 1536] S1x512.size inb_S8x2048_S1x512_1_1536)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg9.view.read (Elt Ideal) f9) (Rect.unit (s := S128x2048) ![64, 1536] S64x512.size inb_S128x2048_S64x512_64_1536))⟩,
  ⟨Rect.unit ![64, 1024] S64x512.size inb_S128x2048_S64x512_64_1024, accO (alO (View.ld (arg10.view.read (Elt Ideal) f10) (Rect.unit (s := S8x2048) ![1, 1024] S1x512.size inb_S8x2048_S1x512_1_1024)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (View.ld (arg10.view.read (Elt Ideal) f10) (Rect.unit (s := S8x2048) ![1, 1024] S1x512.size inb_S8x2048_S1x512_1_1024)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (View.ld (arg10.view.read (Elt Ideal) f10) (Rect.unit (s := S8x2048) ![1, 1024] S1x512.size inb_S8x2048_S1x512_1_1024)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg9.view.read (Elt Ideal) f9) (Rect.unit (s := S128x2048) ![64, 1024] S64x512.size inb_S128x2048_S64x512_64_1024))⟩,
  ⟨Rect.unit ![64, 512] S64x512.size inb_S128x2048_S64x512_64_512, accO (alO (View.ld (arg10.view.read (Elt Ideal) f10) (Rect.unit (s := S8x2048) ![1, 512] S1x512.size inb_S8x2048_S1x512_1_512)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (View.ld (arg10.view.read (Elt Ideal) f10) (Rect.unit (s := S8x2048) ![1, 512] S1x512.size inb_S8x2048_S1x512_1_512)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (View.ld (arg10.view.read (Elt Ideal) f10) (Rect.unit (s := S8x2048) ![1, 512] S1x512.size inb_S8x2048_S1x512_1_512)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg9.view.read (Elt Ideal) f9) (Rect.unit (s := S128x2048) ![64, 512] S64x512.size inb_S128x2048_S64x512_64_512))⟩,
  ⟨Rect.unit ![64, 0] S64x512.size inb_S128x2048_S64x512_64_0, accO (alO (View.ld (arg10.view.read (Elt Ideal) f10) (Rect.unit (s := S8x2048) ![1, 0] S1x512.size inb_S8x2048_S1x512_1_0)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (View.ld (arg10.view.read (Elt Ideal) f10) (Rect.unit (s := S8x2048) ![1, 0] S1x512.size inb_S8x2048_S1x512_1_0)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (View.ld (arg10.view.read (Elt Ideal) f10) (Rect.unit (s := S8x2048) ![1, 0] S1x512.size inb_S8x2048_S1x512_1_0)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg9.view.read (Elt Ideal) f9) (Rect.unit (s := S128x2048) ![64, 0] S64x512.size inb_S128x2048_S64x512_64_0))⟩,
  ⟨Rect.unit ![0, 1536] S64x512.size inb_S128x2048_S64x512_0_1536, accO (alO (View.ld (arg10.view.read (Elt Ideal) f10) (Rect.unit (s := S8x2048) ![0, 1536] S1x512.size inb_S8x2048_S1x512_0_1536)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (View.ld (arg10.view.read (Elt Ideal) f10) (Rect.unit (s := S8x2048) ![0, 1536] S1x512.size inb_S8x2048_S1x512_0_1536)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (View.ld (arg10.view.read (Elt Ideal) f10) (Rect.unit (s := S8x2048) ![0, 1536] S1x512.size inb_S8x2048_S1x512_0_1536)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg9.view.read (Elt Ideal) f9) (Rect.unit (s := S128x2048) ![0, 1536] S64x512.size inb_S128x2048_S64x512_0_1536))⟩,
  ⟨Rect.unit ![0, 1024] S64x512.size inb_S128x2048_S64x512_0_1024, accO (alO (View.ld (arg10.view.read (Elt Ideal) f10) (Rect.unit (s := S8x2048) ![0, 1024] S1x512.size inb_S8x2048_S1x512_0_1024)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (View.ld (arg10.view.read (Elt Ideal) f10) (Rect.unit (s := S8x2048) ![0, 1024] S1x512.size inb_S8x2048_S1x512_0_1024)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (View.ld (arg10.view.read (Elt Ideal) f10) (Rect.unit (s := S8x2048) ![0, 1024] S1x512.size inb_S8x2048_S1x512_0_1024)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg9.view.read (Elt Ideal) f9) (Rect.unit (s := S128x2048) ![0, 1024] S64x512.size inb_S128x2048_S64x512_0_1024))⟩,
  ⟨Rect.unit ![0, 512] S64x512.size inb_S128x2048_S64x512_0_512, accO (alO (View.ld (arg10.view.read (Elt Ideal) f10) (Rect.unit (s := S8x2048) ![0, 512] S1x512.size inb_S8x2048_S1x512_0_512)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (View.ld (arg10.view.read (Elt Ideal) f10) (Rect.unit (s := S8x2048) ![0, 512] S1x512.size inb_S8x2048_S1x512_0_512)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (View.ld (arg10.view.read (Elt Ideal) f10) (Rect.unit (s := S8x2048) ![0, 512] S1x512.size inb_S8x2048_S1x512_0_512)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg9.view.read (Elt Ideal) f9) (Rect.unit (s := S128x2048) ![0, 512] S64x512.size inb_S128x2048_S64x512_0_512))⟩,
  ⟨Rect.unit ![0, 0] S64x512.size inb_S128x2048_S64x512_0_0, accO (alO (View.ld (arg10.view.read (Elt Ideal) f10) (Rect.unit (s := S8x2048) ![0, 0] S1x512.size inb_S8x2048_S1x512_0_0)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (View.ld (arg10.view.read (Elt Ideal) f10) (Rect.unit (s := S8x2048) ![0, 0] S1x512.size inb_S8x2048_S1x512_0_0)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (View.ld (arg10.view.read (Elt Ideal) f10) (Rect.unit (s := S8x2048) ![0, 0] S1x512.size inb_S8x2048_S1x512_0_0)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg9.view.read (Elt Ideal) f9) (Rect.unit (s := S128x2048) ![0, 0] S64x512.size inb_S128x2048_S64x512_0_0))⟩] := by
  unfold trip_k0_t2
  dsimp only
  sl_unfold_run_names
  unfold_payloads
  simp only [View.readAt_eq_ld, shapeCast_self]
  rfl

theorem t2_m : (trip_k0_t2 (F := Ideal) 𝒱 c bd i arg3 harg3 arg4 harg4 arg5 harg5 arg6 harg6 arg7 harg7 arg8 harg8 arg9 harg9 arg10 harg10 arg11 harg11 X_arg4 X_arg5 X_arg6 k).2.1 f9 f10 f11 =
  [⟨Rect.unit ![1, 1536] S1x512.size inb_S8x2048_S1x512_1_1536, (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (View.ld (arg10.view.read (Elt Ideal) f10) (Rect.unit (s := S8x2048) ![1, 1536] S1x512.size inb_S8x2048_S1x512_1_1536)))⟩,
  ⟨Rect.unit ![1, 1024] S1x512.size inb_S8x2048_S1x512_1_1024, (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (View.ld (arg10.view.read (Elt Ideal) f10) (Rect.unit (s := S8x2048) ![1, 1024] S1x512.size inb_S8x2048_S1x512_1_1024)))⟩,
  ⟨Rect.unit ![1, 512] S1x512.size inb_S8x2048_S1x512_1_512, (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (View.ld (arg10.view.read (Elt Ideal) f10) (Rect.unit (s := S8x2048) ![1, 512] S1x512.size inb_S8x2048_S1x512_1_512)))⟩,
  ⟨Rect.unit ![1, 0] S1x512.size inb_S8x2048_S1x512_1_0, (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (View.ld (arg10.view.read (Elt Ideal) f10) (Rect.unit (s := S8x2048) ![1, 0] S1x512.size inb_S8x2048_S1x512_1_0)))⟩,
  ⟨Rect.unit ![0, 1536] S1x512.size inb_S8x2048_S1x512_0_1536, (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (View.ld (arg10.view.read (Elt Ideal) f10) (Rect.unit (s := S8x2048) ![0, 1536] S1x512.size inb_S8x2048_S1x512_0_1536)))⟩,
  ⟨Rect.unit ![0, 1024] S1x512.size inb_S8x2048_S1x512_0_1024, (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (View.ld (arg10.view.read (Elt Ideal) f10) (Rect.unit (s := S8x2048) ![0, 1024] S1x512.size inb_S8x2048_S1x512_0_1024)))⟩,
  ⟨Rect.unit ![0, 512] S1x512.size inb_S8x2048_S1x512_0_512, (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (View.ld (arg10.view.read (Elt Ideal) f10) (Rect.unit (s := S8x2048) ![0, 512] S1x512.size inb_S8x2048_S1x512_0_512)))⟩,
  ⟨Rect.unit ![0, 0] S1x512.size inb_S8x2048_S1x512_0_0, (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (View.ld (arg10.view.read (Elt Ideal) f10) (Rect.unit (s := S8x2048) ![0, 0] S1x512.size inb_S8x2048_S1x512_0_0)))⟩] := by
  unfold trip_k0_t2
  dsimp only
  sl_unfold_run_names
  unfold_payloads
  simp only [View.readAt_eq_ld, shapeCast_self]
  rfl

theorem t2_l : (trip_k0_t2 (F := Ideal) 𝒱 c bd i arg3 harg3 arg4 harg4 arg5 harg5 arg6 harg6 arg7 harg7 arg8 harg8 arg9 harg9 arg10 harg10 arg11 harg11 X_arg4 X_arg5 X_arg6 k).2.2.1 f9 f10 f11 =
  [⟨Rect.unit ![1, 1536] S1x512.size inb_S8x2048_S1x512_1_1536, lO (alO (View.ld (arg10.view.read (Elt Ideal) f10) (Rect.unit (s := S8x2048) ![1, 1536] S1x512.size inb_S8x2048_S1x512_1_1536)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (View.ld (arg10.view.read (Elt Ideal) f10) (Rect.unit (s := S8x2048) ![1, 1536] S1x512.size inb_S8x2048_S1x512_1_1536)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1536] S1x128x512.size inb_S1x256x2048_S1x128x512_0_128_1536))) (View.ld (arg10.view.read (Elt Ideal) f10) (Rect.unit (s := S8x2048) ![1, 1536] S1x512.size inb_S8x2048_S1x512_1_1536)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg11.view.read (Elt Ideal) f11) (Rect.unit (s := S8x2048) ![1, 1536] S1x512.size inb_S8x2048_S1x512_1_1536))⟩,
  ⟨Rect.unit ![1, 1024] S1x512.size inb_S8x2048_S1x512_1_1024, lO (alO (View.ld (arg10.view.read (Elt Ideal) f10) (Rect.unit (s := S8x2048) ![1, 1024] S1x512.size inb_S8x2048_S1x512_1_1024)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (View.ld (arg10.view.read (Elt Ideal) f10) (Rect.unit (s := S8x2048) ![1, 1024] S1x512.size inb_S8x2048_S1x512_1_1024)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 1024] S1x128x512.size inb_S1x256x2048_S1x128x512_0_128_1024))) (View.ld (arg10.view.read (Elt Ideal) f10) (Rect.unit (s := S8x2048) ![1, 1024] S1x512.size inb_S8x2048_S1x512_1_1024)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg11.view.read (Elt Ideal) f11) (Rect.unit (s := S8x2048) ![1, 1024] S1x512.size inb_S8x2048_S1x512_1_1024))⟩,
  ⟨Rect.unit ![1, 512] S1x512.size inb_S8x2048_S1x512_1_512, lO (alO (View.ld (arg10.view.read (Elt Ideal) f10) (Rect.unit (s := S8x2048) ![1, 512] S1x512.size inb_S8x2048_S1x512_1_512)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (View.ld (arg10.view.read (Elt Ideal) f10) (Rect.unit (s := S8x2048) ![1, 512] S1x512.size inb_S8x2048_S1x512_1_512)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 512] S1x128x512.size inb_S1x256x2048_S1x128x512_0_128_512))) (View.ld (arg10.view.read (Elt Ideal) f10) (Rect.unit (s := S8x2048) ![1, 512] S1x512.size inb_S8x2048_S1x512_1_512)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg11.view.read (Elt Ideal) f11) (Rect.unit (s := S8x2048) ![1, 512] S1x512.size inb_S8x2048_S1x512_1_512))⟩,
  ⟨Rect.unit ![1, 0] S1x512.size inb_S8x2048_S1x512_1_0, lO (alO (View.ld (arg10.view.read (Elt Ideal) f10) (Rect.unit (s := S8x2048) ![1, 0] S1x512.size inb_S8x2048_S1x512_1_0)) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (View.ld (arg10.view.read (Elt Ideal) f10) (Rect.unit (s := S8x2048) ![1, 0] S1x512.size inb_S8x2048_S1x512_1_0)))) (pvU (wO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (mO (scU (View.ld (arg5.view.read (Elt Ideal) X_arg5) (Rect.unit (s := S1x8448x256) (k0_off7 k) S1x2816x128.size (k0_off7_inb k))) (View.ld (arg4.view.read (Elt Ideal) X_arg4) (Rect.unit (s := S1x256x2048) ![0, 128, 0] S1x128x512.size inb_S1x256x2048_S1x128x512_0_128_0))) (View.ld (arg10.view.read (Elt Ideal) f10) (Rect.unit (s := S8x2048) ![1, 0] S1x512.size inb_S8x2048_S1x512_1_0)))) (View.ld (arg6.view.read (Elt Ideal) X_arg6) (Rect.unit (s := S1x33x128x256) (k0_off8 k 0#32) S1x1x64x256.size (k0_off8_inb k 0))) (View.ld (arg6.view.read (Elt Ideal) X_arg6) (Rect.unit (s := S1x33x128x256) (k0_off8 k 1#32) S1x1x64x256.size (k0_off8_inb k 1))) (View.ld (arg6.view.read (Elt Ideal) X_arg6) (Rect.unit (s := S1x33x128x256) (k0_off8 k 2#32) S1x1x64x256.size (k0_off8_inb k 2))) (View.ld (arg6.view.read (Elt Ideal) X_arg6) (Rect.unit (s := S1x33x128x256) (k0_off8 k 3#32) S1x1x64x256.size (k0_off8_inb k 3))) (View.ld (arg6.view.read (Elt Ideal) X_arg6) (Rect.unit (s := S1x33x128x256) (k0_off8 k 4#32) S1x1x64x256.size (k0_off8_inb k 4))) (View.ld (arg6.view.read (Elt Ideal) X_arg6) (Rect.unit (s := S1x33x128x256) (k0_off8 k 5#32) S1x1x64x256.size (k0_off8_inb k 5))) (View.ld (arg6.view.read (Elt Ideal) X_arg6) (Rect.unit (s := S1x33x128x256) (k0_off8 k 6#32) S1x1x64x256.size (k0_off8_inb k 6))) (View.ld (arg6.view.read (Elt Ideal) X_arg6) (Rect.unit (s := S1x33x128x256) (k0_off8 k 7#32) S1x1x64x256.size (k0_off8_inb k 7))) (View.ld (arg6.view.read (Elt Ideal) X_arg6) (Rect.unit (s := S1x33x128x256) (k0_off8 k 8#32) S1x1x64x256.size (k0_off8_inb k 8))) (View.ld (arg6.view.read (Elt Ideal) X_arg6) (Rect.unit (s := S1x33x128x256) (k0_off8 k 9#32) S1x1x64x256.size (k0_off8_inb k 9))) (View.ld (arg6.view.read (Elt Ideal) X_arg6) (Rect.unit (s := S1x33x128x256) (k0_off8 k 10#32) S1x1x64x256.size (k0_off8_inb k 10)))) (View.ld (arg11.view.read (Elt Ideal) f11) (Rect.unit (s := S8x2048) ![1, 0] S1x512.size inb_S8x2048_S1x512_1_0))⟩,
  ⟨Rect.unit ![0, 1536] S1x512.size inb_S8x2048_S1x512_0_1536, lO (alO (View.ld (arg10.view.read (Elt Ideal) f10) (Rect.unit (s := S8x2048) ![0, 1536] S1x512.size inb_S8x2048_S1x512_0_1536)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (View.ld (arg10.view.read (Elt Ideal) f10) (Rect.unit (s := S8x2048) ![0, 1536] S1x512.size inb_S8x2048_S1x512_0_1536)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1536] S1x128x512.size inb_S1x256x2048_S1x128x512_0_0_1536))) (View.ld (arg10.view.read (Elt Ideal) f10) (Rect.unit (s := S8x2048) ![0, 1536] S1x512.size inb_S8x2048_S1x512_0_1536)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg11.view.read (Elt Ideal) f11) (Rect.unit (s := S8x2048) ![0, 1536] S1x512.size inb_S8x2048_S1x512_0_1536))⟩,
  ⟨Rect.unit ![0, 1024] S1x512.size inb_S8x2048_S1x512_0_1024, lO (alO (View.ld (arg10.view.read (Elt Ideal) f10) (Rect.unit (s := S8x2048) ![0, 1024] S1x512.size inb_S8x2048_S1x512_0_1024)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (View.ld (arg10.view.read (Elt Ideal) f10) (Rect.unit (s := S8x2048) ![0, 1024] S1x512.size inb_S8x2048_S1x512_0_1024)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 1024] S1x128x512.size inb_S1x256x2048_S1x128x512_0_0_1024))) (View.ld (arg10.view.read (Elt Ideal) f10) (Rect.unit (s := S8x2048) ![0, 1024] S1x512.size inb_S8x2048_S1x512_0_1024)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg11.view.read (Elt Ideal) f11) (Rect.unit (s := S8x2048) ![0, 1024] S1x512.size inb_S8x2048_S1x512_0_1024))⟩,
  ⟨Rect.unit ![0, 512] S1x512.size inb_S8x2048_S1x512_0_512, lO (alO (View.ld (arg10.view.read (Elt Ideal) f10) (Rect.unit (s := S8x2048) ![0, 512] S1x512.size inb_S8x2048_S1x512_0_512)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (View.ld (arg10.view.read (Elt Ideal) f10) (Rect.unit (s := S8x2048) ![0, 512] S1x512.size inb_S8x2048_S1x512_0_512)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 512] S1x128x512.size inb_S1x256x2048_S1x128x512_0_0_512))) (View.ld (arg10.view.read (Elt Ideal) f10) (Rect.unit (s := S8x2048) ![0, 512] S1x512.size inb_S8x2048_S1x512_0_512)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg11.view.read (Elt Ideal) f11) (Rect.unit (s := S8x2048) ![0, 512] S1x512.size inb_S8x2048_S1x512_0_512))⟩,
  ⟨Rect.unit ![0, 0] S1x512.size inb_S8x2048_S1x512_0_0, lO (alO (View.ld (arg10.view.read (Elt Ideal) f10) (Rect.unit (s := S8x2048) ![0, 0] S1x512.size inb_S8x2048_S1x512_0_0)) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (View.ld (arg10.view.read (Elt Ideal) f10) (Rect.unit (s := S8x2048) ![0, 0] S1x512.size inb_S8x2048_S1x512_0_0)))) (pvU (wO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (mO (scU (View.ld (arg5.view.read (Elt Ideal) X_arg5) (Rect.unit (s := S1x8448x256) (k0_off5 k) S1x2816x128.size (k0_off5_inb k))) (View.ld (arg4.view.read (Elt Ideal) X_arg4) (Rect.unit (s := S1x256x2048) ![0, 0, 0] S1x128x512.size inb_S1x256x2048_S1x128x512_0_0_0))) (View.ld (arg10.view.read (Elt Ideal) f10) (Rect.unit (s := S8x2048) ![0, 0] S1x512.size inb_S8x2048_S1x512_0_0)))) (View.ld (arg6.view.read (Elt Ideal) X_arg6) (Rect.unit (s := S1x33x128x256) (k0_off6 k 0#32) S1x1x64x256.size (k0_off6_inb k 0))) (View.ld (arg6.view.read (Elt Ideal) X_arg6) (Rect.unit (s := S1x33x128x256) (k0_off6 k 1#32) S1x1x64x256.size (k0_off6_inb k 1))) (View.ld (arg6.view.read (Elt Ideal) X_arg6) (Rect.unit (s := S1x33x128x256) (k0_off6 k 2#32) S1x1x64x256.size (k0_off6_inb k 2))) (View.ld (arg6.view.read (Elt Ideal) X_arg6) (Rect.unit (s := S1x33x128x256) (k0_off6 k 3#32) S1x1x64x256.size (k0_off6_inb k 3))) (View.ld (arg6.view.read (Elt Ideal) X_arg6) (Rect.unit (s := S1x33x128x256) (k0_off6 k 4#32) S1x1x64x256.size (k0_off6_inb k 4))) (View.ld (arg6.view.read (Elt Ideal) X_arg6) (Rect.unit (s := S1x33x128x256) (k0_off6 k 5#32) S1x1x64x256.size (k0_off6_inb k 5))) (View.ld (arg6.view.read (Elt Ideal) X_arg6) (Rect.unit (s := S1x33x128x256) (k0_off6 k 6#32) S1x1x64x256.size (k0_off6_inb k 6))) (View.ld (arg6.view.read (Elt Ideal) X_arg6) (Rect.unit (s := S1x33x128x256) (k0_off6 k 7#32) S1x1x64x256.size (k0_off6_inb k 7))) (View.ld (arg6.view.read (Elt Ideal) X_arg6) (Rect.unit (s := S1x33x128x256) (k0_off6 k 8#32) S1x1x64x256.size (k0_off6_inb k 8))) (View.ld (arg6.view.read (Elt Ideal) X_arg6) (Rect.unit (s := S1x33x128x256) (k0_off6 k 9#32) S1x1x64x256.size (k0_off6_inb k 9))) (View.ld (arg6.view.read (Elt Ideal) X_arg6) (Rect.unit (s := S1x33x128x256) (k0_off6 k 10#32) S1x1x64x256.size (k0_off6_inb k 10)))) (View.ld (arg11.view.read (Elt Ideal) f11) (Rect.unit (s := S8x2048) ![0, 0] S1x512.size inb_S8x2048_S1x512_0_0))⟩] := by
  unfold trip_k0_t2
  dsimp only
  sl_unfold_run_names
  unfold_payloads
  simp only [View.readAt_eq_ld, shapeCast_self]
  rfl

/-- What the trip leaves in the accumulator, -/
theorem t2_acc_apply (D : Fin 128) (x : Fin 2048) :
    arg9.view.read (Elt Ideal) (arg9.view.writes (Elt Ideal) f9 ((trip_k0_t2 (F := Ideal) 𝒱 c bd i arg3 harg3 arg4 harg4 arg5 harg5 arg6 harg6 arg7 harg7 arg8 harg8 arg9 harg9 arg10 harg10 arg11 harg11 X_arg4 X_arg5 X_arg6 k).1 f9 f10 f11)) (ix2 D x)
      = (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) (ix2 D x) := by
  rw [t2_acc]
  refine View.read_writes_apply_of_pieces _ _ (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) _ ?_ (ix2 D x) ?_
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![64, 1536] inb_S128x2048_S64x512_64_1536 1 3 rfl _ (fun d x => (accO_apply _ _ _ d x).trans (congrArg₂ (· + ·) (congrArg₂ (· * ·) ((alO_apply _ _ x).trans (congrArg₂ (fun z y => Ideal.exp2 (z - y)) (ldL _ _ inb_S8x2048_S1x512_1_1536 1 3 rfl x) ((mO_apply _ _ x).trans (congrArg₂ max (ldL _ _ inb_S8x2048_S1x512_1_1536 1 3 rfl x) (congrArg (Finset.fold max ⊥ · Finset.univ) (funext fun r => (sc_unit _ _ (t2k k) 1 3 _ (k0_off7_inb k) (k0_off7_eq k) _ inb_S1x256x2048_S1x128x512_0_128_1536 rfl r x))))))) (ldA _ _ inb_S128x2048_S64x512_64_1536 1 3 rfl d x)) (pv_unit_lo (arg6.view.read (Elt Ideal) X_arg6) (t2k k) 1 3 (fun t : Fin 11 => View.ld (arg6.view.read (Elt Ideal) X_arg6) (Rect.unit (s := S1x33x128x256) (k0_off8 k (BitVec.ofNat 32 t.val)) S1x1x64x256.size (k0_off8_inb k t))) (fun t d s => ldV _ _ (k0_off8_inb k t) (t2k k) t 1 (k0_off8_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 3 _ (k0_off7_inb k) (k0_off7_eq k) _ inb_S1x256x2048_S1x128x512_0_128_1536 rfl r x) ((mO_apply _ _ x).trans (congrArg₂ max (ldL _ _ inb_S8x2048_S1x512_1_1536 1 3 rfl x) (congrArg (Finset.fold max ⊥ · Finset.univ) (funext fun r => (sc_unit _ _ (t2k k) 1 3 _ (k0_off7_inb k) (k0_off7_eq k) _ inb_S1x256x2048_S1x128x512_0_128_1536 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 1 d ⟨512 * ((3 : Fin 4) : ℕ) + x.val, by have := x.isLt; have := (3 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![64, 1024] inb_S128x2048_S64x512_64_1024 1 2 rfl _ (fun d x => (accO_apply _ _ _ d x).trans (congrArg₂ (· + ·) (congrArg₂ (· * ·) ((alO_apply _ _ x).trans (congrArg₂ (fun z y => Ideal.exp2 (z - y)) (ldL _ _ inb_S8x2048_S1x512_1_1024 1 2 rfl x) ((mO_apply _ _ x).trans (congrArg₂ max (ldL _ _ inb_S8x2048_S1x512_1_1024 1 2 rfl x) (congrArg (Finset.fold max ⊥ · Finset.univ) (funext fun r => (sc_unit _ _ (t2k k) 1 2 _ (k0_off7_inb k) (k0_off7_eq k) _ inb_S1x256x2048_S1x128x512_0_128_1024 rfl r x))))))) (ldA _ _ inb_S128x2048_S64x512_64_1024 1 2 rfl d x)) (pv_unit_lo (arg6.view.read (Elt Ideal) X_arg6) (t2k k) 1 2 (fun t : Fin 11 => View.ld (arg6.view.read (Elt Ideal) X_arg6) (Rect.unit (s := S1x33x128x256) (k0_off8 k (BitVec.ofNat 32 t.val)) S1x1x64x256.size (k0_off8_inb k t))) (fun t d s => ldV _ _ (k0_off8_inb k t) (t2k k) t 1 (k0_off8_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 2 _ (k0_off7_inb k) (k0_off7_eq k) _ inb_S1x256x2048_S1x128x512_0_128_1024 rfl r x) ((mO_apply _ _ x).trans (congrArg₂ max (ldL _ _ inb_S8x2048_S1x512_1_1024 1 2 rfl x) (congrArg (Finset.fold max ⊥ · Finset.univ) (funext fun r => (sc_unit _ _ (t2k k) 1 2 _ (k0_off7_inb k) (k0_off7_eq k) _ inb_S1x256x2048_S1x128x512_0_128_1024 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 1 d ⟨512 * ((2 : Fin 4) : ℕ) + x.val, by have := x.isLt; have := (2 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![64, 512] inb_S128x2048_S64x512_64_512 1 1 rfl _ (fun d x => (accO_apply _ _ _ d x).trans (congrArg₂ (· + ·) (congrArg₂ (· * ·) ((alO_apply _ _ x).trans (congrArg₂ (fun z y => Ideal.exp2 (z - y)) (ldL _ _ inb_S8x2048_S1x512_1_512 1 1 rfl x) ((mO_apply _ _ x).trans (congrArg₂ max (ldL _ _ inb_S8x2048_S1x512_1_512 1 1 rfl x) (congrArg (Finset.fold max ⊥ · Finset.univ) (funext fun r => (sc_unit _ _ (t2k k) 1 1 _ (k0_off7_inb k) (k0_off7_eq k) _ inb_S1x256x2048_S1x128x512_0_128_512 rfl r x))))))) (ldA _ _ inb_S128x2048_S64x512_64_512 1 1 rfl d x)) (pv_unit_lo (arg6.view.read (Elt Ideal) X_arg6) (t2k k) 1 1 (fun t : Fin 11 => View.ld (arg6.view.read (Elt Ideal) X_arg6) (Rect.unit (s := S1x33x128x256) (k0_off8 k (BitVec.ofNat 32 t.val)) S1x1x64x256.size (k0_off8_inb k t))) (fun t d s => ldV _ _ (k0_off8_inb k t) (t2k k) t 1 (k0_off8_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 1 _ (k0_off7_inb k) (k0_off7_eq k) _ inb_S1x256x2048_S1x128x512_0_128_512 rfl r x) ((mO_apply _ _ x).trans (congrArg₂ max (ldL _ _ inb_S8x2048_S1x512_1_512 1 1 rfl x) (congrArg (Finset.fold max ⊥ · Finset.univ) (funext fun r => (sc_unit _ _ (t2k k) 1 1 _ (k0_off7_inb k) (k0_off7_eq k) _ inb_S1x256x2048_S1x128x512_0_128_512 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 1 d ⟨512 * ((1 : Fin 4) : ℕ) + x.val, by have := x.isLt; have := (1 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![64, 0] inb_S128x2048_S64x512_64_0 1 0 rfl _ (fun d x => (accO_apply _ _ _ d x).trans (congrArg₂ (· + ·) (congrArg₂ (· * ·) ((alO_apply _ _ x).trans (congrArg₂ (fun z y => Ideal.exp2 (z - y)) (ldL _ _ inb_S8x2048_S1x512_1_0 1 0 rfl x) ((mO_apply _ _ x).trans (congrArg₂ max (ldL _ _ inb_S8x2048_S1x512_1_0 1 0 rfl x) (congrArg (Finset.fold max ⊥ · Finset.univ) (funext fun r => (sc_unit _ _ (t2k k) 1 0 _ (k0_off7_inb k) (k0_off7_eq k) _ inb_S1x256x2048_S1x128x512_0_128_0 rfl r x))))))) (ldA _ _ inb_S128x2048_S64x512_64_0 1 0 rfl d x)) (pv_unit_lo (arg6.view.read (Elt Ideal) X_arg6) (t2k k) 1 0 (fun t : Fin 11 => View.ld (arg6.view.read (Elt Ideal) X_arg6) (Rect.unit (s := S1x33x128x256) (k0_off8 k (BitVec.ofNat 32 t.val)) S1x1x64x256.size (k0_off8_inb k t))) (fun t d s => ldV _ _ (k0_off8_inb k t) (t2k k) t 1 (k0_off8_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 0 _ (k0_off7_inb k) (k0_off7_eq k) _ inb_S1x256x2048_S1x128x512_0_128_0 rfl r x) ((mO_apply _ _ x).trans (congrArg₂ max (ldL _ _ inb_S8x2048_S1x512_1_0 1 0 rfl x) (congrArg (Finset.fold max ⊥ · Finset.univ) (funext fun r => (sc_unit _ _ (t2k k) 1 0 _ (k0_off7_inb k) (k0_off7_eq k) _ inb_S1x256x2048_S1x128x512_0_128_0 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 1 d ⟨512 * ((0 : Fin 4) : ℕ) + x.val, by have := x.isLt; have := (0 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![0, 1536] inb_S128x2048_S64x512_0_1536 0 3 rfl _ (fun d x => (accO_apply _ _ _ d x).trans (congrArg₂ (· + ·) (congrArg₂ (· * ·) ((alO_apply _ _ x).trans (congrArg₂ (fun z y => Ideal.exp2 (z - y)) (ldL _ _ inb_S8x2048_S1x512_0_1536 0 3 rfl x) ((mO_apply _ _ x).trans (congrArg₂ max (ldL _ _ inb_S8x2048_S1x512_0_1536 0 3 rfl x) (congrArg (Finset.fold max ⊥ · Finset.univ) (funext fun r => (sc_unit _ _ (t2k k) 0 3 _ (k0_off5_inb k) (k0_off5_eq k) _ inb_S1x256x2048_S1x128x512_0_0_1536 rfl r x))))))) (ldA _ _ inb_S128x2048_S64x512_0_1536 0 3 rfl d x)) (pv_unit_lo (arg6.view.read (Elt Ideal) X_arg6) (t2k k) 0 3 (fun t : Fin 11 => View.ld (arg6.view.read (Elt Ideal) X_arg6) (Rect.unit (s := S1x33x128x256) (k0_off6 k (BitVec.ofNat 32 t.val)) S1x1x64x256.size (k0_off6_inb k t))) (fun t d s => ldV _ _ (k0_off6_inb k t) (t2k k) t 0 (k0_off6_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 3 _ (k0_off5_inb k) (k0_off5_eq k) _ inb_S1x256x2048_S1x128x512_0_0_1536 rfl r x) ((mO_apply _ _ x).trans (congrArg₂ max (ldL _ _ inb_S8x2048_S1x512_0_1536 0 3 rfl x) (congrArg (Finset.fold max ⊥ · Finset.univ) (funext fun r => (sc_unit _ _ (t2k k) 0 3 _ (k0_off5_inb k) (k0_off5_eq k) _ inb_S1x256x2048_S1x128x512_0_0_1536 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 0 d ⟨512 * ((3 : Fin 4) : ℕ) + x.val, by have := x.isLt; have := (3 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![0, 1024] inb_S128x2048_S64x512_0_1024 0 2 rfl _ (fun d x => (accO_apply _ _ _ d x).trans (congrArg₂ (· + ·) (congrArg₂ (· * ·) ((alO_apply _ _ x).trans (congrArg₂ (fun z y => Ideal.exp2 (z - y)) (ldL _ _ inb_S8x2048_S1x512_0_1024 0 2 rfl x) ((mO_apply _ _ x).trans (congrArg₂ max (ldL _ _ inb_S8x2048_S1x512_0_1024 0 2 rfl x) (congrArg (Finset.fold max ⊥ · Finset.univ) (funext fun r => (sc_unit _ _ (t2k k) 0 2 _ (k0_off5_inb k) (k0_off5_eq k) _ inb_S1x256x2048_S1x128x512_0_0_1024 rfl r x))))))) (ldA _ _ inb_S128x2048_S64x512_0_1024 0 2 rfl d x)) (pv_unit_lo (arg6.view.read (Elt Ideal) X_arg6) (t2k k) 0 2 (fun t : Fin 11 => View.ld (arg6.view.read (Elt Ideal) X_arg6) (Rect.unit (s := S1x33x128x256) (k0_off6 k (BitVec.ofNat 32 t.val)) S1x1x64x256.size (k0_off6_inb k t))) (fun t d s => ldV _ _ (k0_off6_inb k t) (t2k k) t 0 (k0_off6_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 2 _ (k0_off5_inb k) (k0_off5_eq k) _ inb_S1x256x2048_S1x128x512_0_0_1024 rfl r x) ((mO_apply _ _ x).trans (congrArg₂ max (ldL _ _ inb_S8x2048_S1x512_0_1024 0 2 rfl x) (congrArg (Finset.fold max ⊥ · Finset.univ) (funext fun r => (sc_unit _ _ (t2k k) 0 2 _ (k0_off5_inb k) (k0_off5_eq k) _ inb_S1x256x2048_S1x128x512_0_0_1024 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 0 d ⟨512 * ((2 : Fin 4) : ℕ) + x.val, by have := x.isLt; have := (2 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![0, 512] inb_S128x2048_S64x512_0_512 0 1 rfl _ (fun d x => (accO_apply _ _ _ d x).trans (congrArg₂ (· + ·) (congrArg₂ (· * ·) ((alO_apply _ _ x).trans (congrArg₂ (fun z y => Ideal.exp2 (z - y)) (ldL _ _ inb_S8x2048_S1x512_0_512 0 1 rfl x) ((mO_apply _ _ x).trans (congrArg₂ max (ldL _ _ inb_S8x2048_S1x512_0_512 0 1 rfl x) (congrArg (Finset.fold max ⊥ · Finset.univ) (funext fun r => (sc_unit _ _ (t2k k) 0 1 _ (k0_off5_inb k) (k0_off5_eq k) _ inb_S1x256x2048_S1x128x512_0_0_512 rfl r x))))))) (ldA _ _ inb_S128x2048_S64x512_0_512 0 1 rfl d x)) (pv_unit_lo (arg6.view.read (Elt Ideal) X_arg6) (t2k k) 0 1 (fun t : Fin 11 => View.ld (arg6.view.read (Elt Ideal) X_arg6) (Rect.unit (s := S1x33x128x256) (k0_off6 k (BitVec.ofNat 32 t.val)) S1x1x64x256.size (k0_off6_inb k t))) (fun t d s => ldV _ _ (k0_off6_inb k t) (t2k k) t 0 (k0_off6_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 1 _ (k0_off5_inb k) (k0_off5_eq k) _ inb_S1x256x2048_S1x128x512_0_0_512 rfl r x) ((mO_apply _ _ x).trans (congrArg₂ max (ldL _ _ inb_S8x2048_S1x512_0_512 0 1 rfl x) (congrArg (Finset.fold max ⊥ · Finset.univ) (funext fun r => (sc_unit _ _ (t2k k) 0 1 _ (k0_off5_inb k) (k0_off5_eq k) _ inb_S1x256x2048_S1x128x512_0_0_512 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 0 d ⟨512 * ((1 : Fin 4) : ℕ) + x.val, by have := x.isLt; have := (1 : Fin 4).isLt; omega⟩).symm) x
    · exact fun x => pieceA (gA (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9)) ![0, 0] inb_S128x2048_S64x512_0_0 0 0 rfl _ (fun d x => (accO_apply _ _ _ d x).trans (congrArg₂ (· + ·) (congrArg₂ (· * ·) ((alO_apply _ _ x).trans (congrArg₂ (fun z y => Ideal.exp2 (z - y)) (ldL _ _ inb_S8x2048_S1x512_0_0 0 0 rfl x) ((mO_apply _ _ x).trans (congrArg₂ max (ldL _ _ inb_S8x2048_S1x512_0_0 0 0 rfl x) (congrArg (Finset.fold max ⊥ · Finset.univ) (funext fun r => (sc_unit _ _ (t2k k) 0 0 _ (k0_off5_inb k) (k0_off5_eq k) _ inb_S1x256x2048_S1x128x512_0_0_0 rfl r x))))))) (ldA _ _ inb_S128x2048_S64x512_0_0 0 0 rfl d x)) (pv_unit_lo (arg6.view.read (Elt Ideal) X_arg6) (t2k k) 0 0 (fun t : Fin 11 => View.ld (arg6.view.read (Elt Ideal) X_arg6) (Rect.unit (s := S1x33x128x256) (k0_off6 k (BitVec.ofNat 32 t.val)) S1x1x64x256.size (k0_off6_inb k t))) (fun t d s => ldV _ _ (k0_off6_inb k t) (t2k k) t 0 (k0_off6_eq k t) d s) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 0 _ (k0_off5_inb k) (k0_off5_eq k) _ inb_S1x256x2048_S1x128x512_0_0_0 rfl r x) ((mO_apply _ _ x).trans (congrArg₂ max (ldL _ _ inb_S8x2048_S1x512_0_0 0 0 rfl x) (congrArg (Finset.fold max ⊥ · Finset.univ) (funext fun r => (sc_unit _ _ (t2k k) 0 0 _ (k0_off5_inb k) (k0_off5_eq k) _ inb_S1x256x2048_S1x128x512_0_0_0 rfl r x))))))) d x))|>.trans (gA_apply (arg6.view.read (Elt Ideal) X_arg6) (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg9.view.read (Elt Ideal) f9) 0 d ⟨512 * ((0 : Fin 4) : ℕ) + x.val, by have := x.isLt; have := (0 : Fin 4).isLt; omega⟩).symm) x
  obtain ⟨j, d, rfl⟩ : ∃ (j : Fin 2) (d : Fin 64), D = ⟨64 * j.val + d.val, by omega⟩ := ⟨⟨D.val / 64, by omega⟩, ⟨D.val % 64, by omega⟩, Fin.ext (by show D.val = 64 * (D.val / 64) + D.val % 64; omega)⟩
  obtain ⟨c, x, rfl⟩ : ∃ (c : Fin 4) (y : Fin 512), x = ⟨512 * c.val + y.val, by omega⟩ := ⟨⟨x.val / 512, by omega⟩, ⟨x.val % 512, by omega⟩, Fin.ext (by show x.val = 512 * (x.val / 512) + x.val % 512; omega)⟩
  match j, c with
  | 0, 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memA _ (inb_S128x2048_S64x512_0_0) 0 0 rfl d x⟩
  | 0, 1 => exact ⟨_, List.mem_cons_of_mem _ (List.mem_cons_of_mem _ (List.mem_cons_of_mem _ (List.mem_cons_of_mem _ (List.mem_cons_of_mem _ (List.mem_cons_of_mem _ (List.mem_cons_self)))))), memA _ (inb_S128x2048_S64x512_0_512) 0 1 rfl d x⟩
  | 0, 2 => exact ⟨_, List.mem_cons_of_mem _ (List.mem_cons_of_mem _ (List.mem_cons_of_mem _ (List.mem_cons_of_mem _ (List.mem_cons_of_mem _ (List.mem_cons_self))))), memA _ (inb_S128x2048_S64x512_0_1024) 0 2 rfl d x⟩
  | 0, 3 => exact ⟨_, List.mem_cons_of_mem _ (List.mem_cons_of_mem _ (List.mem_cons_of_mem _ (List.mem_cons_of_mem _ (List.mem_cons_self)))), memA _ (inb_S128x2048_S64x512_0_1536) 0 3 rfl d x⟩
  | 1, 0 => exact ⟨_, List.mem_cons_of_mem _ (List.mem_cons_of_mem _ (List.mem_cons_of_mem _ (List.mem_cons_self))), memA _ (inb_S128x2048_S64x512_64_0) 1 0 rfl d x⟩
  | 1, 1 => exact ⟨_, List.mem_cons_of_mem _ (List.mem_cons_of_mem _ (List.mem_cons_self)), memA _ (inb_S128x2048_S64x512_64_512) 1 1 rfl d x⟩
  | 1, 2 => exact ⟨_, List.mem_cons_of_mem _ (List.mem_cons_self), memA _ (inb_S128x2048_S64x512_64_1024) 1 2 rfl d x⟩
  | 1, 3 => exact ⟨_, List.mem_cons_self, memA _ (inb_S128x2048_S64x512_64_1536) 1 3 rfl d x⟩

/-- in the running maximum -/
theorem t2_m_apply (j : Fin 2) (x : Fin 2048) :
    arg10.view.read (Elt Ideal) (arg10.view.writes (Elt Ideal) f10 ((trip_k0_t2 (F := Ideal) 𝒱 c bd i arg3 harg3 arg4 harg4 arg5 harg5 arg6 harg6 arg7 harg7 arg8 harg8 arg9 harg9 arg10 harg10 arg11 harg11 X_arg4 X_arg5 X_arg6 k).2.1 f9 f10 f11)) (ix2 ⟨j.val, by omega⟩ x)
      = (gM (maxM (score (arg4.view.read (Elt Ideal) X_arg4) (arg5.view.read (Elt Ideal) X_arg5)) (t2k k) (rows (arg10.view.read (Elt Ideal) f10)))) (ix2 ⟨j.val, by omega⟩ x) := by
  rw [t2_m]
  refine (View.read_writes_apply_of_pieces _ _ (gM (maxM (score (arg4.view.read (Elt Ideal) X_arg4) (arg5.view.read (Elt Ideal) X_arg5)) (t2k k) (rows (arg10.view.read (Elt Ideal) f10)))) _ ?_ (ix2 ⟨j.val, by omega⟩ x) ?_)
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact fun x => pieceL (gM (maxM (score (arg4.view.read (Elt Ideal) X_arg4) (arg5.view.read (Elt Ideal) X_arg5)) (t2k k) (rows (arg10.view.read (Elt Ideal) f10)))) ![1, 1536] inb_S8x2048_S1x512_1_1536 1 3 rfl _ (fun x => ((mO_apply _ _ x).trans (congrArg₂ max (ldL _ _ inb_S8x2048_S1x512_1_1536 1 3 rfl x) (congrArg (Finset.fold max ⊥ · Finset.univ) (funext fun r => (sc_unit _ _ (t2k k) 1 3 _ (k0_off7_inb k) (k0_off7_eq k) _ inb_S1x256x2048_S1x128x512_0_128_1536 rfl r x)))))) x
    · exact fun x => pieceL (gM (maxM (score (arg4.view.read (Elt Ideal) X_arg4) (arg5.view.read (Elt Ideal) X_arg5)) (t2k k) (rows (arg10.view.read (Elt Ideal) f10)))) ![1, 1024] inb_S8x2048_S1x512_1_1024 1 2 rfl _ (fun x => ((mO_apply _ _ x).trans (congrArg₂ max (ldL _ _ inb_S8x2048_S1x512_1_1024 1 2 rfl x) (congrArg (Finset.fold max ⊥ · Finset.univ) (funext fun r => (sc_unit _ _ (t2k k) 1 2 _ (k0_off7_inb k) (k0_off7_eq k) _ inb_S1x256x2048_S1x128x512_0_128_1024 rfl r x)))))) x
    · exact fun x => pieceL (gM (maxM (score (arg4.view.read (Elt Ideal) X_arg4) (arg5.view.read (Elt Ideal) X_arg5)) (t2k k) (rows (arg10.view.read (Elt Ideal) f10)))) ![1, 512] inb_S8x2048_S1x512_1_512 1 1 rfl _ (fun x => ((mO_apply _ _ x).trans (congrArg₂ max (ldL _ _ inb_S8x2048_S1x512_1_512 1 1 rfl x) (congrArg (Finset.fold max ⊥ · Finset.univ) (funext fun r => (sc_unit _ _ (t2k k) 1 1 _ (k0_off7_inb k) (k0_off7_eq k) _ inb_S1x256x2048_S1x128x512_0_128_512 rfl r x)))))) x
    · exact fun x => pieceL (gM (maxM (score (arg4.view.read (Elt Ideal) X_arg4) (arg5.view.read (Elt Ideal) X_arg5)) (t2k k) (rows (arg10.view.read (Elt Ideal) f10)))) ![1, 0] inb_S8x2048_S1x512_1_0 1 0 rfl _ (fun x => ((mO_apply _ _ x).trans (congrArg₂ max (ldL _ _ inb_S8x2048_S1x512_1_0 1 0 rfl x) (congrArg (Finset.fold max ⊥ · Finset.univ) (funext fun r => (sc_unit _ _ (t2k k) 1 0 _ (k0_off7_inb k) (k0_off7_eq k) _ inb_S1x256x2048_S1x128x512_0_128_0 rfl r x)))))) x
    · exact fun x => pieceL (gM (maxM (score (arg4.view.read (Elt Ideal) X_arg4) (arg5.view.read (Elt Ideal) X_arg5)) (t2k k) (rows (arg10.view.read (Elt Ideal) f10)))) ![0, 1536] inb_S8x2048_S1x512_0_1536 0 3 rfl _ (fun x => ((mO_apply _ _ x).trans (congrArg₂ max (ldL _ _ inb_S8x2048_S1x512_0_1536 0 3 rfl x) (congrArg (Finset.fold max ⊥ · Finset.univ) (funext fun r => (sc_unit _ _ (t2k k) 0 3 _ (k0_off5_inb k) (k0_off5_eq k) _ inb_S1x256x2048_S1x128x512_0_0_1536 rfl r x)))))) x
    · exact fun x => pieceL (gM (maxM (score (arg4.view.read (Elt Ideal) X_arg4) (arg5.view.read (Elt Ideal) X_arg5)) (t2k k) (rows (arg10.view.read (Elt Ideal) f10)))) ![0, 1024] inb_S8x2048_S1x512_0_1024 0 2 rfl _ (fun x => ((mO_apply _ _ x).trans (congrArg₂ max (ldL _ _ inb_S8x2048_S1x512_0_1024 0 2 rfl x) (congrArg (Finset.fold max ⊥ · Finset.univ) (funext fun r => (sc_unit _ _ (t2k k) 0 2 _ (k0_off5_inb k) (k0_off5_eq k) _ inb_S1x256x2048_S1x128x512_0_0_1024 rfl r x)))))) x
    · exact fun x => pieceL (gM (maxM (score (arg4.view.read (Elt Ideal) X_arg4) (arg5.view.read (Elt Ideal) X_arg5)) (t2k k) (rows (arg10.view.read (Elt Ideal) f10)))) ![0, 512] inb_S8x2048_S1x512_0_512 0 1 rfl _ (fun x => ((mO_apply _ _ x).trans (congrArg₂ max (ldL _ _ inb_S8x2048_S1x512_0_512 0 1 rfl x) (congrArg (Finset.fold max ⊥ · Finset.univ) (funext fun r => (sc_unit _ _ (t2k k) 0 1 _ (k0_off5_inb k) (k0_off5_eq k) _ inb_S1x256x2048_S1x128x512_0_0_512 rfl r x)))))) x
    · exact fun x => pieceL (gM (maxM (score (arg4.view.read (Elt Ideal) X_arg4) (arg5.view.read (Elt Ideal) X_arg5)) (t2k k) (rows (arg10.view.read (Elt Ideal) f10)))) ![0, 0] inb_S8x2048_S1x512_0_0 0 0 rfl _ (fun x => ((mO_apply _ _ x).trans (congrArg₂ max (ldL _ _ inb_S8x2048_S1x512_0_0 0 0 rfl x) (congrArg (Finset.fold max ⊥ · Finset.univ) (funext fun r => (sc_unit _ _ (t2k k) 0 0 _ (k0_off5_inb k) (k0_off5_eq k) _ inb_S1x256x2048_S1x128x512_0_0_0 rfl r x)))))) x
  obtain ⟨c, x, rfl⟩ : ∃ (c : Fin 4) (y : Fin 512), x = ⟨512 * c.val + y.val, by omega⟩ := ⟨⟨x.val / 512, by omega⟩, ⟨x.val % 512, by omega⟩, Fin.ext (by show x.val = 512 * (x.val / 512) + x.val % 512; omega)⟩
  match j, c with
  | 0, 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memL _ (inb_S8x2048_S1x512_0_0) 0 0 rfl x⟩
  | 0, 1 => exact ⟨_, List.mem_cons_of_mem _ (List.mem_cons_of_mem _ (List.mem_cons_of_mem _ (List.mem_cons_of_mem _ (List.mem_cons_of_mem _ (List.mem_cons_of_mem _ (List.mem_cons_self)))))), memL _ (inb_S8x2048_S1x512_0_512) 0 1 rfl x⟩
  | 0, 2 => exact ⟨_, List.mem_cons_of_mem _ (List.mem_cons_of_mem _ (List.mem_cons_of_mem _ (List.mem_cons_of_mem _ (List.mem_cons_of_mem _ (List.mem_cons_self))))), memL _ (inb_S8x2048_S1x512_0_1024) 0 2 rfl x⟩
  | 0, 3 => exact ⟨_, List.mem_cons_of_mem _ (List.mem_cons_of_mem _ (List.mem_cons_of_mem _ (List.mem_cons_of_mem _ (List.mem_cons_self)))), memL _ (inb_S8x2048_S1x512_0_1536) 0 3 rfl x⟩
  | 1, 0 => exact ⟨_, List.mem_cons_of_mem _ (List.mem_cons_of_mem _ (List.mem_cons_of_mem _ (List.mem_cons_self))), memL _ (inb_S8x2048_S1x512_1_0) 1 0 rfl x⟩
  | 1, 1 => exact ⟨_, List.mem_cons_of_mem _ (List.mem_cons_of_mem _ (List.mem_cons_self)), memL _ (inb_S8x2048_S1x512_1_512) 1 1 rfl x⟩
  | 1, 2 => exact ⟨_, List.mem_cons_of_mem _ (List.mem_cons_self), memL _ (inb_S8x2048_S1x512_1_1024) 1 2 rfl x⟩
  | 1, 3 => exact ⟨_, List.mem_cons_self, memL _ (inb_S8x2048_S1x512_1_1536) 1 3 rfl x⟩

/-- and in the weights' sums. -/
theorem t2_l_apply (j : Fin 2) (x : Fin 2048) :
    arg11.view.read (Elt Ideal) (arg11.view.writes (Elt Ideal) f11 ((trip_k0_t2 (F := Ideal) 𝒱 c bd i arg3 harg3 arg4 harg4 arg5 harg5 arg6 harg6 arg7 harg7 arg8 harg8 arg9 harg9 arg10 harg10 arg11 harg11 X_arg4 X_arg5 X_arg6 k).2.2.1 f9 f10 f11)) (ix2 ⟨j.val, by omega⟩ x)
      = (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) (ix2 ⟨j.val, by omega⟩ x) := by
  rw [t2_l]
  refine (View.read_writes_apply_of_pieces _ _ (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) _ ?_ (ix2 ⟨j.val, by omega⟩ x) ?_)
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![1, 1536] inb_S8x2048_S1x512_1_1536 1 3 rfl _ (fun x => (lO_apply _ _ _ x).trans (congrArg₂ (· + ·) (congrArg₂ (· * ·) ((alO_apply _ _ x).trans (congrArg₂ (fun z y => Ideal.exp2 (z - y)) (ldL _ _ inb_S8x2048_S1x512_1_1536 1 3 rfl x) ((mO_apply _ _ x).trans (congrArg₂ max (ldL _ _ inb_S8x2048_S1x512_1_1536 1 3 rfl x) (congrArg (Finset.fold max ⊥ · Finset.univ) (funext fun r => (sc_unit _ _ (t2k k) 1 3 _ (k0_off7_inb k) (k0_off7_eq k) _ inb_S1x256x2048_S1x128x512_0_128_1536 rfl r x))))))) (ldL _ _ inb_S8x2048_S1x512_1_1536 1 3 rfl x)) (pv_unit_hi (t2k k) 1 3 (fun t : Fin 11 => View.ld (arg6.view.read (Elt Ideal) X_arg6) (Rect.unit (s := S1x33x128x256) (k0_off8 k (BitVec.ofNat 32 t.val)) S1x1x64x256.size (k0_off8_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 3 _ (k0_off7_inb k) (k0_off7_eq k) _ inb_S1x256x2048_S1x128x512_0_128_1536 rfl r x) ((mO_apply _ _ x).trans (congrArg₂ max (ldL _ _ inb_S8x2048_S1x512_1_1536 1 3 rfl x) (congrArg (Finset.fold max ⊥ · Finset.univ) (funext fun r => (sc_unit _ _ (t2k k) 1 3 _ (k0_off7_inb k) (k0_off7_eq k) _ inb_S1x256x2048_S1x128x512_0_128_1536 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![1, 1024] inb_S8x2048_S1x512_1_1024 1 2 rfl _ (fun x => (lO_apply _ _ _ x).trans (congrArg₂ (· + ·) (congrArg₂ (· * ·) ((alO_apply _ _ x).trans (congrArg₂ (fun z y => Ideal.exp2 (z - y)) (ldL _ _ inb_S8x2048_S1x512_1_1024 1 2 rfl x) ((mO_apply _ _ x).trans (congrArg₂ max (ldL _ _ inb_S8x2048_S1x512_1_1024 1 2 rfl x) (congrArg (Finset.fold max ⊥ · Finset.univ) (funext fun r => (sc_unit _ _ (t2k k) 1 2 _ (k0_off7_inb k) (k0_off7_eq k) _ inb_S1x256x2048_S1x128x512_0_128_1024 rfl r x))))))) (ldL _ _ inb_S8x2048_S1x512_1_1024 1 2 rfl x)) (pv_unit_hi (t2k k) 1 2 (fun t : Fin 11 => View.ld (arg6.view.read (Elt Ideal) X_arg6) (Rect.unit (s := S1x33x128x256) (k0_off8 k (BitVec.ofNat 32 t.val)) S1x1x64x256.size (k0_off8_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 2 _ (k0_off7_inb k) (k0_off7_eq k) _ inb_S1x256x2048_S1x128x512_0_128_1024 rfl r x) ((mO_apply _ _ x).trans (congrArg₂ max (ldL _ _ inb_S8x2048_S1x512_1_1024 1 2 rfl x) (congrArg (Finset.fold max ⊥ · Finset.univ) (funext fun r => (sc_unit _ _ (t2k k) 1 2 _ (k0_off7_inb k) (k0_off7_eq k) _ inb_S1x256x2048_S1x128x512_0_128_1024 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![1, 512] inb_S8x2048_S1x512_1_512 1 1 rfl _ (fun x => (lO_apply _ _ _ x).trans (congrArg₂ (· + ·) (congrArg₂ (· * ·) ((alO_apply _ _ x).trans (congrArg₂ (fun z y => Ideal.exp2 (z - y)) (ldL _ _ inb_S8x2048_S1x512_1_512 1 1 rfl x) ((mO_apply _ _ x).trans (congrArg₂ max (ldL _ _ inb_S8x2048_S1x512_1_512 1 1 rfl x) (congrArg (Finset.fold max ⊥ · Finset.univ) (funext fun r => (sc_unit _ _ (t2k k) 1 1 _ (k0_off7_inb k) (k0_off7_eq k) _ inb_S1x256x2048_S1x128x512_0_128_512 rfl r x))))))) (ldL _ _ inb_S8x2048_S1x512_1_512 1 1 rfl x)) (pv_unit_hi (t2k k) 1 1 (fun t : Fin 11 => View.ld (arg6.view.read (Elt Ideal) X_arg6) (Rect.unit (s := S1x33x128x256) (k0_off8 k (BitVec.ofNat 32 t.val)) S1x1x64x256.size (k0_off8_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 1 _ (k0_off7_inb k) (k0_off7_eq k) _ inb_S1x256x2048_S1x128x512_0_128_512 rfl r x) ((mO_apply _ _ x).trans (congrArg₂ max (ldL _ _ inb_S8x2048_S1x512_1_512 1 1 rfl x) (congrArg (Finset.fold max ⊥ · Finset.univ) (funext fun r => (sc_unit _ _ (t2k k) 1 1 _ (k0_off7_inb k) (k0_off7_eq k) _ inb_S1x256x2048_S1x128x512_0_128_512 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![1, 0] inb_S8x2048_S1x512_1_0 1 0 rfl _ (fun x => (lO_apply _ _ _ x).trans (congrArg₂ (· + ·) (congrArg₂ (· * ·) ((alO_apply _ _ x).trans (congrArg₂ (fun z y => Ideal.exp2 (z - y)) (ldL _ _ inb_S8x2048_S1x512_1_0 1 0 rfl x) ((mO_apply _ _ x).trans (congrArg₂ max (ldL _ _ inb_S8x2048_S1x512_1_0 1 0 rfl x) (congrArg (Finset.fold max ⊥ · Finset.univ) (funext fun r => (sc_unit _ _ (t2k k) 1 0 _ (k0_off7_inb k) (k0_off7_eq k) _ inb_S1x256x2048_S1x128x512_0_128_0 rfl r x))))))) (ldL _ _ inb_S8x2048_S1x512_1_0 1 0 rfl x)) (pv_unit_hi (t2k k) 1 0 (fun t : Fin 11 => View.ld (arg6.view.read (Elt Ideal) X_arg6) (Rect.unit (s := S1x33x128x256) (k0_off8 k (BitVec.ofNat 32 t.val)) S1x1x64x256.size (k0_off8_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 1 0 _ (k0_off7_inb k) (k0_off7_eq k) _ inb_S1x256x2048_S1x128x512_0_128_0 rfl r x) ((mO_apply _ _ x).trans (congrArg₂ max (ldL _ _ inb_S8x2048_S1x512_1_0 1 0 rfl x) (congrArg (Finset.fold max ⊥ · Finset.univ) (funext fun r => (sc_unit _ _ (t2k k) 1 0 _ (k0_off7_inb k) (k0_off7_eq k) _ inb_S1x256x2048_S1x128x512_0_128_0 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![0, 1536] inb_S8x2048_S1x512_0_1536 0 3 rfl _ (fun x => (lO_apply _ _ _ x).trans (congrArg₂ (· + ·) (congrArg₂ (· * ·) ((alO_apply _ _ x).trans (congrArg₂ (fun z y => Ideal.exp2 (z - y)) (ldL _ _ inb_S8x2048_S1x512_0_1536 0 3 rfl x) ((mO_apply _ _ x).trans (congrArg₂ max (ldL _ _ inb_S8x2048_S1x512_0_1536 0 3 rfl x) (congrArg (Finset.fold max ⊥ · Finset.univ) (funext fun r => (sc_unit _ _ (t2k k) 0 3 _ (k0_off5_inb k) (k0_off5_eq k) _ inb_S1x256x2048_S1x128x512_0_0_1536 rfl r x))))))) (ldL _ _ inb_S8x2048_S1x512_0_1536 0 3 rfl x)) (pv_unit_hi (t2k k) 0 3 (fun t : Fin 11 => View.ld (arg6.view.read (Elt Ideal) X_arg6) (Rect.unit (s := S1x33x128x256) (k0_off6 k (BitVec.ofNat 32 t.val)) S1x1x64x256.size (k0_off6_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 3 _ (k0_off5_inb k) (k0_off5_eq k) _ inb_S1x256x2048_S1x128x512_0_0_1536 rfl r x) ((mO_apply _ _ x).trans (congrArg₂ max (ldL _ _ inb_S8x2048_S1x512_0_1536 0 3 rfl x) (congrArg (Finset.fold max ⊥ · Finset.univ) (funext fun r => (sc_unit _ _ (t2k k) 0 3 _ (k0_off5_inb k) (k0_off5_eq k) _ inb_S1x256x2048_S1x128x512_0_0_1536 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![0, 1024] inb_S8x2048_S1x512_0_1024 0 2 rfl _ (fun x => (lO_apply _ _ _ x).trans (congrArg₂ (· + ·) (congrArg₂ (· * ·) ((alO_apply _ _ x).trans (congrArg₂ (fun z y => Ideal.exp2 (z - y)) (ldL _ _ inb_S8x2048_S1x512_0_1024 0 2 rfl x) ((mO_apply _ _ x).trans (congrArg₂ max (ldL _ _ inb_S8x2048_S1x512_0_1024 0 2 rfl x) (congrArg (Finset.fold max ⊥ · Finset.univ) (funext fun r => (sc_unit _ _ (t2k k) 0 2 _ (k0_off5_inb k) (k0_off5_eq k) _ inb_S1x256x2048_S1x128x512_0_0_1024 rfl r x))))))) (ldL _ _ inb_S8x2048_S1x512_0_1024 0 2 rfl x)) (pv_unit_hi (t2k k) 0 2 (fun t : Fin 11 => View.ld (arg6.view.read (Elt Ideal) X_arg6) (Rect.unit (s := S1x33x128x256) (k0_off6 k (BitVec.ofNat 32 t.val)) S1x1x64x256.size (k0_off6_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 2 _ (k0_off5_inb k) (k0_off5_eq k) _ inb_S1x256x2048_S1x128x512_0_0_1024 rfl r x) ((mO_apply _ _ x).trans (congrArg₂ max (ldL _ _ inb_S8x2048_S1x512_0_1024 0 2 rfl x) (congrArg (Finset.fold max ⊥ · Finset.univ) (funext fun r => (sc_unit _ _ (t2k k) 0 2 _ (k0_off5_inb k) (k0_off5_eq k) _ inb_S1x256x2048_S1x128x512_0_0_1024 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![0, 512] inb_S8x2048_S1x512_0_512 0 1 rfl _ (fun x => (lO_apply _ _ _ x).trans (congrArg₂ (· + ·) (congrArg₂ (· * ·) ((alO_apply _ _ x).trans (congrArg₂ (fun z y => Ideal.exp2 (z - y)) (ldL _ _ inb_S8x2048_S1x512_0_512 0 1 rfl x) ((mO_apply _ _ x).trans (congrArg₂ max (ldL _ _ inb_S8x2048_S1x512_0_512 0 1 rfl x) (congrArg (Finset.fold max ⊥ · Finset.univ) (funext fun r => (sc_unit _ _ (t2k k) 0 1 _ (k0_off5_inb k) (k0_off5_eq k) _ inb_S1x256x2048_S1x128x512_0_0_512 rfl r x))))))) (ldL _ _ inb_S8x2048_S1x512_0_512 0 1 rfl x)) (pv_unit_hi (t2k k) 0 1 (fun t : Fin 11 => View.ld (arg6.view.read (Elt Ideal) X_arg6) (Rect.unit (s := S1x33x128x256) (k0_off6 k (BitVec.ofNat 32 t.val)) S1x1x64x256.size (k0_off6_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 1 _ (k0_off5_inb k) (k0_off5_eq k) _ inb_S1x256x2048_S1x128x512_0_0_512 rfl r x) ((mO_apply _ _ x).trans (congrArg₂ max (ldL _ _ inb_S8x2048_S1x512_0_512 0 1 rfl x) (congrArg (Finset.fold max ⊥ · Finset.univ) (funext fun r => (sc_unit _ _ (t2k k) 0 1 _ (k0_off5_inb k) (k0_off5_eq k) _ inb_S1x256x2048_S1x128x512_0_0_512 rfl r x))))))) x))) x
    · exact fun x => pieceL (gL (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (alF (score (arg4.view.read (Elt Ideal) X_arg4) (arg5.view.read (Elt Ideal) X_arg5)) (t2k k) (rows (arg10.view.read (Elt Ideal) f10))) (t2k k) (arg11.view.read (Elt Ideal) f11)) ![0, 0] inb_S8x2048_S1x512_0_0 0 0 rfl _ (fun x => (lO_apply _ _ _ x).trans (congrArg₂ (· + ·) (congrArg₂ (· * ·) ((alO_apply _ _ x).trans (congrArg₂ (fun z y => Ideal.exp2 (z - y)) (ldL _ _ inb_S8x2048_S1x512_0_0 0 0 rfl x) ((mO_apply _ _ x).trans (congrArg₂ max (ldL _ _ inb_S8x2048_S1x512_0_0 0 0 rfl x) (congrArg (Finset.fold max ⊥ · Finset.univ) (funext fun r => (sc_unit _ _ (t2k k) 0 0 _ (k0_off5_inb k) (k0_off5_eq k) _ inb_S1x256x2048_S1x128x512_0_0_0 rfl r x))))))) (ldL _ _ inb_S8x2048_S1x512_0_0 0 0 rfl x)) (pv_unit_hi (t2k k) 0 0 (fun t : Fin 11 => View.ld (arg6.view.read (Elt Ideal) X_arg6) (Rect.unit (s := S1x33x128x256) (k0_off6 k (BitVec.ofNat 32 t.val)) S1x1x64x256.size (k0_off6_inb k t))) _ (wF (score (arg4.view.read (Elt Ideal) X_arg4) (arg5.view.read (Elt Ideal) X_arg5)) (maxM (score (arg4.view.read (Elt Ideal) X_arg4) (arg5.view.read (Elt Ideal) X_arg5)) (t2k k) (rows (arg10.view.read (Elt Ideal) f10)))) (fun r x => (wO_apply _ _ r x).trans (congrArg₂ (fun z y => Ideal.exp2 (z - y)) (sc_unit _ _ (t2k k) 0 0 _ (k0_off5_inb k) (k0_off5_eq k) _ inb_S1x256x2048_S1x128x512_0_0_0 rfl r x) ((mO_apply _ _ x).trans (congrArg₂ max (ldL _ _ inb_S8x2048_S1x512_0_0 0 0 rfl x) (congrArg (Finset.fold max ⊥ · Finset.univ) (funext fun r => (sc_unit _ _ (t2k k) 0 0 _ (k0_off5_inb k) (k0_off5_eq k) _ inb_S1x256x2048_S1x128x512_0_0_0 rfl r x))))))) x))) x
  obtain ⟨c, x, rfl⟩ : ∃ (c : Fin 4) (y : Fin 512), x = ⟨512 * c.val + y.val, by omega⟩ := ⟨⟨x.val / 512, by omega⟩, ⟨x.val % 512, by omega⟩, Fin.ext (by show x.val = 512 * (x.val / 512) + x.val % 512; omega)⟩
  match j, c with
  | 0, 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memL _ (inb_S8x2048_S1x512_0_0) 0 0 rfl x⟩
  | 0, 1 => exact ⟨_, List.mem_cons_of_mem _ (List.mem_cons_of_mem _ (List.mem_cons_of_mem _ (List.mem_cons_of_mem _ (List.mem_cons_of_mem _ (List.mem_cons_of_mem _ (List.mem_cons_self)))))), memL _ (inb_S8x2048_S1x512_0_512) 0 1 rfl x⟩
  | 0, 2 => exact ⟨_, List.mem_cons_of_mem _ (List.mem_cons_of_mem _ (List.mem_cons_of_mem _ (List.mem_cons_of_mem _ (List.mem_cons_of_mem _ (List.mem_cons_self))))), memL _ (inb_S8x2048_S1x512_0_1024) 0 2 rfl x⟩
  | 0, 3 => exact ⟨_, List.mem_cons_of_mem _ (List.mem_cons_of_mem _ (List.mem_cons_of_mem _ (List.mem_cons_of_mem _ (List.mem_cons_self)))), memL _ (inb_S8x2048_S1x512_0_1536) 0 3 rfl x⟩
  | 1, 0 => exact ⟨_, List.mem_cons_of_mem _ (List.mem_cons_of_mem _ (List.mem_cons_of_mem _ (List.mem_cons_self))), memL _ (inb_S8x2048_S1x512_1_0) 1 0 rfl x⟩
  | 1, 1 => exact ⟨_, List.mem_cons_of_mem _ (List.mem_cons_of_mem _ (List.mem_cons_self)), memL _ (inb_S8x2048_S1x512_1_512) 1 1 rfl x⟩
  | 1, 2 => exact ⟨_, List.mem_cons_of_mem _ (List.mem_cons_self), memL _ (inb_S8x2048_S1x512_1_1024) 1 2 rfl x⟩
  | 1, 3 => exact ⟨_, List.mem_cons_self, memL _ (inb_S8x2048_S1x512_1_1536) 1 3 rfl x⟩
end trip

end Cert.KernelIdeal.Attn

end
-- ==== Proof.KernelIdeal.Loop.lean ====
/- Both key loops run to the end. -/
module

public import proofs.«01_k».proof.Proof.KernelIdeal.Unit
public import proofs.«01_k».proof.Proof.Gen.KernelIdeal.Loops
public import Idealize.ShloMosaic.Lib.Pointwise
public import Idealize.ShloMosaic.Lib.Pipeline.Value
public import Idealize.ShloMosaic.Lib.Pipeline.ValueKit.Tiles
public import proofs.«01_k».proof.Proof.KernelIdeal.TripB
public import proofs.«01_k».proof.Proof.KernelIdeal.TripO

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- The accumulator and the weights' sums after some trips of the bounded branch; -/
def bA (V : Vec Ideal S1x33x128x256 .bf16) (w : Fin 2 → Fin 8448 → Fin 2048 → EReal) : ℕ → Fin 128 → Fin 2048 → EReal
  | 0 => fun _ _ => 0
  | n + 1 => fun D x => bA V w n D x + addA V w (Fin.ofNat 3 n) D x
def bL (w : Fin 2 → Fin 8448 → Fin 2048 → EReal) : ℕ → Fin 2 → Fin 2048 → EReal
  | 0 => fun _ _ => 0
  | n + 1 => fun j x => bL w n j x + addL w (Fin.ofNat 3 n) j x
/-- the running maximum, the accumulator and the sums after some trips of the online branch. -/
def oM (S : Fin 2 → Fin 8448 → Fin 2048 → EReal) : ℕ → Fin 2 → Fin 2048 → EReal
  | 0 => fun _ _ => ⊥
  | n + 1 => maxM S (Fin.ofNat 3 n) (oM S n)
def oA (V : Vec Ideal S1x33x128x256 .bf16) (S : Fin 2 → Fin 8448 → Fin 2048 → EReal) : ℕ → Fin 128 → Fin 2048 → EReal
  | 0 => fun _ _ => 0
  | n + 1 => fun D x => alF S (Fin.ofNat 3 n) (oM S n) (headIx D) x * oA V S n D x + addA V (wF S (oM S (n + 1))) (Fin.ofNat 3 n) D x
def oL (S : Fin 2 → Fin 8448 → Fin 2048 → EReal) : ℕ → Fin 2 → Fin 2048 → EReal
  | 0 => fun _ _ => 0
  | n + 1 => fun j x => alF S (Fin.ofNat 3 n) (oM S n) j x * oL S n j x + addL (wF S (oM S (n + 1))) (Fin.ofNat 3 n) j x

theorem t1k_eq (n : ℕ) (h : n < k0_t1_loop.trips) : t1k ⟨n, h⟩ = Fin.ofNat 3 n := Fin.ext (Nat.mod_eq_of_lt (lt_of_lt_of_eq h t1_3)).symm
theorem t2k_eq (n : ℕ) (h : n < k0_t2_loop.trips) : t2k ⟨n, h⟩ = Fin.ofNat 3 n := Fin.ext (Nat.mod_eq_of_lt (lt_of_lt_of_eq h t2_3)).symm

section loops
variable (𝒱 : Variants) (c : Dev nD) (bd : Option 𝒱.V) (i : grid0.Coords) (arg3 : Memref sig .tc .smem S1 .i32) (harg3 : arg3.IsWhole) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole) (v3 : Vec Ideal S1x1 .f32) (X_arg4 : BufTy.Contents (Elt Ideal) arg4.view.ty) (X_arg5 : BufTy.Contents (Elt Ideal) arg5.view.ty) (X_arg6 : BufTy.Contents (Elt Ideal) arg6.view.ty) (G9 : BufTy.Contents (Elt Ideal) arg9.view.ty) (G11 : BufTy.Contents (Elt Ideal) arg11.view.ty) (h9 : ∀ y, arg9.view.read (Elt Ideal) G9 y = 0) (h11 : ∀ y, arg11.view.read (Elt Ideal) G11 y = 0)
include h9 h11
theorem loopB (n : ℕ) (hn : n ≤ 3) :
    (∀ (D : Fin 128) (x : Fin 2048), arg9.view.read (Elt Ideal) (arg9.view.writes (Elt Ideal) G9 (pb_k0_t1 (F := Ideal) 𝒱 c bd i arg3 harg3 arg4 harg4 arg5 harg5 arg6 harg6 arg7 harg7 arg8 harg8 arg9 harg9 arg10 harg10 arg11 harg11 v3 X_arg4 X_arg5 X_arg6 G9 G11 n).1) (ix2 D x) = bA (arg6.view.read (Elt Ideal) X_arg6) (fun j r x => Ideal.exp2 ((score (arg4.view.read (Elt Ideal) X_arg4) (arg5.view.read (Elt Ideal) X_arg5)) j r x - v3 (ix2 0 0))) n D x)
    ∧ (∀ (j : Fin 2) (x : Fin 2048), arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 v3 X_arg4 X_arg5 X_arg6 G9 G11 n).2) (ix2 ⟨j.val, by omega⟩ x) = bL (fun j r x => Ideal.exp2 ((score (arg4.view.read (Elt Ideal) X_arg4) (arg5.view.read (Elt Ideal) X_arg5)) j r x - v3 (ix2 0 0))) n j x) := by
  induction n with
  | zero => exact ⟨fun D x => h9 _, fun j x => h11 _⟩
  | succ n ih =>
    have hk : n < k0_t1_loop.trips := by rw [t1_3]; omega
    obtain ⟨iA, iL⟩ := ih (by omega)
    have e := pb_k0_t1_succ (F := Ideal) 𝒱 c bd i arg3 harg3 arg4 harg4 arg5 harg5 arg6 harg6 arg7 harg7 arg8 harg8 arg9 harg9 arg10 harg10 arg11 harg11 v3 X_arg4 X_arg5 X_arg6 G9 G11 ⟨n, hk⟩
    rw [show (n + 1) = (⟨n, hk⟩ : Fin k0_t1_loop.trips).val + 1 from rfl, e]
    refine ⟨fun D x => ?_, fun j x => ?_⟩
    · rw [View.writes_append]
      refine (t1_acc_apply 𝒱 c bd i arg3 harg3 arg4 harg4 arg5 harg5 arg6 harg6 arg7 harg7 arg8 harg8 arg9 harg9 arg10 harg10 arg11 harg11 v3 X_arg4 X_arg5 X_arg6 ⟨n, hk⟩ _ _ D x).trans ?_
      rw [iA D x, t1k_eq]; rfl
    · rw [View.writes_append]
      refine (t1_l_apply 𝒱 c bd i arg3 harg3 arg4 harg4 arg5 harg5 arg6 harg6 arg7 harg7 arg8 harg8 arg9 harg9 arg10 harg10 arg11 harg11 v3 X_arg4 X_arg5 X_arg6 ⟨n, hk⟩ _ _ j x).trans ?_
      rw [iL j x, t1k_eq]; rfl
omit v3
variable (G10 : BufTy.Contents (Elt Ideal) arg10.view.ty) (h10 : ∀ y, arg10.view.read (Elt Ideal) G10 y = ⊥)
include h10
theorem loopO (n : ℕ) (hn : n ≤ 3) :
    (∀ (D : Fin 128) (x : Fin 2048), arg9.view.read (Elt Ideal) (arg9.view.writes (Elt Ideal) G9 (pb_k0_t2 (F := Ideal) 𝒱 c bd i arg3 harg3 arg4 harg4 arg5 harg5 arg6 harg6 arg7 harg7 arg8 harg8 arg9 harg9 arg10 harg10 arg11 harg11 X_arg4 X_arg5 X_arg6 G9 G10 G11 n).1) (ix2 D x) = oA (arg6.view.read (Elt Ideal) X_arg6) (score (arg4.view.read (Elt Ideal) X_arg4) (arg5.view.read (Elt Ideal) X_arg5)) n D x)
    ∧ (rows (arg10.view.read (Elt Ideal) (arg10.view.writes (Elt Ideal) G10 (pb_k0_t2 (F := Ideal) 𝒱 c bd i arg3 harg3 arg4 harg4 arg5 harg5 arg6 harg6 arg7 harg7 arg8 harg8 arg9 harg9 arg10 harg10 arg11 harg11 X_arg4 X_arg5 X_arg6 G9 G10 G11 n).2.1)) = oM (score (arg4.view.read (Elt Ideal) X_arg4) (arg5.view.read (Elt Ideal) X_arg5)) n)
    ∧ (rows (arg11.view.read (Elt Ideal) (arg11.view.writes (Elt Ideal) G11 (pb_k0_t2 (F := Ideal) 𝒱 c bd i arg3 harg3 arg4 harg4 arg5 harg5 arg6 harg6 arg7 harg7 arg8 harg8 arg9 harg9 arg10 harg10 arg11 harg11 X_arg4 X_arg5 X_arg6 G9 G10 G11 n).2.2)) = oL (score (arg4.view.read (Elt Ideal) X_arg4) (arg5.view.read (Elt Ideal) X_arg5)) n) := by
  induction n with
  | zero => exact ⟨fun D x => h9 _, funext fun j => funext fun x => h10 _, funext fun j => funext fun x => h11 _⟩
  | succ n ih =>
    have hk : n < k0_t2_loop.trips := by rw [t2_3]; omega
    obtain ⟨iA, iM, iL⟩ := ih (by omega)
    have e := pb_k0_t2_succ (F := Ideal) 𝒱 c bd i arg3 harg3 arg4 harg4 arg5 harg5 arg6 harg6 arg7 harg7 arg8 harg8 arg9 harg9 arg10 harg10 arg11 harg11 X_arg4 X_arg5 X_arg6 G9 G10 G11 ⟨n, hk⟩
    rw [show (n + 1) = (⟨n, hk⟩ : Fin k0_t2_loop.trips).val + 1 from rfl, e]
    refine ⟨fun D x => ?_, funext fun j => funext fun x => ?_, funext fun j => funext fun x => ?_⟩
    · rw [View.writes_append]
      refine (t2_acc_apply 𝒱 c bd i arg3 harg3 arg4 harg4 arg5 harg5 arg6 harg6 arg7 harg7 arg8 harg8 arg9 harg9 arg10 harg10 arg11 harg11 X_arg4 X_arg5 X_arg6 ⟨n, hk⟩ _ _ _ D x).trans ?_
      rw [iM, t2k_eq]
      show alF _ _ _ _ _ * _ + _ = _
      erw [iA D x]; rfl
    · rw [View.writes_append]
      refine (t2_m_apply 𝒱 c bd i arg3 harg3 arg4 harg4 arg5 harg5 arg6 harg6 arg7 harg7 arg8 harg8 arg9 harg9 arg10 harg10 arg11 harg11 X_arg4 X_arg5 X_arg6 ⟨n, hk⟩ _ _ _ j x).trans ?_
      rw [iM, t2k_eq, gM_apply]; rfl
    · rw [View.writes_append]
      refine (t2_l_apply 𝒱 c bd i arg3 harg3 arg4 harg4 arg5 harg5 arg6 harg6 arg7 harg7 arg8 harg8 arg9 harg9 arg10 harg10 arg11 harg11 X_arg4 X_arg5 X_arg6 ⟨n, hk⟩ _ _ _ j x).trans ?_
      rw [iM, t2k_eq, gL_apply, iL]; rfl
end loops

/-- The output of a block: the accumulator times the inverse sums, transposed. -/
def outF (a : Vec Ideal S128x2048 .f32) (l0 l1 : Vec Ideal S1x2048 .f32) : FVec Ideal S1x2048x128 .f32 :=
  shapeCast S1x2048x128 (transpose S2048x128 [1, 0] (mulf a (select (cmpi CmpIPredicate.slt (iota Kind.tc S128x2048 32 [0] iota_S128x2048_d0_w32) (broadcast S128x2048 64#32))
    (broadcastTo S128x2048 (divf (broadcast S1x2048 (FloatOps.ofBits (F := Ideal) FTy.f32 1065353216#32)) l0) broadcasts_S1x2048_S128x2048)
    (broadcastTo S128x2048 (divf (broadcast S1x2048 (FloatOps.ofBits (F := Ideal) FTy.f32 1065353216#32)) l1) broadcasts_S1x2048_S128x2048)))
    transposes_S128x2048_p1_0_S2048x128) shapeCasts_S2048x128_S1x2048x128
theorem head_word : ∀ D : Fin 128, IntOp.cmpi CmpIPredicate.slt (BitVec.ofNat 32 D.val) 64#32 = if D.val < 64 then 1#1 else 0#1 := by decide +kernel
theorem outF_apply (a : Vec Ideal S128x2048 .f32) (l0 l1 : Vec Ideal S1x2048 .f32) (q : Fin 2048) (D : Fin 128) :
    outF a l0 l1 (ix3 0 q D) = a (ix2 D q) * (if D.val < 64 then Ideal.div 1 (l0 (ix2 0 q)) else Ideal.div 1 (l1 (ix2 0 q))) := by
  pointwise [outF]
  rw [head_word]
  split_ifs <;> rfl

end Cert.KernelIdeal.Attn

end
-- ==== Proof.KernelIdeal.Out.lean ====
/- What the body leaves in the result's block, read at an index. -/
module

public import proofs.«01_k».proof.Proof.KernelIdeal.Unit
public import proofs.«01_k».proof.Proof.Gen.KernelIdeal.Loops
public import Idealize.ShloMosaic.Lib.Pointwise
public import Idealize.ShloMosaic.Lib.Pipeline.Value
public import Idealize.ShloMosaic.Lib.Pipeline.ValueKit.Tiles
public import proofs.«01_k».proof.Proof.KernelIdeal.Loop
public import proofs.«01_k».proof.Proof.KernelIdeal.Frame
public import Idealize.ShloMosaic.Lib.WritesUnit

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

section body
variable (c : Dev nD) (i : grid0.Coords) (arg4 : Memref sig .tc .vmem S1x256x2048 .bf16) (harg4 : arg4.IsWhole) (arg5 : Memref sig .tc .vmem S1x8448x256 .bf16) (harg5 : arg5.IsWhole) (arg6 : Memref sig .tc .vmem S1x33x128x256 .bf16) (harg6 : arg6.IsWhole) (arg7 : Memref sig .tc .vmem S8x128 .f32) (harg7 : arg7.IsWhole) (arg8 : Memref sig .tc .vmem S1x2048x128 .f32) (harg8 : arg8.IsWhole) (arg9 : Memref sig .tc .vmem S128x2048 .f32) (harg9 : arg9.IsWhole) (arg10 : Memref sig .tc .vmem S8x2048 .f32) (harg10 : arg10.IsWhole) (arg11 : Memref sig .tc .vmem S8x2048 .f32) (harg11 : arg11.IsWhole)
    (x0 : Vec Ideal S1x256x2048 .bf16) (x1 : Vec Ideal S1x8448x256 .bf16) (x2 : Vec Ideal S1x33x128x256 .bf16) (x3 : Vec Ideal S8x128 .f32) (xt : TbBuf (F := Ideal) c tbM)

theorem full9 (v : View sig .tc .vmem S128x2048 .f32) (f) (w : Vec Ideal S128x2048 .f32) (y) :
    v.read (Elt Ideal) (v.writes (Elt Ideal) f [⟨Rect.unit (s := S128x2048) ![0, 0] S128x2048.size inb_S128x2048_S128x2048_0_0, w⟩]) y = w y := by
  refine View.read_writes_cons_unit_of_mem v f _ w [] y y rfl fun a => ?_
  match a with
  | 0 => exact (Nat.zero_add _).symm
  | 1 => exact (Nat.zero_add _).symm
theorem full8 (v : View sig .tc .vmem S8x2048 .f32) (f) (w : Vec Ideal S8x2048 .f32) (y) :
    v.read (Elt Ideal) (v.writes (Elt Ideal) f [⟨Rect.unit (s := S8x2048) ![0, 0] S8x2048.size inb_S8x2048_S8x2048_0_0, w⟩]) y = w y := by
  refine View.read_writes_cons_unit_of_mem v f _ w [] y y rfl fun a => ?_
  match a with
  | 0 => exact (Nat.zero_add _).symm
  | 1 => exact (Nat.zero_add _).symm
theorem fullO (f) (w : Vec Ideal S1x2048x128 .f32) (y) :
    VO.read (Elt Ideal) (VO.writes (Elt Ideal) f [⟨Rect.unit (s := S1x2048x128) ![0, 0, 0] S1x2048x128.size inb_S1x2048x128_S1x2048x128_0_0_0, w⟩]) y = w y := by
  refine View.read_writes_cons_unit_of_mem VO f _ w [] y y rfl fun a => ?_
  match a with
  | 0 => exact (Nat.zero_add _).symm
  | 1 => exact (Nat.zero_add _).symm
  | 2 => exact (Nat.zero_add _).symm
theorem zero_bits : FloatOps.ofBits (F := Ideal) FTy.f32 0#32 = (0 : EReal) := by
  show Ideal.ofBits .f32 0#32 = 0
  simp [Ideal.ofBits, Ideal.ieee]
theorem ldRow (L : Vec Ideal S8x2048 .f32) (j : Fin 2) (inb) (x : Fin 2048) :
    View.ld L (Rect.unit (s := S8x2048) ![j.val, 0] S1x2048.size inb) (ix2 0 x) = L (ix2 ⟨j.val, by omega⟩ x) := by
  refine View.ld_unit_apply_of _ _ _ _ _ _ fun a => ?_
  match a with
  | 0 => rfl
  | 1 => exact (Nat.zero_add _).symm
theorem ldAll (A : Vec Ideal S128x2048 .f32) (inb) (y : S128x2048.Idx) :
    View.ld A (Rect.unit (s := S128x2048) ![0, 0] S128x2048.size inb) y = A y := by
  refine View.ld_unit_apply_of _ _ _ _ _ _ fun a => ?_
  match a with
  | 0 => exact (Nat.zero_add _).symm
  | 1 => exact (Nat.zero_add _).symm

theorem runB_eq (h : flagW c xt = 1#32) : (runB (F := Ideal) c i arg4 harg4 arg5 harg5 arg6 harg6 arg7 harg7 arg8 harg8 arg9 harg9 arg10 harg10 arg11 harg11 x0 x1 x2 x3 xt h).1 =
    [⟨Rect.unit (s := S1x2048x128) ![0, 0, 0] S1x2048x128.size inb_S1x2048x128_S1x2048x128_0_0_0,
      outF (View.ld (arg9.view.read (Elt Ideal) (arg9.view.writes (Elt Ideal) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (pb_k0_t1 (F := Ideal) Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).1)) (Rect.unit (s := S128x2048) ![0, 0] S128x2048.size inb_S128x2048_S128x2048_0_0))
        (View.ld (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t1 (F := Ideal) Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2)) (Rect.unit (s := S8x2048) ![0, 0] S1x2048.size inb_S8x2048_S1x2048_0_0))
        (View.ld (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t1 (F := Ideal) Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2)) (Rect.unit (s := S8x2048) ![1, 0] S1x2048.size inb_S8x2048_S1x2048_1_0))⟩] := by
  unfold runB
  dsimp only
  sl_unfold_run_names
  unfold_payloads
  simp only [View.readAt_eq_ld, shapeCast_self, View.readCov, View.writes_append]
  rw [show Scf.trips (0#32) (Scalar.addi 0#32 3#32) 1#32 = 3 from t1_3]
  rfl
/-- The block of the result, its element at a query and an output feature. -/
theorem outB_apply (h : flagW c xt = 1#32) (q : Fin 2048) (D : Fin 128) :
    outB (F := Ideal) c i arg4 harg4 arg5 harg5 arg6 harg6 arg7 harg7 arg8 harg8 arg9 harg9 arg10 harg10 arg11 harg11 x0 x1 x2 x3 xt h (ix3 0 q D) = bA x2 (fun j r x => Ideal.exp2 (score x0 x1 j r x - x3 (ix2 0 0))) 3 D q * Ideal.div 1 (bL (fun j r x => Ideal.exp2 (score x0 x1 j r x - x3 (ix2 0 0))) 3 (headIx D) q) := by
  unfold outB
  rw [runB_eq]
  refine (fullO _ _ _).trans ((outF_apply _ _ _ q D).trans ?_)
  have hl := loopB Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (fun y => (full9 _ _ _ y).trans zero_bits) (fun y => (full8 _ _ _ y).trans zero_bits) 3 le_rfl
  obtain ⟨hA, hL⟩ := hl
  rw [ldAll, hA]
  have e0 := (ldRow (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t1 (F := Ideal) Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2)) 0 inb_S8x2048_S1x2048_0_0 q).trans (hL 0 q)
  have e1 := (ldRow (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t1 (F := Ideal) Variants.none c none i tbM htbM arg4 harg4 arg5 harg5 arg6 harg6 arg7 harg7 arg8 harg8 arg9 harg9 arg10 harg10 arg11 harg11 (View.ld (View.read (Elt Ideal) arg7.view (harg7.unread x3)) (Rect.unit (s := S8x128) ![0, 0] S1x1.size inb_S8x128_S1x1_0_0)) (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2)) 1 inb_S8x2048_S1x2048_1_0 q).trans (hL 1 q)
  have hd : (if D.val < 64 then (0 : Fin 2) else 1) = headIx D := by
    split_ifs with hD
    · exact Fin.ext (by show 0 = D.val / 64; omega)
    · exact Fin.ext (by show 1 = D.val / 64; omega)
  rw [← hd]
  have e4 := harg4.read_unread x0
  have e5 := harg5.read_unread x1
  have e6 := harg6.read_unread x2
  have e7 : (View.ld (View.read (Elt Ideal) arg7.view (harg7.unread x3)) (Rect.unit (s := S8x128) ![0, 0] S1x1.size inb_S8x128_S1x1_0_0)) (ix2 0 0) = x3 (ix2 0 0) := by
    refine (View.ld_unit_apply_of _ _ _ _ _ (ix2 0 0) fun a => ?_).trans (congrFun (harg7.read_unread x3) _)
    match a with
    | 0 => rfl
    | 1 => rfl
  rw [e4, e5, e7] at e0 e1
  rw [e4, e5, e6, e7]
  split_ifs
  · exact congrArg (fun z => _ * Ideal.div 1 z) e0
  · exact congrArg (fun z => _ * Ideal.div 1 z) e1

theorem runO_eq (h : flagW c xt ≠ 1#32) : (runO (F := Ideal) c i arg4 harg4 arg5 harg5 arg6 harg6 arg7 harg7 arg8 harg8 arg9 harg9 arg10 harg10 arg11 harg11 x0 x1 x2 x3 xt h).1 =
    [⟨Rect.unit (s := S1x2048x128) ![0, 0, 0] S1x2048x128.size inb_S1x2048x128_S1x2048x128_0_0_0,
      outF (View.ld (arg9.view.read (Elt Ideal) (arg9.view.writes (Elt Ideal) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (pb_k0_t2 (F := Ideal) Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).1)) (Rect.unit (s := S128x2048) ![0, 0] S128x2048.size inb_S128x2048_S128x2048_0_0))
        (View.ld (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t2 (F := Ideal) Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2.2)) (Rect.unit (s := S8x2048) ![0, 0] S1x2048.size inb_S8x2048_S1x2048_0_0))
        (View.ld (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t2 (F := Ideal) Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2.2)) (Rect.unit (s := S8x2048) ![1, 0] S1x2048.size inb_S8x2048_S1x2048_1_0))⟩] := by
  unfold runO
  dsimp only
  sl_unfold_run_names
  unfold_payloads
  simp only [View.readAt_eq_ld, shapeCast_self, View.readCov, View.writes_append]
  rw [show Scf.trips (0#32) (Scalar.addi 0#32 3#32) 1#32 = 3 from t2_3]
  rfl
/-- The block of the result, its element at a query and an output feature. -/
theorem outO_apply (h : flagW c xt ≠ 1#32) (q : Fin 2048) (D : Fin 128) :
    outO (F := Ideal) c i arg4 harg4 arg5 harg5 arg6 harg6 arg7 harg7 arg8 harg8 arg9 harg9 arg10 harg10 arg11 harg11 x0 x1 x2 x3 xt h (ix3 0 q D) = oA x2 (score x0 x1) 3 D q * Ideal.div 1 (oL (score x0 x1) 3 (headIx D) q) := by
  unfold outO
  rw [runO_eq]
  refine (fullO _ _ _).trans ((outF_apply _ _ _ q D).trans ?_)
  have hl := loopO Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (fun y => (full9 _ _ _ y).trans zero_bits) (fun y => (full8 _ _ _ y).trans zero_bits) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (fun y => (full8 _ _ _ y).trans negInf) 3 le_rfl
  obtain ⟨hA, -, hL⟩ := hl
  rw [ldAll, hA]
  have e0 := (ldRow (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t2 (F := Ideal) Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2.2)) 0 inb_S8x2048_S1x2048_0_0 q).trans (congrFun (congrFun hL 0) q)
  have e1 := (ldRow (arg11.view.read (Elt Ideal) (arg11.view.writes (Elt Ideal) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) (pb_k0_t2 (F := Ideal) Variants.none c none i tbM htbM arg4 harg4 arg5 harg5 arg6 harg6 arg7 harg7 arg8 harg8 arg9 harg9 arg10 harg10 arg11 harg11 (harg4.unread x0) (harg5.unread x1) (harg6.unread x2) (arg9.view.writes (Elt Ideal) arg9.view.junk [(⟨Rect.unit (s := S128x2048) ![0, 0] S128x2048.size inb_S128x2048_S128x2048_0_0, broadcast S128x2048 (FloatOps.ofBits (F := Ideal) FTy.f32 0#32)⟩ : View.Piece (Elt Ideal) S128x2048 .f32)]) (arg10.view.writes (Elt Ideal) arg10.view.junk [(⟨Rect.unit (s := S8x2048) ![0, 0] S8x2048.size inb_S8x2048_S8x2048_0_0, broadcast S8x2048 (FloatOps.ofBits (F := Ideal) FTy.f32 4286578688#32)⟩ : View.Piece (Elt Ideal) S8x2048 .f32)]) (arg11.view.writes (Elt Ideal) arg11.view.junk [(⟨Rect.unit (s := S8x2048) ![0, 0] S8x2048.size inb_S8x2048_S8x2048_0_0, broadcast S8x2048 (FloatOps.ofBits (F := Ideal) FTy.f32 0#32)⟩ : View.Piece (Elt Ideal) S8x2048 .f32)]) 3).2.2)) 1 inb_S8x2048_S1x2048_1_0 q).trans (congrFun (congrFun hL 1) q)
  have hd : (if D.val < 64 then (0 : Fin 2) else 1) = headIx D := by
    split_ifs with hD
    · exact Fin.ext (by show 0 = D.val / 64; omega)
    · exact Fin.ext (by show 1 = D.val / 64; omega)
  rw [← hd]
  have e4 := harg4.read_unread x0
  have e5 := harg5.read_unread x1
  have e6 := harg6.read_unread x2
  rw [e4, e5] at e0 e1
  rw [e4, e5, e6]
  split_ifs
  · exact congrArg (fun z => _ * Ideal.div 1 z) e0
  · exact congrArg (fun z => _ * Ideal.div 1 z) e1
end body

end Cert.KernelIdeal.Attn

end
-- ==== Proof.KernelIdeal.Blocks.lean ====
/- The windows' blocks read at coordinates. -/
module

public import proofs.«01_k».proof.Proof.KernelIdeal.Runs
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- A grid point's batch, head pair and query tile. -/
abbrev gb (t : Fin grid0.N) : Fin 2 := grid0.coords t 0
abbrev gh (t : Fin grid0.N) : Fin 4 := grid0.coords t 1
abbrev gq (t : Fin grid0.N) : Fin 4 := grid0.coords t 2

theorem ixQ : ∀ t : Fin grid0.N, cc0_transform_0 (grid0.coords t) = ![(gb t).val, (gh t).val, (gq t).val] := by decide +kernel
theorem ixK : ∀ t : Fin grid0.N, cc0_transform_1 (grid0.coords t) = ![(gb t).val, 0, (gh t).val] := by decide +kernel
theorem ixV : ∀ t : Fin grid0.N, cc0_transform_2 (grid0.coords t) = ![(gb t).val, 0, (gh t).val, 0] := by decide +kernel
theorem ixU : ∀ t : Fin grid0.N, cc0_transform_3 (grid0.coords t) = ![0, 0] := by decide +kernel
theorem ixO : ∀ t : Fin grid0.N, cc0_transform_4 (grid0.coords t) = ![(gb t).val, (gq t).val, (gh t).val] := by decide +kernel

theorem blkK (t : Fin grid0.N) (r : Fin 8448) (f : Fin 256) :
    iblk m c 1 t (ix3 0 r f) = m ((c : Thread nD τ).loc main_arg2) (ix3 (gb t) r ⟨256 * (gh t).val + f.val, by omega⟩) := by
  refine congrArg (m ((c : Thread nD τ).loc main_arg2)) (funext (α := Fin 3) (β := fun a => Fin (S2x8448x1024.size a)) fun a => Fin.ext ?_)
  have e := ixK t
  match a with
  | 0 => show cc0_transform_1 (grid0.coords t) 0 * 1 + 1 * 0 = (gb t).val; rw [e]; show (gb t).val * 1 + 1 * 0 = _; omega
  | 1 => show cc0_transform_1 (grid0.coords t) 1 * 8448 + 1 * r.val = r.val; rw [e]; show 0 * 8448 + 1 * r.val = _; omega
  | 2 => show cc0_transform_1 (grid0.coords t) 2 * 256 + 1 * f.val = 256 * (gh t).val + f.val; rw [e]; show (gh t).val * 256 + 1 * f.val = _; omega
theorem blkV (t : Fin grid0.N) (k : Fin 33) (D : Fin 128) (s : Fin 256) :
    iblk m c 2 t (ix4 0 k D s) = m ((c : Thread nD τ).loc main_arg3) (ix4 (gb t) k ⟨128 * (gh t).val + D.val, by omega⟩ s) := by
  refine congrArg (m ((c : Thread nD τ).loc main_arg3)) (funext (α := Fin 4) (β := fun a => Fin (S2x33x512x256.size a)) fun a => Fin.ext ?_)
  have e := ixV t
  match a with
  | 0 => show cc0_transform_2 (grid0.coords t) 0 * 1 + 1 * 0 = (gb t).val; rw [e]; show (gb t).val * 1 + 1 * 0 = _; omega
  | 1 => show cc0_transform_2 (grid0.coords t) 1 * 33 + 1 * k.val = k.val; rw [e]; show 0 * 33 + 1 * k.val = _; omega
  | 2 => show cc0_transform_2 (grid0.coords t) 2 * 128 + 1 * D.val = 128 * (gh t).val + D.val; rw [e]; show (gh t).val * 128 + 1 * D.val = _; omega
  | 3 => show cc0_transform_2 (grid0.coords t) 3 * 256 + 1 * s.val = s.val; rw [e]; show 0 * 256 + 1 * s.val = _; omega
theorem blkU (t : Fin grid0.N) : iblk m c 3 t (ix2 0 0) = m ((c : Thread nD τ).loc main_arg4) (ix2 0 0) := by
  refine congrArg (m ((c : Thread nD τ).loc main_arg4)) (funext (α := Fin 2) (β := fun a => Fin (S8x128.size a)) fun a => Fin.ext ?_)
  have e := ixU t
  match a with
  | 0 => show cc0_transform_3 (grid0.coords t) 0 * 8 + 1 * 0 = 0; rw [e]; rfl
  | 1 => show cc0_transform_3 (grid0.coords t) 1 * 128 + 1 * 0 = 0; rw [e]; rfl
theorem blkQ (t : Fin grid0.N) (f : Fin 256) (x : Fin 2048) :
    X0 m c t (ix3 0 f x) = m ((c : Thread nD τ).loc main_arg1) (ix3 (gb t) ⟨256 * (gh t).val + f.val, by omega⟩ ⟨2048 * (gq t).val + x.val, by omega⟩) := by
  unfold X0 Pipeline.Window.fill
  refine (dif_pos (moved0 m t (ix3 0 f x))).trans ?_
  refine congrArg (m ((c : Thread nD τ).loc main_arg1)) (funext (α := Fin 3) (β := fun a => Fin (S2x1024x8448.size a)) fun a => Fin.ext ?_)
  have e := ixQ t
  match a with
  | 0 => show cc0_transform_0 (grid0.coords t) 0 * 1 + 1 * 0 = (gb t).val; rw [e]; show (gb t).val * 1 + 1 * 0 = _; omega
  | 1 => show cc0_transform_0 (grid0.coords t) 1 * 256 + 1 * f.val = 256 * (gh t).val + f.val; rw [e]; show (gh t).val * 256 + 1 * f.val = _; omega
  | 2 => show cc0_transform_0 (grid0.coords t) 2 * 2048 + 1 * x.val = 2048 * (gq t).val + x.val; rw [e]; show (gq t).val * 2048 + 1 * x.val = _; omega

/-- Where the result's window places an element of its block. -/
theorem embO (t : Fin grid0.N) (x : Fin 2048) (D : Fin 128) :
    (((cfgM m).win 4).blk t).view.emb (ix3 0 x D) = ix3 (gb t) (⟨2048 * (gq t).val + x.val, by omega⟩ : Fin 8192) (⟨128 * (gh t).val + D.val, by omega⟩ : Fin 512) := by
  refine funext (α := Fin 3) (β := fun a => Fin (S2x8192x512.size a)) fun a => Fin.ext ?_
  have e := ixO t
  match a with
  | 0 => show cc0_transform_4 (grid0.coords t) 0 * 1 + 1 * 0 = (gb t).val; rw [e]; show (gb t).val * 1 + 1 * 0 = _; omega
  | 1 => show cc0_transform_4 (grid0.coords t) 1 * 2048 + 1 * x.val = 2048 * (gq t).val + x.val; rw [e]; show (gq t).val * 2048 + 1 * x.val = _; omega
  | 2 => show cc0_transform_4 (grid0.coords t) 2 * 128 + 1 * D.val = 128 * (gh t).val + D.val; rw [e]; show (gh t).val * 128 + 1 * D.val = _; omega

theorem pts : ∀ (b0 : Fin 2) (b1 b2 : Fin 4), ∃ t : Fin grid0.N, gb t = b0 ∧ gq t = b1 ∧ gh t = b2 := by decide +kernel
theorem flushes : ∀ t : Fin grid0.N, (true && ((t.val + 1 = grid0.N : Bool) || decide (∃ h : t.val + 1 < grid0.N, cc0_transform_4 (grid0.coords ⟨t.val + 1, h⟩) ≠ cc0_transform_4 (grid0.coords t)))) = true := by decide +kernel
/-- Every point writes its block of the result back, and the blocks cover the array. -/
theorem coversO_all : ((cfgM m).win 4).Covers := by
  refine ⟨(by decide : ∀ a : Fin 3, 0 < S1x2048x128.size a), fun β => ?_⟩
  have n0 : ((cfgM m).win 4).nblk (0 : Fin 3) = 2 := (by decide : (S2x8192x512.size 0 + S1x2048x128.size 0 - 1) / S1x2048x128.size 0 = 2)
  have n1 : ((cfgM m).win 4).nblk (1 : Fin 3) = 4 := (by decide : (S2x8192x512.size 1 + S1x2048x128.size 1 - 1) / S1x2048x128.size 1 = 4)
  have n2 : ((cfgM m).win 4).nblk (2 : Fin 3) = 4 := (by decide : (S2x8192x512.size 2 + S1x2048x128.size 2 - 1) / S1x2048x128.size 2 = 4)
  obtain ⟨t, h0, h1, h2⟩ := pts ((β (0 : Fin 3)).cast n0) ((β (1 : Fin 3)).cast n1) ((β (2 : Fin 3)).cast n2)
  refine ⟨t, flushes t, fun (a : Fin 3) => ⟨?_, Or.inl rfl⟩⟩
  show cc0_transform_4 (grid0.coords t) a = _
  rw [ixO t]
  match a with
  | 0 => exact congrArg Fin.val h0
  | 1 => exact congrArg Fin.val h1
  | 2 => exact congrArg Fin.val h2

end Cert.KernelIdeal.Attn

end
-- ==== Proof.KernelIdeal.Math.lean ====
/- Both branches' sums are one softmax's average of the values: the algebra of the rescaled exponentials. -/
module

public import proofs.«01_k».proof.Proof.KernelIdeal.Loop

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

theorem coe_mul_sum {ι : Type} [DecidableEq ι] (s : Finset ι) (c : ℝ) (hc : 0 ≤ c) (f : ι → EReal) :
    (c : EReal) * ∑ i ∈ s, f i = ∑ i ∈ s, (c : EReal) * f i := by
  induction s using Finset.induction_on with
  | empty => simp
  | insert a s ha ih =>
    rw [Finset.sum_insert ha, Finset.sum_insert ha,
      EReal.left_distrib_of_nonneg_of_ne_top (by exact_mod_cast hc) (EReal.coe_ne_top c), ih]
theorem sum_coe {ι : Type} [DecidableEq ι] (s : Finset ι) (f : ι → ℝ) :
    ∑ i ∈ s, (f i : EReal) = ((∑ i ∈ s, f i : ℝ) : EReal) := by
  induction s using Finset.induction_on with
  | empty => simp
  | insert a s ha ih => rw [Finset.sum_insert ha, Finset.sum_insert ha, ih, EReal.coe_add]

/-- The largest of finitely many reals is one. -/
theorem fold_max_real {n : ℕ} (hn : 0 < n) (f : Fin n → EReal) (hf : ∀ i, ∃ a : ℝ, f i = a) : ∃ a : ℝ, Finset.univ.fold max ⊥ f = a := by
  have ht : Finset.univ.fold max ⊥ f ≠ ⊤ := by
    refine ne_of_lt ((Finset.fold_max_lt _).mpr ⟨bot_lt_top, fun i _ => ?_⟩)
    obtain ⟨a, ha⟩ := hf i
    rw [ha]; exact EReal.coe_lt_top a
  have hb : Finset.univ.fold max ⊥ f ≠ ⊥ := by
    obtain ⟨a, ha⟩ := hf ⟨0, hn⟩
    refine ne_of_gt (lt_of_lt_of_le (EReal.bot_lt_coe a) ((Finset.le_fold_max _).mpr (Or.inr ⟨⟨0, hn⟩, Finset.mem_univ _, ha.ge⟩)))
  exact ⟨_, (EReal.coe_toReal ht hb).symm⟩

/-- The keys, trip by trip and tile by tile. -/
theorem sum_keys (f : Fin 8448 → EReal) : ∑ k : Fin 3, ∑ t : Fin 11, ∑ s : Fin 256, f (keyIx k (rowIx t s)) = ∑ r, f r := by
  have h1 : ∀ g : Fin 2816 → EReal, ∑ t : Fin 11, ∑ s : Fin 256, g (rowIx t s) = ∑ r, g r := fun g => by
    rw [← Fintype.sum_prod_type', ← Equiv.sum_comp (finProdFinEquiv (m := 11) (n := 256))]
    refine Finset.sum_congr rfl fun p _ => congrArg g (Fin.ext ?_)
    show 256 * p.1.val + p.2.val = p.2.val + 256 * p.1.val
    omega
  have h2 : ∑ k : Fin 3, ∑ r : Fin 2816, f (keyIx k r) = ∑ r, f r := by
    rw [← Fintype.sum_prod_type', ← Equiv.sum_comp (finProdFinEquiv (m := 3) (n := 2816))]
    refine Finset.sum_congr rfl fun p _ => congrArg f (Fin.ext ?_)
    show 2816 * p.1.val + p.2.val = p.2.val + 2816 * p.1.val
    omega
  rw [← h2]
  exact Finset.sum_congr rfl fun k _ => h1 fun r => f (keyIx k r)

/-- The value of a key under an output row: its tile and its place there. -/
def vKey (V : Vec Ideal S1x33x128x256 .bf16) (D : Fin 128) (r : Fin 8448) : EReal := V (ix4 0 ⟨r.val / 256, by omega⟩ D ⟨r.val % 256, by omega⟩)

theorem vKey_tile (V : Vec Ideal S1x33x128x256 .bf16) (D : Fin 128) (k : Fin 3) (t : Fin 11) (s : Fin 256) :
    vKey V D (keyIx k (rowIx t s)) = V (ix4 0 (tileIx k t) D s) := by
  unfold vKey
  refine congrArg₂ (fun (a : Fin 33) (b : Fin 256) => V (ix4 0 a D b)) (Fin.ext ?_) (Fin.ext ?_)
  · show (2816 * k.val + (256 * t.val + s.val)) / 256 = 11 * k.val + t.val; omega
  · show (2816 * k.val + (256 * t.val + s.val)) % 256 = s.val; omega

theorem bA_eq (V : Vec Ideal S1x33x128x256 .bf16) (w : Fin 2 → Fin 8448 → Fin 2048 → EReal) (D : Fin 128) (x : Fin 2048) :
    bA V w 3 D x = ∑ r, vKey V D r * w (headIx D) r x := by
  rw [← sum_keys, Fin.sum_univ_three]
  simp only [vKey_tile]
  show ((0 + addA V w 0 D x) + addA V w 1 D x) + addA V w 2 D x = _
  rw [zero_add]; rfl
theorem bL_eq (w : Fin 2 → Fin 8448 → Fin 2048 → EReal) (j : Fin 2) (x : Fin 2048) : bL w 3 j x = ∑ r, w j r x := by
  rw [← sum_keys, Fin.sum_univ_three]
  show ((0 + addL w 0 j x) + addL w 1 j x) + addL w 2 j x = _
  rw [zero_add]; rfl

theorem addA_scale (V : Vec Ideal S1x33x128x256 .bf16) (w : Fin 2 → Fin 8448 → Fin 2048 → EReal) (c : Fin 2 → Fin 2048 → ℝ) (hc : ∀ j x, 0 ≤ c j x)
    (k : Fin 3) (D : Fin 128) (x : Fin 2048) : (c (headIx D) x : EReal) * addA V w k D x = addA V (fun j r x => (c j x : EReal) * w j r x) k D x := by
  unfold addA
  rw [coe_mul_sum _ _ (hc _ _)]
  refine Finset.sum_congr rfl fun t _ => ?_
  rw [coe_mul_sum _ _ (hc _ _)]
  exact Finset.sum_congr rfl fun s _ => mul_left_comm _ _ _
theorem addL_scale (w : Fin 2 → Fin 8448 → Fin 2048 → EReal) (c : Fin 2 → Fin 2048 → ℝ) (hc : ∀ j x, 0 ≤ c j x)
    (k : Fin 3) (j : Fin 2) (x : Fin 2048) : (c j x : EReal) * addL w k j x = addL (fun j r x => (c j x : EReal) * w j r x) k j x := by
  unfold addL
  rw [coe_mul_sum _ _ (hc _ _)]
  exact Finset.sum_congr rfl fun t _ => coe_mul_sum _ _ (hc _ _) _
theorem bA_scale (V : Vec Ideal S1x33x128x256 .bf16) (w : Fin 2 → Fin 8448 → Fin 2048 → EReal) (c : Fin 2 → Fin 2048 → ℝ) (hc : ∀ j x, 0 ≤ c j x)
    (n : ℕ) (D : Fin 128) (x : Fin 2048) : (c (headIx D) x : EReal) * bA V w n D x = bA V (fun j r x => (c j x : EReal) * w j r x) n D x := by
  induction n with
  | zero => exact mul_zero _
  | succ n ih =>
    show (c (headIx D) x : EReal) * (bA V w n D x + addA V w (Fin.ofNat 3 n) D x) = _
    rw [EReal.left_distrib_of_nonneg_of_ne_top (by exact_mod_cast hc _ _) (EReal.coe_ne_top _), ih, addA_scale V w c hc]; rfl
theorem bL_scale (w : Fin 2 → Fin 8448 → Fin 2048 → EReal) (c : Fin 2 → Fin 2048 → ℝ) (hc : ∀ j x, 0 ≤ c j x)
    (n : ℕ) (j : Fin 2) (x : Fin 2048) : (c j x : EReal) * bL w n j x = bL (fun j r x => (c j x : EReal) * w j r x) n j x := by
  induction n with
  | zero => exact mul_zero _
  | succ n ih =>
    show (c j x : EReal) * (bL w n j x + addL w (Fin.ofNat 3 n) j x) = _
    rw [EReal.left_distrib_of_nonneg_of_ne_top (by exact_mod_cast hc _ _) (EReal.coe_ne_top _), ih, addL_scale w c hc]; rfl

section online
variable (S : Fin 2 → Fin 8448 → Fin 2048 → EReal) (s : Fin 2 → Fin 8448 → Fin 2048 → ℝ) (hS : ∀ j r x, S j r x = (s j r x : EReal))
include hS

/-- After the first trip the running maximum is real. -/
theorem oM_real (n : ℕ) : ∃ M : Fin 2 → Fin 2048 → ℝ, ∀ j x, oM S (n + 1) j x = (M j x : EReal) := by
  have hf : ∀ (k : Fin 3) (j : Fin 2) (x : Fin 2048), ∃ a : ℝ, (Finset.univ.fold max ⊥ fun r : Fin 2816 => S j (keyIx k r) x) = a :=
    fun k j x => fold_max_real (by decide) _ fun r => ⟨_, hS _ _ _⟩
  choose a ha using hf
  induction n with
  | zero => exact ⟨fun j x => a 0 j x, fun j x => by show max ⊥ _ = _; rw [max_eq_right bot_le]; exact ha 0 j x⟩
  | succ n ih =>
    obtain ⟨M, hM⟩ := ih
    refine ⟨fun j x => max (M j x) (a (Fin.ofNat 3 (n + 1)) j x), fun j x => ?_⟩
    show max (oM S (n + 1) j x) _ = _
    rw [hM]
    exact (congrArg (max _) (ha _ j x)).trans (EReal.coe_strictMono.monotone.map_max).symm

theorem wF_real (M : Fin 2 → Fin 2048 → EReal) (M' : Fin 2 → Fin 2048 → ℝ) (hM : ∀ j x, M j x = (M' j x : EReal)) (j r x) :
    wF S M j r x = (((2 : ℝ) ^ (s j r x - M' j x) : ℝ) : EReal) := by
  unfold wF
  rw [hS, hM, ← EReal.coe_sub, Ideal.exp2_coe]; rfl

/-- Rescaling by a trip's factor takes the weights below the old maximum to those below the new. -/
theorem rescale (n : ℕ) : ∃ c : Fin 2 → Fin 2048 → ℝ, (∀ j x, 0 ≤ c j x) ∧ (∀ j x, alF S (Fin.ofNat 3 (n + 1)) (oM S (n + 1)) j x = (c j x : EReal))
    ∧ (fun j r x => (c j x : EReal) * wF S (oM S (n + 1)) j r x) = wF S (oM S (n + 2)) := by
  obtain ⟨M, hM⟩ := oM_real S s hS n
  obtain ⟨M', hM'⟩ := oM_real S s hS (n + 1)
  refine ⟨fun j x => (2 : ℝ) ^ (M j x - M' j x), fun j x => Real.rpow_nonneg (by norm_num) _, fun j x => ?_, ?_⟩
  · show Ideal.exp2 (oM S (n + 1) j x - oM S (n + 2) j x) = _
    rw [hM, hM', ← EReal.coe_sub, Ideal.exp2_coe]; rfl
  · funext j r x
    rw [wF_real S s hS _ M hM, wF_real S s hS _ M' hM', ← EReal.coe_mul, ← Real.rpow_add (by norm_num)]
    congr 2; ring

theorem oA_eq (V : Vec Ideal S1x33x128x256 .bf16) (n : ℕ) (D : Fin 128) (x : Fin 2048) : oA V S n D x = bA V (wF S (oM S n)) n D x := by
  induction n with
  | zero => rfl
  | succ n ih =>
    refine congrArg (· + addA V (wF S (oM S (n + 1))) (Fin.ofNat 3 n) D x) ?_
    rw [ih]
    cases n with
    | zero => exact mul_zero _
    | succ n =>
      obtain ⟨c, hc, hal, hw⟩ := rescale S s hS n
      rw [hal, bA_scale V _ c hc, hw]
theorem oL_eq (n : ℕ) (j : Fin 2) (x : Fin 2048) : oL S n j x = bL (wF S (oM S n)) n j x := by
  induction n with
  | zero => rfl
  | succ n ih =>
    refine congrArg (· + addL (wF S (oM S (n + 1))) (Fin.ofNat 3 n) j x) ?_
    rw [ih]
    cases n with
    | zero => exact mul_zero _
    | succ n =>
      obtain ⟨c, hc, hal, hw⟩ := rescale S s hS n
      rw [hal, bL_scale _ c hc, hw]
end online

/-- The softmax of base two: a key's share of the powers of the scores. -/
def soft (s : Fin 8448 → ℝ) (r : Fin 8448) : ℝ := (2 : ℝ) ^ s r / ∑ r', (2 : ℝ) ^ s r'
theorem pow_sum_pos (s : Fin 8448 → ℝ) : 0 < ∑ r, (2 : ℝ) ^ s r :=
  Finset.sum_pos (fun r _ => Real.rpow_pos_of_pos (by norm_num) _) ⟨0, Finset.mem_univ _⟩

/-- Averages under weights below any bound are the softmax's. -/
theorem average (v : Fin 8448 → EReal) (s : Fin 8448 → ℝ) (u : ℝ) :
    (∑ r, v r * (((2 : ℝ) ^ (s r - u) : ℝ) : EReal)) * Ideal.div 1 (∑ r, (((2 : ℝ) ^ (s r - u) : ℝ) : EReal)) = ∑ r, v r * (soft s r : EReal) := by
  have hz := pow_sum_pos fun r => s r - u
  have hz' := pow_sum_pos s
  rw [sum_coe, Ideal.div_coe hz.ne', one_mul, mul_comm, coe_mul_sum _ _ (one_div_nonneg.mpr hz.le)]
  refine Finset.sum_congr rfl fun r _ => ?_
  rw [mul_left_comm, ← EReal.coe_mul]
  congr 2
  have hu : (0 : ℝ) < 2 ^ u := Real.rpow_pos_of_pos (by norm_num) _
  have he : ∀ r, (2 : ℝ) ^ (s r - u) = 2 ^ s r / 2 ^ u := fun r => Real.rpow_sub (by norm_num) _ _
  unfold soft
  simp only [he]
  rw [← Finset.sum_div]
  field_simp

/-- The bounded branch's quotient -/
theorem branchB (V : Vec Ideal S1x33x128x256 .bf16) (S : Fin 2 → Fin 8448 → Fin 2048 → EReal) (s : Fin 2 → Fin 8448 → Fin 2048 → ℝ) (hS : ∀ j r x, S j r x = (s j r x : EReal))
    (b : EReal) (u : ℝ) (hb : b = u) (D : Fin 128) (x : Fin 2048) :
    bA V (fun j r x => Ideal.exp2 (S j r x - b)) 3 D x * Ideal.div 1 (bL (fun j r x => Ideal.exp2 (S j r x - b)) 3 (headIx D) x)
      = ∑ r, vKey V D r * (soft (fun r => s (headIx D) r x) r : EReal) := by
  have hw : (fun j r x => Ideal.exp2 (S j r x - b)) = fun j r x => (((2 : ℝ) ^ (s j r x - u) : ℝ) : EReal) := by
    funext j r x; rw [hS, hb, ← EReal.coe_sub, Ideal.exp2_coe]; rfl
  rw [hw, bA_eq, bL_eq]
  exact average (vKey V D) (fun r => s (headIx D) r x) u
/-- and the online branch's. -/
theorem branchO (V : Vec Ideal S1x33x128x256 .bf16) (S : Fin 2 → Fin 8448 → Fin 2048 → EReal) (s : Fin 2 → Fin 8448 → Fin 2048 → ℝ) (hS : ∀ j r x, S j r x = (s j r x : EReal))
    (D : Fin 128) (x : Fin 2048) :
    oA V S 3 D x * Ideal.div 1 (oL S 3 (headIx D) x) = ∑ r, vKey V D r * (soft (fun r => s (headIx D) r x) r : EReal) := by
  obtain ⟨M, hM⟩ := oM_real S s hS 2
  have hw : wF S (oM S 3) = fun j r x => (((2 : ℝ) ^ (s j r x - M j x) : ℝ) : EReal) := by
    funext j r x; exact wF_real S s hS _ M hM j r x
  rw [oA_eq S s hS, oL_eq S s hS, hw, bA_eq, bL_eq]
  exact average (vKey V D) (fun r => s (headIx D) r x) (M (headIx D) x)

/-- The host's form of the same share: natural exponentials of the scores times the logarithm of two, below any bound. -/
theorem host_soft (s : Fin 8448 → ℝ) (m : ℝ) (r : Fin 8448) :
    Ideal.div (Ideal.exp ((s r : EReal) * ((Real.log 2 : ℝ) : EReal) - (m : EReal))) (0 + ∑ r', Ideal.exp ((s r' : EReal) * ((Real.log 2 : ℝ) : EReal) - (m : EReal)))
      = (soft s r : EReal) := by
  have he : ∀ r, Ideal.exp ((s r : EReal) * ((Real.log 2 : ℝ) : EReal) - (m : EReal)) = (((2 : ℝ) ^ s r / Real.exp m : ℝ) : EReal) := fun r => by
    rw [← EReal.coe_mul, ← EReal.coe_sub, Ideal.exp_coe, Real.exp_sub, Real.rpow_def_of_pos (by norm_num), mul_comm]
  have hz := pow_sum_pos s
  have hm := Real.exp_pos m
  simp only [he]
  rw [zero_add, sum_coe, ← Finset.sum_div, Ideal.div_coe (by positivity), ← EReal.coe_mul]
  congr 1
  unfold soft
  field_simp

end Cert.KernelIdeal.Attn

end
-- ==== Proof.Ref.lean ====
/- The reference read at an index: a softmax of base two averaging the values. -/
module

public import proofs.«01_k».proof.Proof.KernelIdeal.Math
public import proofs.«01_k».proof.Proof.Gen.ReferenceIdeal.Read
public import Idealize.ShloMosaic.Lib.Pointwise

@[expose] public section

set_option maxRecDepth 16384

noncomputable section

namespace Cert.ReferenceIdeal.Attn

open Idealize.ShloMosaic Idealize.ShloMosaic.TcCoe Idealize.ShloMosaic.Tactic
open Cert.ReferenceIdeal Cert.ReferenceIdeal.Gen Cert.ReferenceIdeal.Read
open Cert.KernelIdeal.Attn (soft host_soft fold_max_real sum_coe)

variable (x1 : Vec Ideal S2x1024x8448 .bf16) (x2 : Vec Ideal S2x8448x1024 .bf16) (x3 : Vec Ideal S2x33x512x256 .bf16)

/-- A score, from real queries and keys. -/
def rscore (xq : S2x1024x8448.Idx → ℝ) (xk : S2x8448x1024.Idx → ℝ) (b : Fin 2) (h : Fin 8) (r : Fin 8448) (x : Fin 8192) : ℝ :=
  ∑ e : Fin 128, xk (ix3 b r ⟨128 * h.val + e.val, by omega⟩) * xq (ix3 b ⟨128 * h.val + e.val, by omega⟩ ⟨x.val, by omega⟩)

theorem q_apply (b : Fin 2) (h : Fin 8) (e : Fin 128) (x : Fin 8192) :
    val_main_v2 (F := Ideal) x1 (ix4 b h e x) = x1 (ix3 b ⟨128 * h.val + e.val, by omega⟩ ⟨x.val, by omega⟩) := by
  refine (val_main_v2_apply (F := Ideal) x1 _).trans ((val_main_v1_apply (F := Ideal) x1 _).trans (congrArg x1 (funext fun a => Fin.ext ?_)))
  match a with
  | 0 => show (((b.val * 8 + h.val) * 128 + e.val) * 8448 + x.val) / 8650752 = b.val; omega
  | 1 => show (((b.val * 8 + h.val) * 128 + e.val) * 8448 + x.val) / 8448 % 1024 = 128 * h.val + e.val; omega
  | 2 => show (((b.val * 8 + h.val) * 128 + e.val) * 8448 + x.val) % 8448 = x.val; omega
theorem k_apply (b : Fin 2) (r : Fin 8448) (h : Fin 8) (e : Fin 128) :
    val_main_v4 (F := Ideal) x2 (ix4 b r h e) = x2 (ix3 b r ⟨128 * h.val + e.val, by omega⟩) := by
  refine (val_main_v4_apply (F := Ideal) x2 _).trans (congrArg x2 (funext fun a => Fin.ext ?_))
  match a with
  | 0 => show (((b.val * 8448 + r.val) * 8 + h.val) * 128 + e.val) / 8650752 = b.val; omega
  | 1 => show (((b.val * 8448 + r.val) * 8 + h.val) * 128 + e.val) / 1024 % 8448 = r.val; omega
  | 2 => show (((b.val * 8448 + r.val) * 8 + h.val) * 128 + e.val) % 1024 = 128 * h.val + e.val; omega
theorem v_apply (b : Fin 2) (h : Fin 8) (d : Fin 64) (r : Fin 8448) :
    val_main_v8 (F := Ideal) x3 (ix4 b h d r) = x3 (ix4 b ⟨r.val / 256, by omega⟩ ⟨64 * h.val + d.val, by omega⟩ ⟨r.val % 256, by omega⟩) := by
  refine (val_main_v8_apply (F := Ideal) x3 _).trans ((congrArg (val_main_v7 (F := Ideal) x3)
    (show _ = (ix5 b h d ⟨r.val / 256, by omega⟩ ⟨r.val % 256, by omega⟩ : S2x8x64x33x256.Idx) from funext fun a => Fin.ext ?_)).trans
    ((val_main_v7_apply (F := Ideal) x3 _).trans ((val_main_v6_apply (F := Ideal) x3 _).trans (congrArg x3 (funext fun a => Fin.ext ?_)))))
  · match a with
    | 0 => show (((b.val * 8 + h.val) * 64 + d.val) * 8448 + r.val) / 4325376 = b.val; omega
    | 1 => show (((b.val * 8 + h.val) * 64 + d.val) * 8448 + r.val) / 540672 % 8 = h.val; omega
    | 2 => show (((b.val * 8 + h.val) * 64 + d.val) * 8448 + r.val) / 8448 % 64 = d.val; omega
    | 3 => show (((b.val * 8 + h.val) * 64 + d.val) * 8448 + r.val) / 256 % 33 = r.val / 256; omega
    | 4 => show (((b.val * 8 + h.val) * 64 + d.val) * 8448 + r.val) % 256 = r.val % 256; omega
  · have hr := r.isLt
    match a with
    | 0 => show ((((b.val * 8 + h.val) * 64 + d.val) * 33 + r.val / 256) * 256 + r.val % 256) / 4325376 = b.val; omega
    | 1 => show ((((b.val * 8 + h.val) * 64 + d.val) * 33 + r.val / 256) * 256 + r.val % 256) / 256 % 33 = r.val / 256; omega
    | 2 => show ((((b.val * 8 + h.val) * 64 + d.val) * 33 + r.val / 256) * 256 + r.val % 256) / 8448 % 512 = 64 * h.val + d.val; omega
    | 3 => show ((((b.val * 8 + h.val) * 64 + d.val) * 33 + r.val / 256) * 256 + r.val % 256) % 256 = r.val % 256; omega

theorem two_bits : FloatOps.ofBits (F := Ideal) .f32 0x40000000#32 = ((2 : ℝ) : EReal) := by
  show Ideal.ofBits .f32 0x40000000#32 = _
  simp [Ideal.ofBits, Ideal.ieee]
  rw [← EReal.coe_mul]; norm_num
theorem bot_bits : FloatOps.ofBits (F := Ideal) .f32 0xFF800000#32 = (⊥ : EReal) := by
  show Ideal.ofBits .f32 0xFF800000#32 = _
  simp [Ideal.ofBits, Ideal.ieee]
theorem zero_bits : FloatOps.ofBits (F := Ideal) .f32 0x00000000#32 = (0 : EReal) := by
  show Ideal.ofBits .f32 0#32 = _
  simp [Ideal.ofBits, Ideal.ieee]

theorem log_apply (i) : val_main_v11 (F := Ideal) i = ((Real.log 2 : ℝ) : EReal) := by
  refine (val_main_v11_apply (F := Ideal) i).trans ?_
  show Ideal.log (FloatOps.ofBits (F := Ideal) .f32 0x40000000#32) = _
  rw [two_bits, Ideal.log_coe, if_neg (by norm_num)]

/-- The host's maximum over the keys as a fold. -/
theorem fold_apply (y : Vec Ideal S2x8x8192x8448 .f32) (b : Fin 2) (h : Fin 8) (x : Fin 8192) :
    Host.reduce (FloatOps.maximumf (F := Ideal) (φ := .f32)) y (val_main_cst_0 (F := Ideal)) reducesTo_S2x8x8192x8448_S2x8x8192_d3 h_S_ (ix3 b h x)
      = Finset.univ.fold max ⊥ fun r : Fin 8448 => y (ix4 b h x r) := by
  have hr : S2x8x8192x8448.Reduces [3] S2x8x8192 := by decide
  refine (Host.reduce_eq_fold_single (fun a b : EReal => max a b) y _ reducesTo_S2x8x8192x8448_S2x8x8192_d3 hr h_S_ (ix3 b h x)).trans ?_
  rw [show val_main_cst_0 (F := Ideal) (Shape.Idx.first h_S_) = (⊥ : EReal) from bot_bits]
  refine congrArg (Finset.univ.fold max ⊥) (funext fun r => congrArg y (funext fun a => Fin.ext ?_))
  match a with
  | 0 => rfl
  | 1 => rfl
  | 2 => rfl
  | 3 => rfl

section real
variable (xq : S2x1024x8448.Idx → ℝ) (xk : S2x8448x1024.Idx → ℝ) (hq : ∀ i, x1 i = (xq i : EReal)) (hk : ∀ i, x2 i = (xk i : EReal))
include hq hk

theorem score_apply (b : Fin 2) (h : Fin 8) (x : Fin 8192) (r : Fin 8448) :
    val_main_v12 (F := Ideal) x1 x2 (ix4 b h x r) = (rscore xq xk b h r x : EReal) * ((Real.log 2 : ℝ) : EReal) := by
  refine congrArg₂ (fun a b : EReal => a * b) ((val_main_v9_apply x1 x2 _).trans ?_) (log_apply _)
  unfold rscore
  rw [← sum_coe]
  refine Finset.sum_congr rfl fun e _ => ?_
  rw [EReal.coe_mul, ← hq, ← hk, mul_comm (x2 _)]
  exact congrArg₂ (fun a b : EReal => a * b)
    ((congrArg (val_main_v2 (F := Ideal) x1) (show _ = (ix4 b h e x : S2x8x128x8192.Idx) from funext fun a => by
      match a with
      | 0 => rfl
      | 1 => rfl
      | 2 => rfl
      | 3 => rfl)).trans (q_apply x1 b h e x))
    ((congrArg (val_main_v4 (F := Ideal) x2) (show _ = (ix4 b r h e : S2x8448x8x128.Idx) from funext fun a => by
      match a with
      | 0 => rfl
      | 1 => rfl
      | 2 => rfl
      | 3 => rfl)).trans (k_apply x2 b r h e))

/-- The host's row maximum is real. -/
theorem max_real (b : Fin 2) (h : Fin 8) (x : Fin 8192) : ∃ M : ℝ, val_main_v15 (F := Ideal) x1 x2 (ix3 b h x) = (M : EReal) := by
  obtain ⟨M, hM⟩ := fold_max_real (n := 8448) (by decide) (fun r => val_main_v12 (F := Ideal) x1 x2 (ix4 b h x r))
    fun r => ⟨rscore xq xk b h r x * Real.log 2, by rw [score_apply x1 x2 xq xk hq hk, EReal.coe_mul]⟩
  refine ⟨M, ?_⟩
  refine (val_main_v15_apply (F := Ideal) x1 x2 _).trans ((congrArg₂ (fun a b : EReal => max a b) ((val_main_v14_apply (F := Ideal) _).trans bot_bits) ?_).trans (max_eq_right bot_le))
  exact (fold_apply (val_main_v12 (F := Ideal) x1 x2) b h x).trans hM

theorem exp_apply (b : Fin 2) (h : Fin 8) (x : Fin 8192) (M : ℝ) (hM : val_main_v15 (F := Ideal) x1 x2 (ix3 b h x) = (M : EReal)) (r : Fin 8448) :
    val_main_v19 (F := Ideal) x1 x2 (ix4 b h x r) = Ideal.exp ((rscore xq xk b h r x : EReal) * ((Real.log 2 : ℝ) : EReal) - (M : EReal)) := by
  refine congrArg Ideal.exp (congrArg₂ (fun a b : EReal => a - b) (score_apply x1 x2 xq xk hq hk b h x r) ?_)
  refine (val_main_v17_apply (F := Ideal) x1 x2 _).trans ((val_main_v16_apply (F := Ideal) x1 x2 _).trans ?_)
  rw [← hM]
  refine congrArg (val_main_v15 (F := Ideal) x1 x2) (funext fun a => ?_)
  match a with
  | 0 => rfl
  | 1 => rfl
  | 2 => rfl

theorem p_apply (b : Fin 2) (h : Fin 8) (x : Fin 8192) (r : Fin 8448) :
    val_main_v23 (F := Ideal) x1 x2 (ix4 b h x r) = (soft (fun r => rscore xq xk b h r x) r : EReal) := by
  obtain ⟨M, hM⟩ := max_real x1 x2 xq xk hq hk b h x
  refine Eq.trans ?_ (host_soft (fun r => rscore xq xk b h r x) M r)
  refine congrArg₂ Ideal.div (exp_apply x1 x2 xq xk hq hk b h x M hM r) ?_
  refine (val_main_v22_apply (F := Ideal) x1 x2 _).trans ((val_main_v21_apply (F := Ideal) x1 x2 _).trans ((val_main_v20_apply x1 x2 _).trans ?_))
  refine congrArg₂ (fun a b : EReal => a + b) zero_bits (Finset.sum_congr rfl fun r' _ => ?_)
  refine Eq.trans (congrArg (val_main_v19 (F := Ideal) x1 x2) (funext fun a => ?_)) (exp_apply x1 x2 xq xk hq hk b h x M hM r')
  match a with
  | 0 => rfl
  | 1 => rfl
  | 2 => rfl
  | 3 => rfl

/-- The reference's result, its element at a query and an output feature. -/
theorem ref_apply (b : Fin 2) (x : Fin 8192) (C : Fin 512) :
    val_main_v26 (F := Ideal) x1 x2 x3 (ix3 b x C) =
      ∑ r : Fin 8448, x3 (ix4 b ⟨r.val / 256, by omega⟩ C ⟨r.val % 256, by omega⟩) * (soft (fun r => rscore xq xk b ⟨C.val / 64, by omega⟩ r x) r : EReal) := by
  refine (val_main_v26_apply (F := Ideal) x1 x2 x3 _).trans ((val_main_v25_apply (F := Ideal) x1 x2 x3 _).trans ((congrArg (val_main_v24 (F := Ideal) x1 x2 x3)
    (show _ = (ix4 b ⟨C.val / 64, by omega⟩ ⟨C.val % 64, by omega⟩ x : S2x8x64x8192.Idx) from funext fun a => Fin.ext ?_)).trans ((val_main_v24_apply x1 x2 x3 _).trans
    (Finset.sum_congr rfl fun r _ => congrArg₂ (fun a b : EReal => a * b) ?_ ?_))))
  · match a with
    | 0 => show ((b.val * 8192 + x.val) * 512 + C.val) / 4194304 = b.val; omega
    | 1 => show ((b.val * 8192 + x.val) * 512 + C.val) / 64 % 8 = C.val / 64; omega
    | 2 => show ((b.val * 8192 + x.val) * 512 + C.val) % 64 = C.val % 64; omega
    | 3 => show ((b.val * 8192 + x.val) * 512 + C.val) / 512 % 8192 = x.val; omega
  · refine (congrArg (val_main_v8 (F := Ideal) x3) (show _ = (ix4 b ⟨C.val / 64, by omega⟩ ⟨C.val % 64, by omega⟩ r : S2x8x64x8448.Idx) from funext fun a => ?_)).trans
      ((v_apply x3 b _ _ r).trans (congrArg (fun c : Fin 512 => x3 (ix4 b ⟨r.val / 256, by omega⟩ c ⟨r.val % 256, by omega⟩)) (Fin.ext ?_)))
    · match a with
      | 0 => rfl
      | 1 => rfl
      | 2 => rfl
      | 3 => rfl
    · show 64 * (C.val / 64) + C.val % 64 = C.val; omega
  · refine Eq.trans (congrArg (val_main_v23 (F := Ideal) x1 x2) (funext fun a => ?_)) (p_apply x1 x2 xq xk hq hk b ⟨C.val / 64, by omega⟩ x r)
    match a with
    | 0 => rfl
    | 1 => rfl
    | 2 => rfl
    | 3 => rfl
end real

end Cert.ReferenceIdeal.Attn

end
-- ==== Proof.KernelIdeal.Value.lean ====
/- The result array: the reference's, element by element. -/
module

public import proofs.«01_k».proof.Proof.KernelIdeal.Out
public import proofs.«01_k».proof.Proof.KernelIdeal.Blocks
public import proofs.«01_k».proof.Proof.KernelIdeal.Math
public import proofs.«01_k».proof.Proof.Ref

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen
open Cert.ReferenceIdeal.Attn (rscore ref_apply)

variable (m : (ℓ : Loc nD τ sig) → Buf (Elt Ideal) ℓ) (c : Dev nD)
    (xq : S2x1024x8448.Idx → ℝ) (xk : S2x8448x1024.Idx → ℝ) (u : ℝ)
    (hq : ∀ i : S2x1024x8448.Idx, m ((c : Thread nD τ).loc main_arg1) i = (xq i : EReal)) (hk : ∀ i : S2x8448x1024.Idx, m ((c : Thread nD τ).loc main_arg2) i = (xk i : EReal))
    (hu : m ((c : Thread nD τ).loc main_arg4) (ix2 0 0 : S8x128.Idx) = (u : EReal))
include hq hk

/-- A block's scores are the reference's. -/
theorem score_eq (t : Fin grid0.N) (j : Fin 2) (r : Fin 8448) (x : Fin 2048) :
    score (X0 m c t) (iblk m c 1 t) j r x = (rscore xq xk (gb t) ⟨2 * (gh t).val + j.val, by omega⟩ r ⟨2048 * (gq t).val + x.val, by omega⟩ : EReal) := by
  unfold score rscore
  rw [← sum_coe]
  refine Finset.sum_congr rfl fun e _ => ?_
  rw [EReal.coe_mul]
  refine congrArg₂ (fun a b : EReal => a * b) ((blkK m c t r ⟨128 * j.val + e.val, by omega⟩).trans ((hk _).trans ?_)) ((blkQ m c t ⟨128 * j.val + e.val, by omega⟩ x).trans ((hq _).trans ?_))
  · refine congrArg (fun f : Fin 1024 => (xk (ix3 (gb t) r f) : EReal)) (Fin.ext ?_)
    show 256 * (gh t).val + (128 * j.val + e.val) = 128 * (2 * (gh t).val + j.val) + e.val; omega
  · refine congrArg (fun f : Fin 1024 => (xq (ix3 (gb t) f ⟨2048 * (gq t).val + x.val, by omega⟩) : EReal)) (Fin.ext ?_)
    show 256 * (gh t).val + (128 * j.val + e.val) = 128 * (2 * (gh t).val + j.val) + e.val; omega

include hu
/-- What the body leaves at a point, -/
theorem outsAt_apply (t : Fin grid0.N) (x : Fin 2048) (D : Fin 128) :
    outsAt m c t (ix3 0 x D) = ∑ r, vKey (iblk m c 2 t) D r * (soft (fun r => rscore xq xk (gb t) ⟨2 * (gh t).val + (headIx D).val, by omega⟩ r ⟨2048 * (gq t).val + x.val, by omega⟩) r : EReal) := by
  have hS := score_eq m c xq xk hq hk t
  by_cases h : flagW c (tbl m 0) = 1#32
  · refine (congrFun (outsAt_B m c t h) _).trans ((outB_apply c (grid0.coords t) _ _ _ _ _ _ _ _ _ _ _ _ _ _ _ _ (X0 m c t) (iblk m c 1 t) (iblk m c 2 t) (iblk m c 3 t) (tbl m 0) h x D).trans ?_)
    exact branchB (iblk m c 2 t) (score (X0 m c t) (iblk m c 1 t)) (fun j r x => rscore xq xk (gb t) ⟨2 * (gh t).val + j.val, by omega⟩ r ⟨2048 * (gq t).val + x.val, by omega⟩) hS
      _ u ((blkU m c t).trans hu) D x
  · refine (congrFun (outsAt_O m c t h) _).trans ((outO_apply c (grid0.coords t) _ _ _ _ _ _ _ _ _ _ _ _ _ _ _ _ (X0 m c t) (iblk m c 1 t) (iblk m c 2 t) (iblk m c 3 t) (tbl m 0) h x D).trans ?_)
    exact branchO (iblk m c 2 t) (score (X0 m c t) (iblk m c 1 t)) (fun j r x => rscore xq xk (gb t) ⟨2 * (gh t).val + j.val, by omega⟩ r ⟨2048 * (gq t).val + x.val, by omega⟩) hS D x

/-- as the reference's array there. -/
theorem outsAt_ref (t : Fin grid0.N) (x : Fin 2048) (D : Fin 128) :
    outsAt m c t (ix3 0 x D) = Cert.ReferenceIdeal.Read.val_main_v26 (F := Ideal) (m ((c : Thread nD τ).loc main_arg1)) (m ((c : Thread nD τ).loc main_arg2)) (m ((c : Thread nD τ).loc main_arg3))
      (ix3 (gb t) (⟨2048 * (gq t).val + x.val, by omega⟩ : Fin 8192) (⟨128 * (gh t).val + D.val, by omega⟩ : Fin 512)) := by
  refine (outsAt_apply m c xq xk u hq hk hu t x D).trans (Eq.trans ?_ (ref_apply _ _ _ xq xk hq hk _ _ _).symm)
  refine Finset.sum_congr rfl fun r _ => congrArg₂ (fun a b : EReal => a * b) (blkV m c t _ D _) ?_
  refine congrArg (fun h : Fin 8 => (soft (fun r => rscore xq xk (gb t) h r ⟨2048 * (gq t).val + x.val, by omega⟩) r : EReal)) (Fin.ext ?_)
  show 2 * (gh t).val + D.val / 64 = (128 * (gh t).val + D.val) / 64; omega

theorem final : (dats (F := Ideal) m 0 c).arrAt 4 (cfgM m).N
    = Cert.ReferenceIdeal.Read.val_main_v26 (F := Ideal) (m ((c : Thread nD τ).loc main_arg1)) (m ((c : Thread nD τ).loc main_arg2)) (m ((c : Thread nD τ).loc main_arg3)) := by
  refine (dats (F := Ideal) m 0 c).arrAt_eq_of_covers 4 _ (coversO_all m) fun t hf y => ?_
  obtain ⟨y0, x, D, rfl⟩ : ∃ (y0 : Fin 1) (x : Fin 2048) (D : Fin 128), y = (ix3 y0 x D : S1x2048x128.Idx) := ⟨_, _, _, eq_ix3 (n0 := 1) (n1 := 2048) (n2 := 128) y⟩
  obtain rfl : y0 = 0 := Subsingleton.elim _ _
  refine Eq.trans (show _ = outsAt m c t (ix3 0 x D) from congrFun (after4 m c t) (ix3 0 x D)) ?_
  refine (outsAt_ref m c xq xk u hq hk hu t x D).trans ?_
  exact congrArg (Cert.ReferenceIdeal.Read.val_main_v26 (F := Ideal) (m ((c : Thread nD τ).loc main_arg1)) (m ((c : Thread nD τ).loc main_arg2)) (m ((c : Thread nD τ).loc main_arg3))) (embO m t x D).symm

end Cert.KernelIdeal.Attn

end
-- ==== Proof.Pre.lean ====
/- The precondition: its side conditions, and what it says of the arguments. -/
module

public import proofs.«01_k».proof.Pre_attn_finite
public import Idealize.ShloMosaic.Lib.ReduceAll
public import Idealize.ShloMosaic.Lib.Pointwise
public import Idealize.ShloMosaic.Lib.Decide
public import Idealize.ShloMosaic.PureOps.Ideal

@[expose] public section

noncomputable section

namespace Cert.Pre_attn_finite.Attn

open Idealize.ShloMosaic Cert.Pre_attn_finite

instance facts : Cert.Pre_attn_finite.Facts where
  bitsLt_bf16_f32 := by decide
  bcast_S_S2x1024x8448 := by decide
  reducesTo_S2x1024x8448_S_d0_1_2 := by decide
  h_S_ := by decide
  bcast_S_S2x8448x1024 := by decide
  reducesTo_S2x8448x1024_S_d0_1_2 := by decide
  bcast_S_S8x128 := by decide
  reducesTo_S8x128_S_d0_1 := by decide

theorem inf_eq : (FloatOps.ofBits .f32 0x7F800000#32 : Ideal .f32) = (⊤ : EReal) := by
  simp [FloatOps.ofBits, Ideal.ofBits, Ideal.ieee]

/-- An extended real whose absolute value is below infinity is a real. -/
theorem real_of_lt (x : EReal) (h : FloatOps.cmpf (F := Ideal) (φ := .f32) .olt (FloatOps.absf (F := Ideal) (φ := .f32) x) (FloatOps.ofBits .f32 0x7F800000#32) = 1#1) : ∃ r : ℝ, x = r := by
  rw [inf_eq] at h
  have h' : max x (-x) < (⊤ : EReal) := by
    by_contra hn
    have : FloatOps.cmpf (F := Ideal) (φ := .f32) .olt (FloatOps.absf (F := Ideal) (φ := .f32) x) (⊤ : EReal) = BitVec.ofBool (decide (max x (-x) < (⊤ : EReal))) := rfl
    rw [this, decide_eq_false hn] at h
    exact absurd h (by decide)
  induction x with
  | bot => exact absurd h' (by simp)
  | coe r => exact ⟨r, rfl⟩
  | top => exact absurd h' (by simp)

variable (a0 : IVec S1 32) (a1 : FVec Ideal S2x1024x8448 .bf16) (a2 : FVec Ideal S2x8448x1024 .bf16) (a3 : FVec Ideal S2x33x512x256 .bf16) (a4 : FVec Ideal S8x128 .f32)

instance : Subsingleton S_.Idx := ⟨fun a b => funext fun i => i.elim0⟩

theorem split (h : ∀ i, fn (F := Ideal) a0 a1 a2 a3 a4 i = 1#1) :
    (∀ i, ∃ r : ℝ, a1 i = (r : EReal)) ∧ (∀ i, ∃ r : ℝ, a2 i = (r : EReal)) ∧ (∀ i, ∃ r : ℝ, a4 i = (r : EReal)) := by
  have h0 := h (fun i => i.elim0)
  obtain ⟨h12, h3⟩ := IntOp.andi_eq_one.1 h0
  obtain ⟨h1, h2⟩ := IntOp.andi_eq_one.1 h12
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

/-- The queries, the keys and the bound are reals. -/
theorem reals (h : ∀ i, fn (F := Ideal) a0 a1 a2 a3 a4 i = 1#1) :
    ∃ (xq : S2x1024x8448.Idx → ℝ) (xk : S2x8448x1024.Idx → ℝ) (u : ℝ), (∀ i, a1 i = (xq i : EReal)) ∧ (∀ i, a2 i = (xk i : EReal)) ∧ a4 (ix2 0 0) = (u : EReal) := by
  obtain ⟨h1, h2, h3⟩ := split a0 a1 a2 a3 a4 h
  choose xq hq using h1
  choose xk hk using h2
  obtain ⟨u, hu⟩ := h3 (ix2 0 0)
  exact ⟨xq, xk, u, hq, hk, hu⟩

end Cert.Pre_attn_finite.Attn

end
-- ==== Proof.Ffn.Chunk.lean ====
/- The feed-forward part of an expert on a chunk of its rows, read at an index. -/
module

public import proofs.«01_k».proof.Proof.Gen.Kernel2Ideal.Frame
public import Idealize.ShloMosaic.Lib.Pointwise
public import Idealize.ShloMosaic.Lib.WritesUnit
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen

theorem zero_bits : FloatOps.ofBits (F := Ideal) FTy.f32 0#32 = (0 : EReal) := by
  show Ideal.ofBits .f32 0#32 = 0
  simp [Ideal.ofBits, Ideal.ieee]
theorem one_bits : FloatOps.ofBits (F := Ideal) FTy.f32 0x3F800000#32 = (1 : EReal) := by
  show Ideal.ofBits .f32 0x3F800000#32 = 1
  simp [Ideal.ofBits, Ideal.ieee]
  rw [← EReal.coe_mul]; norm_num
theorem zero_bits16 : FloatOps.ofBits (F := Ideal) FTy.bf16 0#16 = (0 : EReal) := by
  show Ideal.ofBits .bf16 0#16 = 0
  simp [Ideal.ofBits, Ideal.ieee]

/-- A hidden unit from its two projections: one through the sigmoid, times the other. -/
def glu (a b : EReal) : EReal := a * Ideal.div 1 (1 + Ideal.exp (0 - a)) * b

theorem proj_apply (w : Vec Ideal S1x1x1024x512 .f32) (x : Vec Ideal S1x528x1024 .bf16) (i : Fin 528) (f : Fin 512) :
    k0_pay17 (F := Ideal) w x (ix2 i f) = ∑ d : Fin 1024, x (ix3 0 i d) * w (ix4 0 0 d f) := by
  pointwise [k0_pay17, k0_pay14]

theorem acc_apply (v : FVec Ideal S512x1024 .bf16) (a b : FVec Ideal S528x512 .f32) (u : Vec Ideal S528x1024 .f32) (i : Fin 528) (n : Fin 1024) :
    k0_pay21 (F := Ideal) v a b u (ix2 i n) = u (ix2 i n) + ∑ f : Fin 512, glu (a (ix2 i f)) (b (ix2 i f)) * v (ix2 f n) := by
  pointwise [k0_pay21, glu]

theorem down_apply (w : Vec Ideal S1x1x512x1024 .f32) (f : Fin 512) (n : Fin 1024) :
    k0_pay16 (F := Ideal) w (ix2 f n) = w (ix4 0 0 f n) := by
  pointwise [k0_pay16]

/-- One chunk: what it held, plus the hidden units against the second weights. -/
theorem chunk_apply (w1 w3 : Vec Ideal S1x1x1024x512 .f32) (w2 : Vec Ideal S1x1x512x1024 .f32) (x : Vec Ideal S1x528x1024 .bf16) (u : Vec Ideal S528x1024 .f32)
    (i : Fin 528) (n : Fin 1024) :
    k0_pay21 (F := Ideal) (k0_pay16 w2) (k0_pay17 w1 x) (k0_pay17 w3 x) u (ix2 i n) =
      u (ix2 i n) + ∑ f : Fin 512, glu (∑ d : Fin 1024, x (ix3 0 i d) * w1 (ix4 0 0 d f)) (∑ d : Fin 1024, x (ix3 0 i d) * w3 (ix4 0 0 d f)) * w2 (ix4 0 0 f n) := by
  rw [acc_apply]
  refine congrArg (u (ix2 i n) + ·) (Finset.sum_congr rfl fun f _ => ?_)
  rw [proj_apply, proj_apply, down_apply]

/-- A block's part of an expert's result: its 512 hidden units. -/
def part (x : Vec Ideal S1x2112x1024 .bf16) (w1 w3 : Vec Ideal S1x1x1024x512 .f32) (w2 : Vec Ideal S1x1x512x1024 .f32) (c : Fin 2112) (n : Fin 1024) : EReal :=
  ∑ f : Fin 512, glu (∑ d : Fin 1024, x (ix3 0 c d) * w1 (ix4 0 0 d f)) (∑ d : Fin 1024, x (ix3 0 c d) * w3 (ix4 0 0 d f)) * w2 (ix4 0 0 f n)

/-- A chunk's rows of a block of tokens. -/
theorem ldX (x : Vec Ideal S1x2112x1024 .bf16) (o : ℕ) (ho : o + 528 ≤ 2112) (inb) (i : Fin 528) (d : Fin 1024) :
    View.ld x (Rect.unit (s := S1x2112x1024) ![0, o, 0] S1x528x1024.size inb) (ix3 0 i d) = x (ix3 0 ⟨o + i.val, by omega⟩ d) := by
  refine View.ld_unit_apply_of _ _ _ _ _ _ fun a => ?_
  match a with
  | 0 => rfl
  | 1 => rfl
  | 2 => exact (Nat.zero_add _).symm
/-- A chunk's rows of the accumulator. -/
theorem ldU (u : Vec Ideal S2112x1024 .f32) (o : ℕ) (ho : o + 528 ≤ 2112) (inb) (i : Fin 528) (n : Fin 1024) :
    View.ld u (Rect.unit (s := S2112x1024) ![o, 0] S528x1024.size inb) (ix2 i n) = u (ix2 ⟨o + i.val, by omega⟩ n) := by
  refine View.ld_unit_apply_of _ _ _ _ _ _ fun a => ?_
  match a with
  | 0 => rfl
  | 1 => exact (Nat.zero_add _).symm
/-- A column block of the accumulator. -/
theorem ldC (u : Vec Ideal S2112x1024 .f32) (o : ℕ) (ho : o + 128 ≤ 1024) (inb) (i : Fin 2112) (l : Fin 128) :
    View.ld u (Rect.unit (s := S2112x1024) ![0, o] S2112x128.size inb) (ix2 i l) = u (ix2 i ⟨o + l.val, by omega⟩) := by
  refine View.ld_unit_apply_of _ _ _ _ _ _ fun a => ?_
  match a with
  | 0 => exact (Nat.zero_add _).symm
  | 1 => rfl
theorem ldG (g : Vec Ideal S1x2112x128 .f32) (inb) : View.ld g (Rect.unit (s := S1x2112x128) ![0, 0, 0] S1x2112x128.size inb) = g := by
  refine funext fun y => View.ld_unit_apply_of _ _ _ _ _ _ fun a => ?_
  match a with
  | 0 => exact (Nat.zero_add _).symm
  | 1 => exact (Nat.zero_add _).symm
  | 2 => exact (Nat.zero_add _).symm
theorem ldW (w : Vec Ideal S1x1x1024x512 .f32) (inb) : View.ld w (Rect.unit (s := S1x1x1024x512) ![0, 0, 0, 0] S1x1x1024x512.size inb) = w := by
  refine funext fun y => View.ld_unit_apply_of _ _ _ _ _ _ fun a => ?_
  match a with
  | 0 => exact (Nat.zero_add _).symm
  | 1 => exact (Nat.zero_add _).symm
  | 2 => exact (Nat.zero_add _).symm
  | 3 => exact (Nat.zero_add _).symm
theorem ldD (w : Vec Ideal S1x1x512x1024 .f32) (inb) : View.ld w (Rect.unit (s := S1x1x512x1024) ![0, 0, 0, 0] S1x1x512x1024.size inb) = w := by
  refine funext fun y => View.ld_unit_apply_of _ _ _ _ _ _ fun a => ?_
  match a with
  | 0 => exact (Nat.zero_add _).symm
  | 1 => exact (Nat.zero_add _).symm
  | 2 => exact (Nat.zero_add _).symm
  | 3 => exact (Nat.zero_add _).symm

/-- The chunk of rows from `o` on, as stored: its part on top of what the accumulator held. -/
def chunk (w1 w3 : Vec Ideal S1x1x1024x512 .f32) (w2 : Vec Ideal S1x1x512x1024 .f32) (x : Vec Ideal S1x528x1024 .bf16) (u : Vec Ideal S528x1024 .f32) : FVec Ideal S528x1024 .f32 :=
  k0_pay21 (F := Ideal) (k0_pay16 w2) (k0_pay17 w1 x) (k0_pay17 w3 x) u
theorem chunk_part (w1 w3 : Vec Ideal S1x1x1024x512 .f32) (w2 : Vec Ideal S1x1x512x1024 .f32) (x : Vec Ideal S1x2112x1024 .bf16) (u : Vec Ideal S2112x1024 .f32)
    (o : ℕ) (ho : o + 528 ≤ 2112) (inb inb') (i : Fin 528) (n : Fin 1024) :
    chunk w1 w3 w2 (View.ld x (Rect.unit (s := S1x2112x1024) ![0, o, 0] S1x528x1024.size inb)) (View.ld u (Rect.unit (s := S2112x1024) ![o, 0] S528x1024.size inb')) (ix2 i n) =
      u (ix2 ⟨o + i.val, by omega⟩ n) + part x w1 w3 w2 ⟨o + i.val, by omega⟩ n := by
  refine (chunk_apply w1 w3 w2 _ _ i n).trans (congrArg₂ (· + ·) (ldU u o ho inb' i n) ?_)
  unfold part
  simp only [ldX x o ho inb i]

/-- The accumulator after its four chunks' stores, whatever was stored before. -/
theorem read_acc (v : View sig .tc .vmem S2112x1024 .f32) (b) (L : List (View.Piece (Elt Ideal) S2112x1024 .f32)) (q0 q1 q2 q3 : Vec Ideal S528x1024 .f32)
    (g : Fin 2112 → Fin 1024 → EReal) (h0 : ∀ i n, q0 (ix2 i n) = g ⟨i.val, by omega⟩ n) (h1 : ∀ i n, q1 (ix2 i n) = g ⟨528 + i.val, by omega⟩ n)
    (h2 : ∀ i n, q2 (ix2 i n) = g ⟨1056 + i.val, by omega⟩ n) (h3 : ∀ i n, q3 (ix2 i n) = g ⟨1584 + i.val, by omega⟩ n) (c : Fin 2112) (n : Fin 1024) :
    v.read (Elt Ideal) (v.writes (Elt Ideal) b
      (⟨Rect.unit (s := S2112x1024) ![1584, 0] S528x1024.size inb_S2112x1024_S528x1024_1584_0, q3⟩ :: ⟨Rect.unit (s := S2112x1024) ![1056, 0] S528x1024.size inb_S2112x1024_S528x1024_1056_0, q2⟩ ::
       ⟨Rect.unit (s := S2112x1024) ![528, 0] S528x1024.size inb_S2112x1024_S528x1024_528_0, q1⟩ :: ⟨Rect.unit (s := S2112x1024) ![0, 0] S528x1024.size inb_S2112x1024_S528x1024_0_0, q0⟩ :: L)) (ix2 c n) = g c n := by
  by_cases l3 : 1584 ≤ c.val
  · refine (View.read_writes_cons_unit_of_mem v b _ q3 _ (ix2 c n) (ix2 (⟨c.val - 1584, by omega⟩ : Fin 528) n) rfl fun a => ?_).trans ((h3 _ n).trans (congrArg (g · n) (Fin.ext ?_)))
    · match a with
      | 0 => show c.val = 1584 + (c.val - 1584); omega
      | 1 => exact (Nat.zero_add _).symm
    · show 1584 + (c.val - 1584) = c.val; omega
  refine (View.read_writes_cons_unit_of_not_mem v b _ q3 _ (ix2 c n) rfl (0 : Fin 2) (Or.inl (by show c.val < 1584; omega))).trans ?_
  by_cases l2 : 1056 ≤ c.val
  · refine (View.read_writes_cons_unit_of_mem v b _ q2 _ (ix2 c n) (ix2 (⟨c.val - 1056, by omega⟩ : Fin 528) n) rfl fun a => ?_).trans ((h2 _ n).trans (congrArg (g · n) (Fin.ext ?_)))
    · match a with
      | 0 => show c.val = 1056 + (c.val - 1056); omega
      | 1 => exact (Nat.zero_add _).symm
    · show 1056 + (c.val - 1056) = c.val; omega
  refine (View.read_writes_cons_unit_of_not_mem v b _ q2 _ (ix2 c n) rfl (0 : Fin 2) (Or.inl (by show c.val < 1056; omega))).trans ?_
  by_cases l1 : 528 ≤ c.val
  · refine (View.read_writes_cons_unit_of_mem v b _ q1 _ (ix2 c n) (ix2 (⟨c.val - 528, by omega⟩ : Fin 528) n) rfl fun a => ?_).trans ((h1 _ n).trans (congrArg (g · n) (Fin.ext ?_)))
    · match a with
      | 0 => show c.val = 528 + (c.val - 528); omega
      | 1 => exact (Nat.zero_add _).symm
    · show 528 + (c.val - 528) = c.val; omega
  refine (View.read_writes_cons_unit_of_not_mem v b _ q1 _ (ix2 c n) rfl (0 : Fin 2) (Or.inl (by show c.val < 528; omega))).trans ?_
  refine (View.read_writes_cons_unit_of_mem v b _ q0 _ (ix2 c n) (ix2 (⟨c.val, by omega⟩ : Fin 528) n) rfl fun a => ?_).trans (h0 _ n)
  match a with
  | 0 => exact (Nat.zero_add _).symm
  | 1 => exact (Nat.zero_add _).symm

/-- A store that misses an accumulator row reads through. -/
theorem acc_skip (v : View sig .tc .vmem S2112x1024 .f32) (b) (L : List (View.Piece (Elt Ideal) S2112x1024 .f32)) (q : Vec Ideal S528x1024 .f32) (o : ℕ) (inb)
    (c : Fin 2112) (n : Fin 1024) (h : o + 528 ≤ c.val) :
    v.read (Elt Ideal) (v.writes (Elt Ideal) b (⟨Rect.unit (s := S2112x1024) ![o, 0] S528x1024.size inb, q⟩ :: L)) (ix2 c n) = v.read (Elt Ideal) (v.writes (Elt Ideal) b L) (ix2 c n) :=
  View.read_writes_cons_unit_of_not_mem v b inb q L (ix2 c n) rfl (0 : Fin 2) (Or.inr h)
/-- The accumulator cleared. -/
theorem acc_zero (v : View sig .tc .vmem S2112x1024 .f32) (b) (inb) (c : Fin 2112) (n : Fin 1024) :
    v.read (Elt Ideal) (v.writes (Elt Ideal) b [⟨Rect.unit (s := S2112x1024) ![0, 0] S2112x1024.size inb, k0_pay13 (F := Ideal)⟩]) (ix2 c n) = 0 := by
  refine (View.read_writes_cons_unit_of_mem v b _ _ [] (ix2 c n) (ix2 c n) rfl fun a => ?_).trans ?_
  · match a with
    | 0 => exact (Nat.zero_add _).symm
    | 1 => exact (Nat.zero_add _).symm
  · pointwise [k0_pay13]

end Cert.Kernel2Ideal.Ffn

end
-- ==== Proof.Ffn.Out.lean ====
/- What the feed-forward body leaves in the accumulator and in the result's block, read at an index. -/
module

public import proofs.«01_k».proof.Proof.Ffn.Chunk

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen

/-- A piece of the accumulator's: the chunk of 528 rows from `o` on. -/
abbrev rowsP (o : ℕ) (inb : ∀ a, (![o, 0] : Fin 2 → ℕ) a + S528x1024.size a ≤ S2112x1024.size a) (q : Vec Ideal S528x1024 .f32) : View.Piece (Elt Ideal) S2112x1024 .f32 :=
  ⟨Rect.unit (s := S2112x1024) ![o, 0] S528x1024.size inb, q⟩

theorem pay24_eq : @k0_pay24 Ideal _ = @k0_pay21 Ideal _ := rfl
theorem pay25_eq : @k0_pay25 Ideal _ = @k0_pay21 Ideal _ := rfl
theorem pay26_eq (v5 v8 : FVec Ideal S1024x512 .bf16) (v11 : FVec Ideal S512x1024 .bf16) (v62 v65 : Vec Ideal S1x528x1024 .bf16) (v84 : Vec Ideal S528x1024 .f32) :
    k0_pay1 (k0_pay26 v5 v8 v11 v62 v65 v84) = k0_pay21 v11 (k0_pay22 v5 v62) (k0_pay23 v8 v65) v84 := rfl

section accumulator
variable (v : View sig .tc .vmem S2112x1024 .f32) (w1 w3 : Vec Ideal S1x1x1024x512 .f32) (w2 : Vec Ideal S1x1x512x1024 .f32) (x : Vec Ideal S1x2112x1024 .bf16)

/-- A chunk's store on top of the stores before it, from which it reads. -/
def push (o : ℕ) (inb : ∀ a, (![o, 0] : Fin 2 → ℕ) a + S528x1024.size a ≤ S2112x1024.size a) (inb' : ∀ a, (![0, o, 0] : Fin 3 → ℕ) a + S1x528x1024.size a ≤ S1x2112x1024.size a) (L : List (View.Piece (Elt Ideal) S2112x1024 .f32)) : List (View.Piece (Elt Ideal) S2112x1024 .f32) :=
  rowsP o inb (chunk w1 w3 w2 (View.ld x (Rect.unit (s := S1x2112x1024) ![0, o, 0] S1x528x1024.size inb'))
    (View.ld (v.read (Elt Ideal) (v.writes (Elt Ideal) v.junk L)) (Rect.unit (s := S2112x1024) ![o, 0] S528x1024.size inb))) :: L
/-- The clearing store. -/
def Z0 : List (View.Piece (Elt Ideal) S2112x1024 .f32) := [⟨Rect.unit (s := S2112x1024) ![0, 0] S2112x1024.size inb_S2112x1024_S2112x1024_0_0, k0_pay13 (F := Ideal)⟩]
abbrev Z1 := push v w1 w3 w2 x 0 inb_S2112x1024_S528x1024_0_0 inb_S1x2112x1024_S1x528x1024_0_0_0 Z0
abbrev Z2 := push v w1 w3 w2 x 528 inb_S2112x1024_S528x1024_528_0 inb_S1x2112x1024_S1x528x1024_0_528_0 (Z1 v w1 w3 w2 x)
abbrev Z3 := push v w1 w3 w2 x 1056 inb_S2112x1024_S528x1024_1056_0 inb_S1x2112x1024_S1x528x1024_0_1056_0 (Z2 v w1 w3 w2 x)
abbrev Z4 := push v w1 w3 w2 x 1584 inb_S2112x1024_S528x1024_1584_0 inb_S1x2112x1024_S1x528x1024_0_1584_0 (Z3 v w1 w3 w2 x)

theorem read_Z0 (b) (c : Fin 2112) (n : Fin 1024) : v.read (Elt Ideal) (v.writes (Elt Ideal) b Z0) (ix2 c n) = 0 := acc_zero v b _ c n
theorem read_Z1 (b) (c : Fin 2112) (n : Fin 1024) (h : 528 ≤ c.val) : v.read (Elt Ideal) (v.writes (Elt Ideal) b (Z1 v w1 w3 w2 x)) (ix2 c n) = 0 :=
  (acc_skip v b _ _ 0 _ c n (by omega)).trans (read_Z0 v b c n)
theorem read_Z2 (b) (c : Fin 2112) (n : Fin 1024) (h : 1056 ≤ c.val) : v.read (Elt Ideal) (v.writes (Elt Ideal) b (Z2 v w1 w3 w2 x)) (ix2 c n) = 0 :=
  (acc_skip v b _ _ 528 _ c n (by omega)).trans (read_Z1 v w1 w3 w2 x b c n (by omega))
theorem read_Z3 (b) (c : Fin 2112) (n : Fin 1024) (h : 1584 ≤ c.val) : v.read (Elt Ideal) (v.writes (Elt Ideal) b (Z3 v w1 w3 w2 x)) (ix2 c n) = 0 :=
  (acc_skip v b _ _ 1056 _ c n (by omega)).trans (read_Z2 v w1 w3 w2 x b c n (by omega))

theorem push_part (o : ℕ) (ho : o + 528 ≤ 2112) (inb inb') (L : List (View.Piece (Elt Ideal) S2112x1024 .f32))
    (h : ∀ (c : Fin 2112) (n : Fin 1024), o ≤ c.val → v.read (Elt Ideal) (v.writes (Elt Ideal) v.junk L) (ix2 c n) = 0) (i : Fin 528) (n : Fin 1024) :
    chunk w1 w3 w2 (View.ld x (Rect.unit (s := S1x2112x1024) ![0, o, 0] S1x528x1024.size inb'))
      (View.ld (v.read (Elt Ideal) (v.writes (Elt Ideal) v.junk L)) (Rect.unit (s := S2112x1024) ![o, 0] S528x1024.size inb)) (ix2 i n) = part x w1 w3 w2 ⟨o + i.val, by omega⟩ n := by
  refine (chunk_part w1 w3 w2 x _ o ho inb' inb i n).trans ?_
  rw [h ⟨o + i.val, by omega⟩ n (Nat.le_add_right _ _), zero_add]

/-- From a cleared accumulator: the block's part. -/
theorem read_Z4 (v' : View sig .tc .vmem S2112x1024 .f32) (b) (c : Fin 2112) (n : Fin 1024) : v'.read (Elt Ideal) (v'.writes (Elt Ideal) b (Z4 v w1 w3 w2 x)) (ix2 c n) = part x w1 w3 w2 c n := by
  refine read_acc v' b Z0 _ _ _ _ (part x w1 w3 w2) (fun i n => ?_) (fun i n => ?_) (fun i n => ?_) (fun i n => ?_) c n
  · refine (push_part v w1 w3 w2 x 0 (by decide) _ _ Z0 (fun c n _ => read_Z0 v _ c n) i n).trans (congrArg (part x w1 w3 w2 · n) (Fin.ext (Nat.zero_add _)))
  · exact push_part v w1 w3 w2 x 528 (by decide) _ _ _ (fun c n h => read_Z1 v w1 w3 w2 x _ c n h) i n
  · exact push_part v w1 w3 w2 x 1056 (by decide) _ _ _ (fun c n h => read_Z2 v w1 w3 w2 x _ c n h) i n
  · exact push_part v w1 w3 w2 x 1584 (by decide) _ _ _ (fun c n h => read_Z3 v w1 w3 w2 x _ c n h) i n

/-- The four chunks' stores over an accumulator `u`. -/
def C4 (u : Vec Ideal S2112x1024 .f32) : List (View.Piece (Elt Ideal) S2112x1024 .f32) :=
  [rowsP 1584 inb_S2112x1024_S528x1024_1584_0 (chunk w1 w3 w2 (View.ld x (Rect.unit (s := S1x2112x1024) ![0, 1584, 0] S1x528x1024.size inb_S1x2112x1024_S1x528x1024_0_1584_0)) (View.ld u (Rect.unit (s := S2112x1024) ![1584, 0] S528x1024.size inb_S2112x1024_S528x1024_1584_0))),
   rowsP 1056 inb_S2112x1024_S528x1024_1056_0 (chunk w1 w3 w2 (View.ld x (Rect.unit (s := S1x2112x1024) ![0, 1056, 0] S1x528x1024.size inb_S1x2112x1024_S1x528x1024_0_1056_0)) (View.ld u (Rect.unit (s := S2112x1024) ![1056, 0] S528x1024.size inb_S2112x1024_S528x1024_1056_0))),
   rowsP 528 inb_S2112x1024_S528x1024_528_0 (chunk w1 w3 w2 (View.ld x (Rect.unit (s := S1x2112x1024) ![0, 528, 0] S1x528x1024.size inb_S1x2112x1024_S1x528x1024_0_528_0)) (View.ld u (Rect.unit (s := S2112x1024) ![528, 0] S528x1024.size inb_S2112x1024_S528x1024_528_0))),
   rowsP 0 inb_S2112x1024_S528x1024_0_0 (chunk w1 w3 w2 (View.ld x (Rect.unit (s := S1x2112x1024) ![0, 0, 0] S1x528x1024.size inb_S1x2112x1024_S1x528x1024_0_0_0)) (View.ld u (Rect.unit (s := S2112x1024) ![0, 0] S528x1024.size inb_S2112x1024_S528x1024_0_0)))]
/-- Over an accumulator: the block's part on top. -/
theorem read_C4 (u : Vec Ideal S2112x1024 .f32) (b) (c : Fin 2112) (n : Fin 1024) :
    v.read (Elt Ideal) (v.writes (Elt Ideal) b (C4 w1 w3 w2 x u)) (ix2 c n) = u (ix2 c n) + part x w1 w3 w2 c n := by
  refine read_acc v b [] _ _ _ _ (fun c n => u (ix2 c n) + part x w1 w3 w2 c n) (fun i n => ?_) (fun i n => ?_) (fun i n => ?_) (fun i n => ?_) c n
  · exact (chunk_part w1 w3 w2 x u 0 (by decide) _ _ i n).trans (congrArg (fun c => u (ix2 c n) + part x w1 w3 w2 c n) (Fin.ext (Nat.zero_add _)))
  · exact chunk_part w1 w3 w2 x u 528 (by decide) _ _ i n
  · exact chunk_part w1 w3 w2 x u 1056 (by decide) _ _ i n
  · exact chunk_part w1 w3 w2 x u 1584 (by decide) _ _ i n
end accumulator

/-- A column block of the result as stored: the accumulator's times the gate's copies. -/
def outP (o : ℕ) (g : Vec Ideal S1x2112x128 .f32) (u : Vec Ideal S2112x1024 .f32) (inb : ∀ a, (![0, o] : Fin 2 → ℕ) a + S2112x128.size a ≤ S2112x1024.size a) : FVec Ideal S1x2112x128 .bf16 :=
  k0_pay8 (F := Ideal) g (View.ld u (Rect.unit (s := S2112x1024) ![0, o] S2112x128.size inb))
theorem outP_apply (o : ℕ) (ho : o + 128 ≤ 1024) (g : Vec Ideal S1x2112x128 .f32) (u : Vec Ideal S2112x1024 .f32) (inb) (c : Fin 2112) (l : Fin 128) :
    outP o g u inb (ix3 0 c l) = u (ix2 c ⟨o + l.val, by omega⟩) * g (ix3 0 c l) := by
  rw [← ldC u o ho inb c l]
  unfold outP
  generalize View.ld u (Rect.unit (s := S2112x1024) ![0, o] S2112x128.size inb) = z
  pointwise [k0_pay8, k0_pay7]

/-- A piece of the result's block: the column block at `o`. -/
abbrev colP (o : ℕ) (inb : ∀ a, (![0, 0, o] : Fin 3 → ℕ) a + S1x2112x128.size a ≤ S1x2384x1024.size a) (q : Vec Ideal S1x2112x128 .bf16) : View.Piece (Elt Ideal) S1x2384x1024 .bf16 :=
  ⟨Rect.unit (s := S1x2384x1024) ![0, 0, o] S1x2112x128.size inb, q⟩
theorem col_mem (v : View sig .tc .vmem S1x2384x1024 .bf16) (b) (o : ℕ) (inb) (q) (L) (c : Fin 2384) (hc : c.val < 2112) (n : Fin 1024) (h : o ≤ n.val ∧ n.val < o + 128) :
    v.read (Elt Ideal) (v.writes (Elt Ideal) b (colP o inb q :: L)) (ix3 0 c n) = q (ix3 0 ⟨c.val, hc⟩ ⟨n.val - o, by omega⟩) := by
  refine View.read_writes_cons_unit_of_mem v b _ q L (ix3 0 c n) (ix3 0 (⟨c.val, hc⟩ : Fin 2112) (⟨n.val - o, by omega⟩ : Fin 128)) rfl fun a => ?_
  match a with
  | 0 => rfl
  | 1 => exact (Nat.zero_add _).symm
  | 2 => show n.val = o + (n.val - o); omega
theorem col_skip (v : View sig .tc .vmem S1x2384x1024 .bf16) (b) (o : ℕ) (inb) (q) (L) (c : Fin 2384) (n : Fin 1024) (h : n.val < o ∨ o + 128 ≤ n.val) :
    v.read (Elt Ideal) (v.writes (Elt Ideal) b (colP o inb q :: L)) (ix3 0 c n) = v.read (Elt Ideal) (v.writes (Elt Ideal) b L) (ix3 0 c n) :=
  View.read_writes_cons_unit_of_not_mem v b inb q L (ix3 0 c n) rfl (2 : Fin 3) h

/-- The nine stores of the result's block. -/
def O9 (g : Vec Ideal S1x2112x128 .f32) (u : Vec Ideal S2112x1024 .f32) : List (View.Piece (Elt Ideal) S1x2384x1024 .bf16) :=
  [⟨Rect.unit (s := S1x2384x1024) ![0, 2112, 0] S1x272x1024.size inb_S1x2384x1024_S1x272x1024_0_2112_0, k0_pay6 (F := Ideal)⟩,
   colP 896 inb_S1x2384x1024_S1x2112x128_0_0_896 (outP 896 g u inb_S2112x1024_S2112x128_0_896),
   colP 768 inb_S1x2384x1024_S1x2112x128_0_0_768 (outP 768 g u inb_S2112x1024_S2112x128_0_768),
   colP 640 inb_S1x2384x1024_S1x2112x128_0_0_640 (outP 640 g u inb_S2112x1024_S2112x128_0_640),
   colP 512 inb_S1x2384x1024_S1x2112x128_0_0_512 (outP 512 g u inb_S2112x1024_S2112x128_0_512),
   colP 384 inb_S1x2384x1024_S1x2112x128_0_0_384 (outP 384 g u inb_S2112x1024_S2112x128_0_384),
   colP 256 inb_S1x2384x1024_S1x2112x128_0_0_256 (outP 256 g u inb_S2112x1024_S2112x128_0_256),
   colP 128 inb_S1x2384x1024_S1x2112x128_0_0_128 (outP 128 g u inb_S2112x1024_S2112x128_0_128),
   colP 0 inb_S1x2384x1024_S1x2112x128_0_0_0 (outP 0 g u inb_S2112x1024_S2112x128_0_0)]
theorem read_O9 (v : View sig .tc .vmem S1x2384x1024 .bf16) (b) (g : Vec Ideal S1x2112x128 .f32) (u : Vec Ideal S2112x1024 .f32) (c : Fin 2384) (n : Fin 1024) :
    v.read (Elt Ideal) (v.writes (Elt Ideal) b (O9 g u)) (ix3 0 c n) = if h : c.val < 2112 then u (ix2 ⟨c.val, h⟩ n) * g (ix3 0 ⟨c.val, h⟩ ⟨n.val % 128, by omega⟩) else 0 := by
  have key : ∀ (o : ℕ) (ho : o + 128 ≤ 1024) (inb) (hc : c.val < 2112) (h : o ≤ n.val ∧ n.val < o + 128) (hd : o % 128 = 0),
      outP o g u inb (ix3 0 ⟨c.val, hc⟩ ⟨n.val - o, by omega⟩) = u (ix2 ⟨c.val, hc⟩ n) * g (ix3 0 ⟨c.val, hc⟩ ⟨n.val % 128, by omega⟩) := by
    intro o ho inb hc h hd
    refine (outP_apply o ho g u inb _ _).trans (congrArg₂ (fun (a : Fin 1024) (l : Fin 128) => u (ix2 ⟨c.val, hc⟩ a) * g (ix3 0 ⟨c.val, hc⟩ l)) (Fin.ext ?_) (Fin.ext ?_))
    · show o + (n.val - o) = n.val; omega
    · show n.val - o = n.val % 128; omega
  by_cases hc : c.val < 2112
  · rw [dif_pos hc]
    refine (View.read_writes_cons_unit_of_not_mem v b _ _ _ (ix3 0 c n) rfl (1 : Fin 3) (Or.inl hc)).trans ?_
    by_cases h7 : 896 ≤ n.val
    · exact (col_mem v b 896 _ _ _ c hc n (by omega)).trans (key 896 (by decide) _ hc (by omega) (by decide))
    refine (col_skip v b 896 _ _ _ c n (by omega)).trans ?_
    by_cases h6 : 768 ≤ n.val
    · exact (col_mem v b 768 _ _ _ c hc n (by omega)).trans (key 768 (by decide) _ hc (by omega) (by decide))
    refine (col_skip v b 768 _ _ _ c n (by omega)).trans ?_
    by_cases h5 : 640 ≤ n.val
    · exact (col_mem v b 640 _ _ _ c hc n (by omega)).trans (key 640 (by decide) _ hc (by omega) (by decide))
    refine (col_skip v b 640 _ _ _ c n (by omega)).trans ?_
    by_cases h4 : 512 ≤ n.val
    · exact (col_mem v b 512 _ _ _ c hc n (by omega)).trans (key 512 (by decide) _ hc (by omega) (by decide))
    refine (col_skip v b 512 _ _ _ c n (by omega)).trans ?_
    by_cases h3 : 384 ≤ n.val
    · exact (col_mem v b 384 _ _ _ c hc n (by omega)).trans (key 384 (by decide) _ hc (by omega) (by decide))
    refine (col_skip v b 384 _ _ _ c n (by omega)).trans ?_
    by_cases h2 : 256 ≤ n.val
    · exact (col_mem v b 256 _ _ _ c hc n (by omega)).trans (key 256 (by decide) _ hc (by omega) (by decide))
    refine (col_skip v b 256 _ _ _ c n (by omega)).trans ?_
    by_cases h1 : 128 ≤ n.val
    · exact (col_mem v b 128 _ _ _ c hc n (by omega)).trans (key 128 (by decide) _ hc (by omega) (by decide))
    refine (col_skip v b 128 _ _ _ c n (by omega)).trans ?_
    exact (col_mem v b 0 _ _ _ c hc n (by omega)).trans (key 0 (by decide) _ hc (by omega) (by decide))
  · rw [dif_neg hc]
    refine (View.read_writes_cons_unit_of_mem v b _ _ _ (ix3 0 c n) (ix3 0 (⟨c.val - 2112, by omega⟩ : Fin 272) n) rfl fun a => ?_).trans ?_
    · match a with
      | 0 => rfl
      | 1 => show c.val = 2112 + (c.val - 2112); omega
      | 2 => exact (Nat.zero_add _).symm
    · pointwise [k0_pay6]

section body
variable (c : Dev nD) (i : grid0.Coords) (arg2 : Memref sig .tc .vmem S1x2112x1024 .bf16) (harg2 : arg2.IsWhole) (arg3 : Memref sig .tc .vmem S1x2112x128 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S1x2384x1024 .bf16) (harg7 : arg7.IsWhole) (arg8 : Memref sig .tc .vmem S2112x1024 .f32) (harg8 : arg8.IsWhole)
    (x0 : Vec Ideal S1x2112x1024 .bf16) (x1 : Vec Ideal S1x2112x128 .f32) (x2 : Vec Ideal S1x1x1024x512 .f32) (x3 : Vec Ideal S1x1x1024x512 .f32) (x4 : Vec Ideal S1x1x512x1024 .f32) (xs0 : Vec Ideal S2112x1024 .f32)

theorem runA_eq (hc0 : cond0_0 i) (hc1 : ¬cond0_1 i) : (kernelRun0_A (F := Ideal) c i arg2 harg2 arg3 harg3 arg4 harg4 arg5 harg5 arg6 harg6 arg7 harg7 arg8 harg8 hc0 hc1 x0 x1 x2 x3 x4).2.1 = Z4 arg8.view x2 x3 x4 x0 := by
  unfold kernelRun0_A
  dsimp only
  sl_unfold_run_names
  simp only [View.readAt_eq_ld, View.readCov, harg2.read_unread, harg3.read_unread, harg4.read_unread, harg5.read_unread, harg6.read_unread, pay24_eq, pay25_eq, pay26_eq]
  rw [ldW x2 inb_S1x1x1024x512_S1x1x1024x512_0_0_0_0, ldW x3 inb_S1x1x1024x512_S1x1x1024x512_0_0_0_0, ldD x4 inb_S1x1x512x1024_S1x1x512x1024_0_0_0_0]
  rfl
theorem runB_eq (hc0 : ¬cond0_0 i) (hc1 : cond0_1 i) : (kernelRun0_B (F := Ideal) c i arg2 harg2 arg3 harg3 arg4 harg4 arg5 harg5 arg6 harg6 arg7 harg7 arg8 harg8 hc0 hc1 x0 x1 x2 x3 x4 xs0).1 =
    O9 x1 (arg8.view.read (Elt Ideal) (arg8.view.writes (Elt Ideal) arg8.view.junk (C4 x2 x3 x4 x0 xs0))) := by
  unfold kernelRun0_B
  dsimp only
  sl_unfold_run_names
  simp only [View.readAt_eq_ld, View.readCov, harg2.read_unread, harg3.read_unread, harg4.read_unread, harg5.read_unread, harg6.read_unread, harg8.read_unread, pay24_eq, pay25_eq, pay26_eq]
  rw [ldW x2 inb_S1x1x1024x512_S1x1x1024x512_0_0_0_0, ldW x3 inb_S1x1x1024x512_S1x1x1024x512_0_0_0_0, ldD x4 inb_S1x1x512x1024_S1x1x512x1024_0_0_0_0, ldG x1 inb_S1x2112x128_S1x2112x128_0_0_0]
  rfl
/-- The accumulator after an expert's first block. -/
theorem soutA_apply (hc0 : cond0_0 i) (hc1 : ¬cond0_1 i) (r : Fin 2112) (n : Fin 1024) :
    sout0_A_0 (F := Ideal) c i arg2 harg2 arg3 harg3 arg4 harg4 arg5 harg5 arg6 harg6 arg7 harg7 arg8 harg8 hc0 hc1 x0 x1 x2 x3 x4 (ix2 r n) = part x0 x2 x3 x4 r n := by
  unfold sout0_A_0
  rw [runA_eq]
  exact read_Z4 arg8.view x2 x3 x4 x0 VS0_0 _ r n
/-- The result's block after an expert's second block. -/
theorem outB_apply (hc0 : ¬cond0_0 i) (hc1 : cond0_1 i) (r : Fin 2384) (n : Fin 1024) :
    out0_B_5 (F := Ideal) c i arg2 harg2 arg3 harg3 arg4 harg4 arg5 harg5 arg6 harg6 arg7 harg7 arg8 harg8 hc0 hc1 x0 x1 x2 x3 x4 xs0 (ix3 0 r n) =
      if h : r.val < 2112 then (xs0 (ix2 ⟨r.val, h⟩ n) + part x0 x2 x3 x4 ⟨r.val, h⟩ n) * x1 (ix3 0 ⟨r.val, h⟩ ⟨n.val % 128, by omega⟩) else 0 := by
  unfold out0_B_5
  rw [runB_eq]
  refine (read_O9 VO0_5 _ x1 _ r n).trans ?_
  simp only [read_C4]
end body

end Cert.Kernel2Ideal.Ffn

end
-- ==== Proof.Ffn.Ref.lean ====
/- The reference's feed-forward part read at an index. -/
module

public import proofs.«01_k».proof.Proof.Ffn.Chunk
public import proofs.«01_k».proof.Proof.Gen.Reference2Ideal.Read
public import Idealize.ShloMosaic.Lib.KernelVsHost

@[expose] public section

set_option maxRecDepth 16384

noncomputable section

namespace Cert.Reference2Ideal.Ffn

open Idealize.ShloMosaic Idealize.ShloMosaic.TcCoe Idealize.ShloMosaic.Tactic
open Cert.Reference2Ideal Cert.Reference2Ideal.Gen Cert.Reference2Ideal.Read
open Cert.Kernel2Ideal.Ffn (glu zero_bits one_bits)

variable (x0 : Vec Ideal S16x2384x1024 .bf16) (x1 : Vec Ideal S16x2384x128 .f32) (x2 x3 x4 : Vec Ideal S4x16x1024x1024 .f32)

/-- A token's projection by an expert's first or third weights. -/
def rproj (x : Vec Ideal S16x2384x1024 .bf16) (w : Vec Ideal S4x16x1024x1024 .f32) (e : Fin 16) (c : Fin 2384) (f : Fin 1024) : EReal :=
  ∑ d : Fin 1024, x (ix3 e c d) * w (ix4 0 e d f)

theorem w3_apply (w : Vec Ideal S4x16x1024x1024 .f32) (e : Fin 16) (d f : Fin 1024) : val_main_v3 (F := Ideal) w (ix3 e d f) = w (ix4 0 e d f) := by
  refine (val_main_v3_apply (F := Ideal) w _).trans ((val_main_v2_apply (F := Ideal) w _).trans (congrArg w (funext fun a => Fin.ext ?_)))
  match a with
  | 0 => rfl
  | 1 => show ((e.val * 1024 + d.val) * 1024 + f.val) / 1048576 % 16 = e.val; omega
  | 2 => show ((e.val * 1024 + d.val) * 1024 + f.val) / 1024 % 1024 = d.val; omega
  | 3 => show ((e.val * 1024 + d.val) * 1024 + f.val) % 1024 = f.val; omega
theorem w7_apply (w : Vec Ideal S4x16x1024x1024 .f32) (e : Fin 16) (d f : Fin 1024) : val_main_v7 (F := Ideal) w (ix3 e d f) = w (ix4 0 e d f) :=
  w3_apply w e d f
theorem w11_apply (w : Vec Ideal S4x16x1024x1024 .f32) (e : Fin 16) (d f : Fin 1024) : val_main_v11 (F := Ideal) w (ix3 e d f) = w (ix4 0 e d f) :=
  w3_apply w e d f

theorem x_apply (e : Fin 16) (c : Fin 2112) (d : Fin 1024) : val_main_v1 (F := Ideal) x0 (ix3 e c d) = x0 (ix3 e ⟨c.val, by omega⟩ d) := by
  refine (val_main_v0_apply (F := Ideal) x0 _).trans (congrArg x0 (funext fun a => ?_))
  match a with
  | 0 => rfl
  | 1 => rfl
  | 2 => rfl

theorem a_apply (w : Vec Ideal S4x16x1024x1024 .f32) (e : Fin 16) (c : Fin 2112) (f : Fin 1024) :
    val_main_v4 (F := Ideal) x0 w (ix3 e c f) = rproj x0 w e ⟨c.val, by omega⟩ f := by
  refine (val_main_v4_apply x0 w _).trans (Finset.sum_congr rfl fun d _ => congrArg₂ (fun a b : EReal => a * b) ?_ ?_)
  · refine (congrArg (val_main_v1 (F := Ideal) x0) (show _ = (ix3 e c d : S16x2112x1024.Idx) from funext fun a => ?_)).trans (x_apply x0 e c d)
    match a with
    | 0 => rfl
    | 1 => rfl
    | 2 => rfl
  · refine (congrArg (val_main_v3 (F := Ideal) w) (show _ = (ix3 e d f : S16x1024x1024.Idx) from funext fun a => ?_)).trans (w3_apply w e d f)
    match a with
    | 0 => rfl
    | 1 => rfl
    | 2 => rfl
theorem b_apply (w : Vec Ideal S4x16x1024x1024 .f32) (e : Fin 16) (c : Fin 2112) (f : Fin 1024) :
    val_main_v8 (F := Ideal) x0 w (ix3 e c f) = rproj x0 w e ⟨c.val, by omega⟩ f := a_apply x0 w e c f

theorem hid_apply (e : Fin 16) (c : Fin 2112) (f : Fin 1024) :
    val_main_v9 (F := Ideal) x0 x2 x3 (ix3 e c f) = glu (rproj x0 x2 e ⟨c.val, by omega⟩ f) (rproj x0 x3 e ⟨c.val, by omega⟩ f) := by
  refine congrArg₂ (fun a b : EReal => a * b) (congrArg₂ (fun a b : EReal => a * b) (a_apply x0 x2 e c f) ?_) (b_apply x0 x3 e c f)
  refine congrArg₂ Ideal.div ((val_main_call0_v4_apply (F := Ideal) _).trans one_bits) (congrArg₂ (fun a b : EReal => a + b) ((val_main_call0_v2_apply (F := Ideal) _).trans one_bits) ?_)
  refine congrArg Ideal.exp ?_
  rw [zero_sub, ← a_apply x0 x2 e c f]
  rfl

theorem gate_apply (e : Fin 16) (c : Fin 2112) (n : Fin 1024) : val_main_v16 (F := Ideal) x1 (ix3 e c n) = x1 (ix3 e ⟨c.val, by omega⟩ ⟨n.val % 128, by omega⟩) := by
  pointwise [val_main_v16, val_main_v15, val_main_v14, val_main_v13]

/-- An element of the reference's result. -/
theorem ref_apply (e : Fin 16) (c : Fin 2384) (n : Fin 1024) :
    val_main_v19 (F := Ideal) x0 x1 x2 x3 x4 (ix3 e c n) =
      if c.val < 2112 then (∑ f : Fin 1024, glu (rproj x0 x2 e c f) (rproj x0 x3 e c f) * x4 (ix4 0 e f n)) * x1 (ix3 e c ⟨n.val % 128, by omega⟩) else 0 := by
  show val_main_v18 (F := Ideal) x0 x1 x2 x3 x4 (ix3 e c n) = _
  unfold val_main_v18
  by_cases hc : c.val < 2112
  · rw [if_pos hc]
    refine (pad_apply_of_inside _ _ _ _ _ _ _ _ (ix3 e (⟨c.val, hc⟩ : Fin 2112) n) fun a => ?_).trans ?_
    · match a with
      | 0 => show e.val = 0 + e.val * 1; omega
      | 1 => show c.val = 0 + c.val * 1; omega
      | 2 => show n.val = 0 + n.val * 1; omega
    refine congrArg₂ (fun a b : EReal => a * b) ((val_main_v12_apply x0 x2 x3 x4 _).trans (Finset.sum_congr rfl fun f _ => congrArg₂ (fun a b : EReal => a * b) ?_ ?_)) (gate_apply x1 e ⟨c.val, hc⟩ n)
    · refine (congrArg (val_main_v9 (F := Ideal) x0 x2 x3) (show _ = (ix3 e (⟨c.val, hc⟩ : Fin 2112) f : S16x2112x1024.Idx) from funext fun a => ?_)).trans (hid_apply x0 x2 x3 e ⟨c.val, hc⟩ f)
      match a with
      | 0 => rfl
      | 1 => rfl
      | 2 => rfl
    · refine (congrArg (val_main_v11 (F := Ideal) x4) (show _ = (ix3 e f n : S16x1024x1024.Idx) from funext fun a => ?_)).trans (w11_apply x4 e f n)
      match a with
      | 0 => rfl
      | 1 => rfl
      | 2 => rfl
  · rw [if_neg hc]
    refine (pad_apply_of_not_inside _ _ _ _ _ _ _ _ (1 : Fin 3) fun h => hc ?_).trans ?_
    · have h2 : (c.val - 0) / 1 < 2112 := h.2.2
      omega
    · show ((((0#32 : BitVec 32).toInt : ℝ)) : EReal) = 0
      simp

end Cert.Reference2Ideal.Ffn

end
-- ==== Proof.Ffn.Value.lean ====
/- The feed-forward result array: the reference's, element by element. -/
module

public import proofs.«01_k».proof.Proof.Ffn.Out
public import proofs.«01_k».proof.Proof.Ffn.Ref
public import proofs.«01_k».proof.Proof.Gen.Kernel2Ideal.Value

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen
open Cert.Reference2Ideal.Ffn (rproj ref_apply)

variable (m : (ℓ : Loc nD τ sig) → Buf (Elt Ideal) ℓ) (c : Dev nD)

/-- A grid point's expert and block of hidden units. -/
abbrev ge (t : Fin grid0.N) : Fin 16 := grid0.coords t 0
abbrev gf (t : Fin grid0.N) : Fin 2 := grid0.coords t 1

theorem ixX : ∀ t : Fin grid0.N, cc0_transform_0 (grid0.coords t) = ![(ge t).val, 0, 0] := by decide +kernel
theorem ixG : ∀ t : Fin grid0.N, cc0_transform_1 (grid0.coords t) = ![(ge t).val, 0, 0] := by decide +kernel
theorem ixA : ∀ t : Fin grid0.N, cc0_transform_2 (grid0.coords t) = ![0, (ge t).val, 0, (gf t).val] := by decide +kernel
theorem ixB : ∀ t : Fin grid0.N, cc0_transform_3 (grid0.coords t) = ![0, (ge t).val, 0, (gf t).val] := by decide +kernel
theorem ixD : ∀ t : Fin grid0.N, cc0_transform_4 (grid0.coords t) = ![0, (ge t).val, (gf t).val, 0] := by decide +kernel
theorem ixO : ∀ t : Fin grid0.N, cc0_transform_5 (grid0.coords t) = ![(ge t).val, 0, 0] := by decide +kernel
theorem gf_val : ∀ t : Fin grid0.N, (gf t).val = t.val % 2 := by decide +kernel
theorem ge_val : ∀ t : Fin grid0.N, (ge t).val = t.val / 2 := by decide +kernel

theorem blkX (t : Fin grid0.N) (r : Fin 2112) (d : Fin 1024) :
    X0_0 m c t (ix3 0 r d) = m ((c : Thread nD τ).loc main_arg0) (ix3 (ge t) ⟨r.val, by omega⟩ d) := by
  unfold X0_0 Pipeline.Window.fill
  refine (dif_pos (moved0_0 t (ix3 0 r d))).trans ?_
  refine congrArg (m ((c : Thread nD τ).loc main_arg0)) (funext (α := Fin 3) (β := fun a => Fin (S16x2384x1024.size a)) fun a => Fin.ext ?_)
  have e := ixX t
  match a with
  | 0 => show cc0_transform_0 (grid0.coords t) 0 * 1 + 1 * 0 = (ge t).val; rw [e]; show (ge t).val * 1 + 1 * 0 = _; omega
  | 1 => show cc0_transform_0 (grid0.coords t) 1 * 2112 + 1 * r.val = r.val; rw [e]; show 0 * 2112 + 1 * r.val = _; omega
  | 2 => show cc0_transform_0 (grid0.coords t) 2 * 1024 + 1 * d.val = d.val; rw [e]; show 0 * 1024 + 1 * d.val = _; omega
theorem blkG (t : Fin grid0.N) (r : Fin 2112) (l : Fin 128) :
    X0_1 m c t (ix3 0 r l) = m ((c : Thread nD τ).loc main_arg1) (ix3 (ge t) ⟨r.val, by omega⟩ l) := by
  unfold X0_1 Pipeline.Window.fill
  refine (dif_pos (moved0_1 t (ix3 0 r l))).trans ?_
  refine congrArg (m ((c : Thread nD τ).loc main_arg1)) (funext (α := Fin 3) (β := fun a => Fin (S16x2384x128.size a)) fun a => Fin.ext ?_)
  have e := ixG t
  match a with
  | 0 => show cc0_transform_1 (grid0.coords t) 0 * 1 + 1 * 0 = (ge t).val; rw [e]; show (ge t).val * 1 + 1 * 0 = _; omega
  | 1 => show cc0_transform_1 (grid0.coords t) 1 * 2112 + 1 * r.val = r.val; rw [e]; show 0 * 2112 + 1 * r.val = _; omega
  | 2 => show cc0_transform_1 (grid0.coords t) 2 * 128 + 1 * l.val = l.val; rw [e]; show 0 * 128 + 1 * l.val = _; omega
theorem blkA (t : Fin grid0.N) (d : Fin 1024) (f : Fin 512) :
    iblk m c 2 t (ix4 0 0 d f) = m ((c : Thread nD τ).loc main_arg2) (ix4 0 (ge t) d ⟨512 * (gf t).val + f.val, by omega⟩) := by
  refine congrArg (m ((c : Thread nD τ).loc main_arg2)) (funext (α := Fin 4) (β := fun a => Fin (S4x16x1024x1024.size a)) fun a => Fin.ext ?_)
  have e := ixA t
  match a with
  | 0 => show cc0_transform_2 (grid0.coords t) 0 * 1 + 1 * 0 = 0; rw [e]; rfl
  | 1 => show cc0_transform_2 (grid0.coords t) 1 * 1 + 1 * 0 = (ge t).val; rw [e]; show (ge t).val * 1 + 1 * 0 = _; omega
  | 2 => show cc0_transform_2 (grid0.coords t) 2 * 1024 + 1 * d.val = d.val; rw [e]; show 0 * 1024 + 1 * d.val = _; omega
  | 3 => show cc0_transform_2 (grid0.coords t) 3 * 512 + 1 * f.val = 512 * (gf t).val + f.val; rw [e]; show (gf t).val * 512 + 1 * f.val = _; omega
theorem blkB (t : Fin grid0.N) (d : Fin 1024) (f : Fin 512) :
    iblk m c 3 t (ix4 0 0 d f) = m ((c : Thread nD τ).loc main_arg3) (ix4 0 (ge t) d ⟨512 * (gf t).val + f.val, by omega⟩) := by
  refine congrArg (m ((c : Thread nD τ).loc main_arg3)) (funext (α := Fin 4) (β := fun a => Fin (S4x16x1024x1024.size a)) fun a => Fin.ext ?_)
  have e := ixB t
  match a with
  | 0 => show cc0_transform_3 (grid0.coords t) 0 * 1 + 1 * 0 = 0; rw [e]; rfl
  | 1 => show cc0_transform_3 (grid0.coords t) 1 * 1 + 1 * 0 = (ge t).val; rw [e]; show (ge t).val * 1 + 1 * 0 = _; omega
  | 2 => show cc0_transform_3 (grid0.coords t) 2 * 1024 + 1 * d.val = d.val; rw [e]; show 0 * 1024 + 1 * d.val = _; omega
  | 3 => show cc0_transform_3 (grid0.coords t) 3 * 512 + 1 * f.val = 512 * (gf t).val + f.val; rw [e]; show (gf t).val * 512 + 1 * f.val = _; omega
theorem blkD (t : Fin grid0.N) (f : Fin 512) (n : Fin 1024) :
    iblk m c 4 t (ix4 0 0 f n) = m ((c : Thread nD τ).loc main_arg4) (ix4 0 (ge t) ⟨512 * (gf t).val + f.val, by omega⟩ n) := by
  refine congrArg (m ((c : Thread nD τ).loc main_arg4)) (funext (α := Fin 4) (β := fun a => Fin (S4x16x1024x1024.size a)) fun a => Fin.ext ?_)
  have e := ixD t
  match a with
  | 0 => show cc0_transform_4 (grid0.coords t) 0 * 1 + 1 * 0 = 0; rw [e]; rfl
  | 1 => show cc0_transform_4 (grid0.coords t) 1 * 1 + 1 * 0 = (ge t).val; rw [e]; show (ge t).val * 1 + 1 * 0 = _; omega
  | 2 => show cc0_transform_4 (grid0.coords t) 2 * 512 + 1 * f.val = 512 * (gf t).val + f.val; rw [e]; show (gf t).val * 512 + 1 * f.val = _; omega
  | 3 => show cc0_transform_4 (grid0.coords t) 3 * 1024 + 1 * n.val = n.val; rw [e]; show 0 * 1024 + 1 * n.val = _; omega

/-- Where the result's window places an element of its block. -/
theorem embO (t : Fin grid0.N) (r : Fin 2384) (n : Fin 1024) :
    ((cfg0.win 5).blk t).view.emb (ix3 0 r n) = ix3 (ge t) r n := by
  refine funext (α := Fin 3) (β := fun a => Fin (S16x2384x1024.size a)) fun a => Fin.ext ?_
  have e := ixO t
  match a with
  | 0 => show cc0_transform_5 (grid0.coords t) 0 * 1 + 1 * 0 = (ge t).val; rw [e]; show (ge t).val * 1 + 1 * 0 = _; omega
  | 1 => show cc0_transform_5 (grid0.coords t) 1 * 2384 + 1 * r.val = r.val; rw [e]; show 0 * 2384 + 1 * r.val = _; omega
  | 2 => show cc0_transform_5 (grid0.coords t) 2 * 1024 + 1 * n.val = n.val; rw [e]; show 0 * 1024 + 1 * n.val = _; omega

theorem pts : ∀ e : Fin 16, ∃ t : Fin grid0.N, ge t = e ∧ t.val % 2 = 1 := by decide +kernel
/-- The second points of the experts write back, and their blocks cover the array. -/
theorem covers : (cfg0.win 5).Covers := by
  refine ⟨(by decide : ∀ a : Fin 3, 0 < S1x2384x1024.size a), fun β => ?_⟩
  have n0 : (cfg0.win 5).nblk (0 : Fin 3) = 16 := (by decide : (S16x2384x1024.size 0 + S1x2384x1024.size 0 - 1) / S1x2384x1024.size 0 = 16)
  have n1 : (cfg0.win 5).nblk (1 : Fin 3) = 1 := (by decide : (S16x2384x1024.size 1 + S1x2384x1024.size 1 - 1) / S1x2384x1024.size 1 = 1)
  have n2 : (cfg0.win 5).nblk (2 : Fin 3) = 1 := (by decide : (S16x2384x1024.size 2 + S1x2384x1024.size 2 - 1) / S1x2384x1024.size 2 = 1)
  obtain ⟨t, h0, h1⟩ := pts ((β (0 : Fin 3)).cast n0)
  refine ⟨t, (flush0_5 t).mpr h1, fun (a : Fin 3) => ⟨?_, Or.inl rfl⟩⟩
  show cc0_transform_5 (grid0.coords t) a = _
  rw [ixO t]
  match a with
  | 0 => exact congrArg Fin.val h0
  | 1 => exact (Nat.lt_one_iff.mp (lt_of_lt_of_eq (β (1 : Fin 3)).isLt n1)).symm
  | 2 => exact (Nat.lt_one_iff.mp (lt_of_lt_of_eq (β (2 : Fin 3)).isLt n2)).symm

/-- A sum over the hidden units by blocks. -/
theorem sum_blocks (g : Fin 1024 → EReal) : ∑ f : Fin 512, g ⟨f.val, by omega⟩ + ∑ f : Fin 512, g ⟨512 + f.val, by omega⟩ = ∑ f : Fin 1024, g f :=
  (Fin.sum_univ_add (a := 512) (b := 512) g).symm

/-- A point's part of an expert's result is the reference's terms of its hidden units. -/
theorem part_eq (t : Fin grid0.N) (r : Fin 2112) (n : Fin 1024) :
    part (X0_0 m c t) (iblk m c 2 t) (iblk m c 3 t) (iblk m c 4 t) r n =
      ∑ f : Fin 512, (fun k : Fin 1024 => glu (rproj (m ((c : Thread nD τ).loc main_arg0)) (m ((c : Thread nD τ).loc main_arg2)) (ge t) ⟨r.val, by omega⟩ k)
        (rproj (m ((c : Thread nD τ).loc main_arg0)) (m ((c : Thread nD τ).loc main_arg3)) (ge t) ⟨r.val, by omega⟩ k) * m ((c : Thread nD τ).loc main_arg4) (ix4 0 (ge t) k n)) ⟨512 * (gf t).val + f.val, by omega⟩ := by
  unfold part rproj
  refine Finset.sum_congr rfl fun f _ => congrArg₂ (fun a b : EReal => a * b) (congrArg₂ glu ?_ ?_) (blkD m c t f n)
  · exact Finset.sum_congr rfl fun d _ => congrArg₂ (fun a b : EReal => a * b) (blkX m c t r d) (blkA m c t d f)
  · exact Finset.sum_congr rfl fun d _ => congrArg₂ (fun a b : EReal => a * b) (blkX m c t r d) (blkB m c t d f)

set_option maxHeartbeats 4000000 in
/-- The accumulator an expert's first point leaves. -/
theorem acc_eq (t : Fin grid0.N) (h : t.val % 2 = 0) (h1 : ¬t.val % 2 = 1) : (outsAt0 m c t.val t.isLt).2 =
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (fun h => h1 ((hcond0_1 t).mp h)) (X0_0 m c t) (X0_1 m c t) (iblk m c 2 t) (iblk m c 3 t) (iblk m c 4 t) :=
  congrArg Prod.snd (outsAt0_A m c t h h1)

/-- The accumulator an expert's second point finds: half the hidden units' share. -/
theorem acc_apply' (t : Fin grid0.N) (h : t.val % 2 = 0) (r : Fin 2112) (n : Fin 1024) :
    (outsAt0 m c t.val t.isLt).2 (ix2 r n) = part (X0_0 m c t) (iblk m c 2 t) (iblk m c 3 t) (iblk m c 4 t) r n := by
  have h1 : ¬t.val % 2 = 1 := by omega
  rw [acc_eq m c t h h1]
  exact soutA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (X0_1 m c t) (iblk m c 2 t) (iblk m c 3 t) (iblk m c 4 t) ((hcond0_0 t).mpr h) (fun h => h1 ((hcond0_1 t).mp h)) r n

/-- What an expert's second point leaves in the result's block: the reference's there. -/
theorem outs_apply (t : Fin grid0.N) (h : t.val % 2 = 1) (r : Fin 2384) (n : Fin 1024) :
    (outsAt0 m c t.val t.isLt).1 (ix3 0 r n) = Cert.Reference2Ideal.Read.val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix3 (ge t) r n) := by
  have h0 : ¬t.val % 2 = 0 := by omega
  refine (congrFun (congrArg Prod.fst (outsAt0_B m c t h0 h)) (ix3 0 r n)).trans
    ((outB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (X0_1 m c t) (iblk m c 2 t) (iblk m c 3 t) (iblk m c 4 t) (outsAt0 m c (t.val - 1) (Nat.lt_of_le_of_lt (Nat.sub_le _ _) t.isLt)).2 (fun h => h0 ((hcond0_0 t).mp h)) ((hcond0_1 t).mpr h) r n).trans ?_)
  refine (Eq.trans ?_ (ref_apply _ _ _ _ _ (ge t) r n).symm)
  by_cases hr : r.val < 2112
  · rw [dif_pos hr, if_pos hr]
    have ht : t.val - 1 < grid0.N := Nat.lt_of_le_of_lt (Nat.sub_le _ _) t.isLt
    have he : ge ⟨t.val - 1, ht⟩ = ge t := Fin.ext (by rw [ge_val, ge_val]; show (t.val - 1) / 2 = t.val / 2; omega)
    have f0 : (gf ⟨t.val - 1, ht⟩).val = 0 := by rw [gf_val]; show (t.val - 1) % 2 = 0; omega
    have f1 : (gf t).val = 1 := by rw [gf_val]; exact h
    refine congrArg₂ (fun a b : EReal => a * b) ?_ (blkG m c t ⟨r.val, hr⟩ _)
    refine (congrArg₂ (fun a b : EReal => a + b) ((acc_apply' m c ⟨t.val - 1, ht⟩ (by show (t.val - 1) % 2 = 0; omega) ⟨r.val, hr⟩ n).trans (part_eq m c ⟨t.val - 1, ht⟩ ⟨r.val, hr⟩ n))
      (part_eq m c t ⟨r.val, hr⟩ n)).trans (Eq.trans ?_ (sum_blocks _))
    refine congrArg₂ (fun a b : EReal => a + b) (Finset.sum_congr rfl fun f _ => ?_) (Finset.sum_congr rfl fun f _ => ?_)
    · rw [he]
      exact congrArg (fun k : Fin 1024 => glu (rproj (m ((c : Thread nD τ).loc main_arg0)) (m ((c : Thread nD τ).loc main_arg2)) (ge t) r k)
        (rproj (m ((c : Thread nD τ).loc main_arg0)) (m ((c : Thread nD τ).loc main_arg3)) (ge t) r k) * m ((c : Thread nD τ).loc main_arg4) (ix4 0 (ge t) k n)) (Fin.ext (by show 512 * (gf ⟨t.val - 1, ht⟩).val + f.val = f.val; omega))
    · exact congrArg (fun k : Fin 1024 => glu (rproj (m ((c : Thread nD τ).loc main_arg0)) (m ((c : Thread nD τ).loc main_arg2)) (ge t) r k)
        (rproj (m ((c : Thread nD τ).loc main_arg0)) (m ((c : Thread nD τ).loc main_arg3)) (ge t) r k) * m ((c : Thread nD τ).loc main_arg4) (ix4 0 (ge t) k n)) (Fin.ext (by show 512 * (gf t).val + f.val = 512 + f.val; omega))
  · rw [dif_neg hr, if_neg hr]

/-- The kernel's result is the reference's. -/
theorem final : (dats (F := Ideal) m 0 c).arrAt 5 cfg0.N
    = Cert.Reference2Ideal.Read.val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats (F := Ideal) m 0 c).arrAt_eq_of_covers 5 _ covers fun t hf y => ?_
  obtain ⟨y0, r, n, rfl⟩ : ∃ (y0 : Fin 1) (r : Fin 2384) (n : Fin 1024), y = (ix3 y0 r n : S1x2384x1024.Idx) := ⟨_, _, _, eq_ix3 (n0 := 1) (n1 := 2384) (n2 := 1024) y⟩
  obtain rfl : y0 = 0 := Subsingleton.elim _ _
  refine (congrFun (Value.flushed5 m c t) _).trans ((outs_apply m c t ((flush0_5 t).mp hf) r n).trans ?_)
  exact congrArg (Cert.Reference2Ideal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4))) (embO t r n).symm

end Cert.Kernel2Ideal.Ffn

end
-- ==== Proof.InProj.Body.lean ====
/- The input projection's body on a block of rows, read at an index. -/
module

public import proofs.«01_k».proof.Proof.Gen.Kernel3Ideal.Frame
public import Idealize.ShloMosaic.Lib.Pointwise
public import Idealize.ShloMosaic.Lib.WritesUnit
public import Idealize.ShloMosaic.Lib.Pipeline.ValueKit

@[expose] public section

set_option maxRecDepth 16384

noncomputable section

namespace Cert.Kernel3Ideal.InProj

open Idealize.ShloMosaic Idealize.ShloMosaic.TcCoe Idealize.ShloMosaic.Tactic
open Cert.Kernel3Ideal Cert.Kernel3Ideal.Gen

abbrev bits (b : BitVec 32) : EReal := FloatOps.ofBits (F := Ideal) FTy.f32 b

/-- A row scaled to unit mean square, weighted, and modulated by a scale and a shift. -/
def hid (x nw sc sh : Fin 1024 → EReal) (d : Fin 1024) : EReal :=
  x d * Ideal.rsqrt (Ideal.div (∑ k : Fin 1024, x k * x k) (bits 0x44800000#32) + bits 0x358637BD#32) * nw d * (bits 0x3F800000#32 + sc d) + sh d

/-- A column of a row's projection. -/
def proj (x nw sc sh w : Fin 1024 → EReal) (b : EReal) : EReal := ∑ d : Fin 1024, hid x nw sc sh d * w d + b

/-- The linear unit gated by its own sigmoid. -/
def silu (a : EReal) : EReal := a * Ideal.div (bits 0x3F800000#32) (bits 0x3F800000#32 + Ideal.exp (0 - a))

theorem pay3_lo (v6 v8 : Vec Ideal S1x1x1024 .f32) (v10 v12 : Vec Ideal S1x8x1024 .f32) (v25 : Vec Ideal S1x1024 .f32) (q : Fin 8) (d : Fin 1024) :
    k0_pay3 (F := Ideal) v6 v8 v10 v12 v25 (ix2 ⟨q.val, by omega⟩ d) = hid (fun k => v10 (ix3 0 q k)) (fun k => v25 (ix2 0 k)) (fun k => v8 (ix3 0 0 k)) (fun k => v6 (ix3 0 0 k)) d := by
  pointwise [k0_pay3, k0_pay1, k0_pay2, hid]
theorem pay3_hi (v6 v8 : Vec Ideal S1x1x1024 .f32) (v10 v12 : Vec Ideal S1x8x1024 .f32) (v25 : Vec Ideal S1x1024 .f32) (q : Fin 8) (d : Fin 1024) :
    k0_pay3 (F := Ideal) v6 v8 v10 v12 v25 (ix2 ⟨8 + q.val, by omega⟩ d) = hid (fun k => v12 (ix3 0 q k)) (fun k => v25 (ix2 0 k)) (fun k => v8 (ix3 0 0 k)) (fun k => v6 (ix3 0 0 k)) d := by
  pointwise [k0_pay3, k0_pay1, k0_pay2, hid]
theorem pay9_apply (v6 v8 : Vec Ideal S1x1x1024 .f32) (v54 : Vec Ideal S1x128x1024 .f32) (v66 : Vec Ideal S1x1024 .f32) (r : Fin 128) (d : Fin 1024) :
    k0_pay9 (F := Ideal) (k0_pay1 v6) (k0_pay7 v54 v66) (k0_pay8 (k0_pay2 v8)) (ix2 r d) = hid (fun k => v54 (ix3 0 r k)) (fun k => v66 (ix2 0 k)) (fun k => v8 (ix3 0 0 k)) (fun k => v6 (ix3 0 0 k)) d := by
  pointwise [k0_pay9, k0_pay7, k0_pay8, k0_pay1, k0_pay2, hid]
theorem pay10_apply (v6 v8 : Vec Ideal S1x1x1024 .f32) (v76 : Vec Ideal S1x128x1024 .f32) (v88 : Vec Ideal S1x1024 .f32) (r : Fin 128) (d : Fin 1024) :
    k0_pay10 (F := Ideal) (k0_pay1 v6) (k0_pay2 v8) v76 v88 (ix2 r d) = hid (fun k => v76 (ix3 0 r k)) (fun k => v88 (ix2 0 k)) (fun k => v8 (ix3 0 0 k)) (fun k => v6 (ix3 0 0 k)) d := by
  pointwise [k0_pay10, k0_pay1, k0_pay2, hid]

theorem pay5_apply (v2 : BitVec 1) (h : FVec Ideal S16x1024 .bf16) (w : Vec Ideal S1x1024x1024 .bf16) (b : Vec Ideal S1x1x1024 .f32) (q : Fin 8) (n : Fin 1024) :
    k0_pay5 (F := Ideal) v2 h w b (ix2 q n) = if v2 = 1#1 then 0 else ∑ d : Fin 1024, h (ix2 ⟨q.val, by omega⟩ d) * w (ix3 0 d n) + b (ix3 0 0 n) := by
  pointwise [k0_pay5, k0_pay4]
  rfl
theorem pay6_apply (v5 : BitVec 1) (h : FVec Ideal S16x1024 .bf16) (w : Vec Ideal S1x1024x1024 .bf16) (b : Vec Ideal S1x1x1024 .f32) (q : Fin 8) (n : Fin 1024) :
    k0_pay6 (F := Ideal) v5 h w b (ix2 q n) = if v5 = 1#1 then 0 else ∑ d : Fin 1024, h (ix2 ⟨8 + q.val, by omega⟩ d) * w (ix3 0 d n) + b (ix3 0 0 n) := by
  pointwise [k0_pay6, k0_pay4]
  rfl
theorem pay13_apply (h : FVec Ideal S128x1024 .bf16) (w : Vec Ideal S1x1024x1024 .bf16) (b : Vec Ideal S1x1x1024 .f32) (r : Fin 128) (n : Fin 1024) :
    k0_pay13 (F := Ideal) h (k0_pay12 w) b (ix2 r n) = ∑ d : Fin 1024, h (ix2 r d) * w (ix3 0 d n) + b (ix3 0 0 n) := by
  pointwise [k0_pay13, k0_pay12]
theorem pay14_apply (h : FVec Ideal S128x1024 .bf16) (w : Vec Ideal S1x1024x3328 .bf16) (b : Vec Ideal S1x1x3328 .f32) (r : Fin 128) (n : Fin 3328) :
    k0_pay14 (F := Ideal) h w b (ix3 0 r n) = ∑ d : Fin 1024, h (ix2 r d) * w (ix3 0 d n) + b (ix3 0 0 n) := by
  pointwise [k0_pay14]

theorem pay11_eq (v7 : FVec Ideal S1x1024 .f32) (v68 v71 : FVec Ideal S128x1024 .f32) (v98 : Vec Ideal S1x1024x1024 .bf16) (v101 : Vec Ideal S1x1x1024 .f32) :
    k0_pay11 (F := Ideal) v7 v68 v71 v98 v101 = k0_pay13 (k0_pay9 v7 v68 v71) (k0_pay12 v98) v101 := rfl
theorem pay15_eq : @k0_pay15 Ideal _ = @k0_pay14 Ideal _ := rfl
theorem pay16_eq : @k0_pay16 Ideal _ = @k0_pay14 Ideal _ := rfl
theorem pay17_eq : @k0_pay17 Ideal _ = @k0_pay14 Ideal _ := rfl

/-- The short convolution at a column: a bias and five products. -/
def conv (cb : EReal) (s c : Fin 5 → EReal) : EReal := cb + s 0 * c 0 + s 1 * c 1 + s 2 * c 2 + s 3 * c 3 + s 4 * c 4

theorem pay20_apply (cb : Vec Ideal S1x1024 .f32) (s0 s1 s2 s3 s4 : Vec Ideal S256x1024 .f32) (c0 c1 c2 c3 c4 : Vec Ideal S1x1024 .f32) (r : Fin 256) (n : Fin 1024) :
    k0_pay20 (F := Ideal) (k0_pay18 cb s0 c0) s1 (k0_pay19 c1) s2 c2 s3 c3 s4 c4 (ix2 r n) =
      silu (conv (cb (ix2 0 n)) ![s0 (ix2 r n), s1 (ix2 r n), s2 (ix2 r n), s3 (ix2 r n), s4 (ix2 r n)] ![c0 (ix2 0 n), c1 (ix2 0 n), c2 (ix2 0 n), c3 (ix2 0 n), c4 (ix2 0 n)]) := by
  pointwise [k0_pay20, k0_pay18, k0_pay19, silu, conv]
theorem pay21_apply (a : FVec Ideal S256x1024 .f32) (s1 : Vec Ideal S256x1024 .f32) (b : FVec Ideal S256x1024 .f32) (s2 s3 s4 : Vec Ideal S256x1024 .f32) (c2 c3 c4 : Vec Ideal S1x1024 .f32) (r : Fin 256) (n : Fin 512) :
    k0_pay21 (F := Ideal) a s1 b s2 c2 s3 c3 s4 c4 (ix3 0 r n) = k0_pay20 (F := Ideal) a s1 b s2 c2 s3 c3 s4 c4 (ix2 r ⟨n.val, by omega⟩) := by
  unfold k0_pay21
  generalize k0_pay20 (F := Ideal) a s1 b s2 c2 s3 c3 s4 c4 = z
  pointwise []
theorem pay22_apply (a : FVec Ideal S256x1024 .f32) (s1 : Vec Ideal S256x1024 .f32) (b : FVec Ideal S256x1024 .f32) (s2 s3 s4 : Vec Ideal S256x1024 .f32) (c2 c3 c4 : Vec Ideal S1x1024 .f32) (r : Fin 256) (n : Fin 512) :
    k0_pay22 (F := Ideal) a s1 b s2 c2 s3 c3 s4 c4 (ix3 0 r n) = k0_pay20 (F := Ideal) a s1 b s2 c2 s3 c3 s4 c4 (ix2 r ⟨512 + n.val, by omega⟩) * bits 0x3E000000#32 := by
  unfold k0_pay22
  generalize k0_pay20 (F := Ideal) a s1 b s2 c2 s3 c3 s4 c4 = z
  pointwise []

end Cert.Kernel3Ideal.InProj

end
-- ==== Proof.InProj.Out.lean ====
/- What the input projection's body leaves in its three results' blocks, read at an index. -/
module

public import proofs.«01_k».proof.Proof.InProj.Body

@[expose] public section

set_option maxRecDepth 16384

noncomputable section

namespace Cert.Kernel3Ideal.InProj

open Idealize.ShloMosaic Idealize.ShloMosaic.TcCoe Idealize.ShloMosaic.Tactic
open Cert.Kernel3Ideal Cert.Kernel3Ideal.Gen

/-- Whether a block is the first of its region, and whether it is the last. -/
def first (i : grid0.Coords) : BitVec 1 := Scalar.ori (Scalar.cmpi .eq (BitVec.ofNat 32 (i 1).val) 0#32) (Scalar.cmpi .eq (BitVec.ofNat 32 (i 1).val) 32#32)
def last (i : grid0.Coords) : BitVec 1 := Scalar.ori (Scalar.cmpi .eq (BitVec.ofNat 32 (i 1).val) 31#32) (Scalar.cmpi .eq (BitVec.ofNat 32 (i 1).val) 32#32)

section values
variable (i : grid0.Coords) (x0 : Vec Ideal S1x256x1024 .f32) (x1 : Vec Ideal S1x8x1024 .f32) (x2 : Vec Ideal S1x8x1024 .f32) (x3 : Vec Ideal S1x1x6144 .f32) (x4 : Vec Ideal S1x1024 .f32) (x5 : Vec Ideal S1x1024x7680 .bf16) (x6 : Vec Ideal S1x1x7680 .f32) (x7 : Vec Ideal S5x1024 .f32) (x8 : Vec Ideal S1x1024 .f32)

/-- The shifts and the scales of a modulation row. -/
def shV : Vec Ideal S1x1x1024 .f32 := View.ld x3 (Rect.unit (s := S1x1x6144) ![0, 0, 0] S1x1x1024.size inb_S1x1x6144_S1x1x1024_0_0_0)
def scV : Vec Ideal S1x1x1024 .f32 := View.ld x3 (Rect.unit (s := S1x1x6144) ![0, 0, 1024] S1x1x1024.size inb_S1x1x6144_S1x1x1024_0_0_1024)
def nwV : Vec Ideal S1x1024 .f32 := View.ld x4 (Rect.unit (s := S1x1024) ![0, 0] S1x1024.size inb_S1x1024_S1x1024_0_0)
/-- The query and key columns of the weights and of the bias. -/
def wQ : Vec Ideal S1x1024x1024 .bf16 := View.ld x5 (Rect.unit (s := S1x1024x7680) ![0, 0, 6656] S1x1024x1024.size inb_S1x1024x7680_S1x1024x1024_0_0_6656)
def bQ : Vec Ideal S1x1x1024 .f32 := View.ld x6 (Rect.unit (s := S1x1x7680) ![0, 0, 6656] S1x1x1024.size inb_S1x1x7680_S1x1x1024_0_0_6656)
/-- A block of 3328 other columns. -/
def wO (o : ℕ) (inb : ∀ a, (![0, 0, o] : Fin 3 → ℕ) a + S1x1024x3328.size a ≤ S1x1024x7680.size a) : Vec Ideal S1x1024x3328 .bf16 := View.ld x5 (Rect.unit (s := S1x1024x7680) ![0, 0, o] S1x1024x3328.size inb)
def bO (o : ℕ) (inb : ∀ a, (![0, 0, o] : Fin 3 → ℕ) a + S1x1x3328.size a ≤ S1x1x7680.size a) : Vec Ideal S1x1x3328 .f32 := View.ld x6 (Rect.unit (s := S1x1x7680) ![0, 0, o] S1x1x3328.size inb)
/-- The modulated rows: of the neighbours' eight rows, and of the block's two halves. -/
def hN : FVec Ideal S16x1024 .bf16 := k0_pay3 (F := Ideal) (shV x3) (scV x3) (View.ld x1 (Rect.unit (s := S1x8x1024) ![0, 0, 0] S1x8x1024.size inb_S1x8x1024_S1x8x1024_0_0_0)) (View.ld x2 (Rect.unit (s := S1x8x1024) ![0, 0, 0] S1x8x1024.size inb_S1x8x1024_S1x8x1024_0_0_0)) (nwV x4)
def hA : FVec Ideal S128x1024 .bf16 := k0_pay9 (F := Ideal) (k0_pay1 (shV x3)) (k0_pay7 (View.ld x0 (Rect.unit (s := S1x256x1024) ![0, 0, 0] S1x128x1024.size inb_S1x256x1024_S1x128x1024_0_0_0)) (nwV x4)) (k0_pay8 (k0_pay2 (scV x3)))
def hB : FVec Ideal S128x1024 .bf16 := k0_pay10 (F := Ideal) (k0_pay1 (shV x3)) (k0_pay2 (scV x3)) (View.ld x0 (Rect.unit (s := S1x256x1024) ![0, 128, 0] S1x128x1024.size inb_S1x256x1024_S1x128x1024_0_128_0)) (nwV x4)

/-- The stores of the query and key columns with their neighbours. -/
def SS : List (View.Piece (Elt Ideal) S272x1024 .f32) :=
  [⟨Rect.unit (s := S272x1024) ![136, 0] S128x1024.size inb_S272x1024_S128x1024_136_0, k0_pay13 (F := Ideal) (hB x0 x3 x4) (k0_pay12 (wQ x5)) (bQ x6)⟩,
   ⟨Rect.unit (s := S272x1024) ![8, 0] S128x1024.size inb_S272x1024_S128x1024_8_0, k0_pay13 (F := Ideal) (hA x0 x3 x4) (k0_pay12 (wQ x5)) (bQ x6)⟩,
   ⟨Rect.unit (s := S272x1024) ![264, 0] S8x1024.size inb_S272x1024_S8x1024_264_0, k0_pay6 (F := Ideal) (last i) (hN x1 x2 x3 x4) (wQ x5) (bQ x6)⟩,
   ⟨Rect.unit (s := S272x1024) ![0, 0] S8x1024.size inb_S272x1024_S8x1024_0_0, k0_pay5 (F := Ideal) (first i) (hN x1 x2 x3 x4) (wQ x5) (bQ x6)⟩]
/-- The stores of the other columns. -/
def O9 : List (View.Piece (Elt Ideal) S1x256x6656 .f32) :=
  [⟨Rect.unit (s := S1x256x6656) ![0, 128, 3328] S1x128x3328.size inb_S1x256x6656_S1x128x3328_0_128_3328, k0_pay14 (F := Ideal) (hB x0 x3 x4) (wO x5 3328 inb_S1x1024x7680_S1x1024x3328_0_0_3328) (bO x6 3328 inb_S1x1x7680_S1x1x3328_0_0_3328)⟩,
   ⟨Rect.unit (s := S1x256x6656) ![0, 128, 0] S1x128x3328.size inb_S1x256x6656_S1x128x3328_0_128_0, k0_pay14 (F := Ideal) (hB x0 x3 x4) (wO x5 0 inb_S1x1024x7680_S1x1024x3328_0_0_0) (bO x6 0 inb_S1x1x7680_S1x1x3328_0_0_0)⟩,
   ⟨Rect.unit (s := S1x256x6656) ![0, 0, 3328] S1x128x3328.size inb_S1x256x6656_S1x128x3328_0_0_3328, k0_pay14 (F := Ideal) (hA x0 x3 x4) (wO x5 3328 inb_S1x1024x7680_S1x1024x3328_0_0_3328) (bO x6 3328 inb_S1x1x7680_S1x1x3328_0_0_3328)⟩,
   ⟨Rect.unit (s := S1x256x6656) ![0, 0, 0] S1x128x3328.size inb_S1x256x6656_S1x128x3328_0_0_0, k0_pay14 (F := Ideal) (hA x0 x3 x4) (wO x5 0 inb_S1x1024x7680_S1x1024x3328_0_0_0) (bO x6 0 inb_S1x1x7680_S1x1x3328_0_0_0)⟩]
/-- A row of taps, and 256 rows of the columns from row `o` on. -/
def tap (o : ℕ) (inb : ∀ a, (![o, 0] : Fin 2 → ℕ) a + S1x1024.size a ≤ S5x1024.size a) : Vec Ideal S1x1024 .f32 := View.ld x7 (Rect.unit (s := S5x1024) ![o, 0] S1x1024.size inb)
def win (u : Vec Ideal S272x1024 .f32) (o : ℕ) (inb : ∀ a, (![o, 0] : Fin 2 → ℕ) a + S256x1024.size a ≤ S272x1024.size a) : Vec Ideal S256x1024 .f32 := View.ld u (Rect.unit (s := S272x1024) ![o, 0] S256x1024.size inb)
def cbV : Vec Ideal S1x1024 .f32 := View.ld x8 (Rect.unit (s := S1x1024) ![0, 0] S1x1024.size inb_S1x1024_S1x1024_0_0)
/-- The stores of the queries and of the keys. -/
def O10 (u : Vec Ideal S272x1024 .f32) : List (View.Piece (Elt Ideal) S1x256x512 .bf16) :=
  [⟨Rect.unit (s := S1x256x512) ![0, 0, 0] S1x256x512.size inb_S1x256x512_S1x256x512_0_0_0, k0_pay21 (F := Ideal) (k0_pay18 (cbV x8) (win u 6 inb_S272x1024_S256x1024_6_0) (tap x7 0 inb_S5x1024_S1x1024_0_0))
    (win u 7 inb_S272x1024_S256x1024_7_0) (k0_pay19 (tap x7 1 inb_S5x1024_S1x1024_1_0)) (win u 8 inb_S272x1024_S256x1024_8_0) (tap x7 2 inb_S5x1024_S1x1024_2_0)
    (win u 9 inb_S272x1024_S256x1024_9_0) (tap x7 3 inb_S5x1024_S1x1024_3_0) (win u 10 inb_S272x1024_S256x1024_10_0) (tap x7 4 inb_S5x1024_S1x1024_4_0)⟩]
def O11 (u : Vec Ideal S272x1024 .f32) : List (View.Piece (Elt Ideal) S1x256x512 .bf16) :=
  [⟨Rect.unit (s := S1x256x512) ![0, 0, 0] S1x256x512.size inb_S1x256x512_S1x256x512_0_0_0, k0_pay22 (F := Ideal) (k0_pay18 (cbV x8) (win u 6 inb_S272x1024_S256x1024_6_0) (tap x7 0 inb_S5x1024_S1x1024_0_0))
    (win u 7 inb_S272x1024_S256x1024_7_0) (k0_pay19 (tap x7 1 inb_S5x1024_S1x1024_1_0)) (win u 8 inb_S272x1024_S256x1024_8_0) (tap x7 2 inb_S5x1024_S1x1024_2_0)
    (win u 9 inb_S272x1024_S256x1024_9_0) (tap x7 3 inb_S5x1024_S1x1024_3_0) (win u 10 inb_S272x1024_S256x1024_10_0) (tap x7 4 inb_S5x1024_S1x1024_4_0)⟩]

/-- A column of a row's projection by the block's modulation, weights and bias. -/
def col (x : Fin 1024 → EReal) (n : Fin 7680) : EReal :=
  proj x (fun k => x4 (ix2 0 k)) (fun k => x3 (ix3 0 0 ⟨1024 + k.val, by omega⟩)) (fun k => x3 (ix3 0 0 ⟨k.val, by omega⟩)) (fun d => x5 (ix3 0 d n)) (x6 (ix3 0 0 n))

theorem shV_apply (k : Fin 1024) : shV x3 (ix3 0 0 k) = x3 (ix3 0 0 ⟨k.val, by omega⟩) := by
  refine View.ld_unit_apply_of _ _ _ _ _ _ fun a => ?_
  match a with
  | 0 => rfl
  | 1 => rfl
  | 2 => exact (Nat.zero_add _).symm
theorem scV_apply (k : Fin 1024) : scV x3 (ix3 0 0 k) = x3 (ix3 0 0 ⟨1024 + k.val, by omega⟩) := by
  refine View.ld_unit_apply_of _ _ _ _ _ _ fun a => ?_
  match a with
  | 0 => rfl
  | 1 => rfl
  | 2 => rfl
theorem nwV_apply (k : Fin 1024) : nwV x4 (ix2 0 k) = x4 (ix2 0 k) := by
  refine View.ld_unit_apply_of _ _ _ _ _ _ fun a => ?_
  match a with
  | 0 => rfl
  | 1 => exact (Nat.zero_add _).symm
theorem cbV_apply (k : Fin 1024) : cbV x8 (ix2 0 k) = x8 (ix2 0 k) := by
  refine View.ld_unit_apply_of _ _ _ _ _ _ fun a => ?_
  match a with
  | 0 => rfl
  | 1 => exact (Nat.zero_add _).symm
theorem wQ_apply (d n : Fin 1024) : wQ x5 (ix3 0 d n) = x5 (ix3 0 d ⟨6656 + n.val, by omega⟩) := by
  refine View.ld_unit_apply_of _ _ _ _ _ _ fun a => ?_
  match a with
  | 0 => rfl
  | 1 => exact (Nat.zero_add _).symm
  | 2 => rfl
theorem bQ_apply (n : Fin 1024) : bQ x6 (ix3 0 0 n) = x6 (ix3 0 0 ⟨6656 + n.val, by omega⟩) := by
  refine View.ld_unit_apply_of _ _ _ _ _ _ fun a => ?_
  match a with
  | 0 => rfl
  | 1 => rfl
  | 2 => rfl
theorem wO_apply (o : ℕ) (ho : o + 3328 ≤ 7680) (inb) (d : Fin 1024) (n : Fin 3328) : wO x5 o inb (ix3 0 d n) = x5 (ix3 0 d ⟨o + n.val, by omega⟩) := by
  refine View.ld_unit_apply_of _ _ _ _ _ _ fun a => ?_
  match a with
  | 0 => rfl
  | 1 => exact (Nat.zero_add _).symm
  | 2 => rfl
theorem bO_apply (o : ℕ) (ho : o + 3328 ≤ 7680) (inb) (n : Fin 3328) : bO x6 o inb (ix3 0 0 n) = x6 (ix3 0 0 ⟨o + n.val, by omega⟩) := by
  refine View.ld_unit_apply_of _ _ _ _ _ _ fun a => ?_
  match a with
  | 0 => rfl
  | 1 => rfl
  | 2 => rfl
theorem tap_apply (o : ℕ) (ho : o < 5) (inb) (n : Fin 1024) : tap x7 o inb (ix2 0 n) = x7 (ix2 ⟨o, ho⟩ n) := by
  refine View.ld_unit_apply_of _ _ _ _ _ _ fun a => ?_
  match a with
  | 0 => rfl
  | 1 => exact (Nat.zero_add _).symm
theorem win_apply (u : Vec Ideal S272x1024 .f32) (o : ℕ) (ho : o + 256 ≤ 272) (inb) (r : Fin 256) (n : Fin 1024) : win u o inb (ix2 r n) = u (ix2 ⟨o + r.val, by omega⟩ n) := by
  refine View.ld_unit_apply_of _ _ _ _ _ _ fun a => ?_
  match a with
  | 0 => rfl
  | 1 => exact (Nat.zero_add _).symm
theorem ldN (x : Vec Ideal S1x8x1024 .f32) (inb) (q : Fin 8) (k : Fin 1024) :
    View.ld x (Rect.unit (s := S1x8x1024) ![0, 0, 0] S1x8x1024.size inb) (ix3 0 q k) = x (ix3 0 q k) := by
  refine View.ld_unit_apply_of _ _ _ _ _ _ fun a => ?_
  match a with
  | 0 => rfl
  | 1 => exact (Nat.zero_add _).symm
  | 2 => exact (Nat.zero_add _).symm
theorem ldX (o : ℕ) (ho : o + 128 ≤ 256) (inb) (r : Fin 128) (k : Fin 1024) :
    View.ld x0 (Rect.unit (s := S1x256x1024) ![0, o, 0] S1x128x1024.size inb) (ix3 0 r k) = x0 (ix3 0 ⟨o + r.val, by omega⟩ k) := by
  refine View.ld_unit_apply_of _ _ _ _ _ _ fun a => ?_
  match a with
  | 0 => rfl
  | 1 => rfl
  | 2 => exact (Nat.zero_add _).symm

theorem hN_lo (q : Fin 8) (d : Fin 1024) : hN x1 x2 x3 x4 (ix2 ⟨q.val, by omega⟩ d) = hid (fun k => x1 (ix3 0 q k)) (fun k => x4 (ix2 0 k)) (fun k => x3 (ix3 0 0 ⟨1024 + k.val, by omega⟩)) (fun k => x3 (ix3 0 0 ⟨k.val, by omega⟩)) d := by
  refine (pay3_lo _ _ _ _ _ q d).trans ?_
  simp only [nwV_apply, scV_apply, shV_apply]
  exact congrArg (fun x => hid x _ _ _ d) (funext fun k => ldN x1 _ q k)
theorem hN_hi (q : Fin 8) (d : Fin 1024) : hN x1 x2 x3 x4 (ix2 ⟨8 + q.val, by omega⟩ d) = hid (fun k => x2 (ix3 0 q k)) (fun k => x4 (ix2 0 k)) (fun k => x3 (ix3 0 0 ⟨1024 + k.val, by omega⟩)) (fun k => x3 (ix3 0 0 ⟨k.val, by omega⟩)) d := by
  refine (pay3_hi _ _ _ _ _ q d).trans ?_
  simp only [nwV_apply, scV_apply, shV_apply]
  exact congrArg (fun x => hid x _ _ _ d) (funext fun k => ldN x2 _ q k)
theorem hA_apply (r : Fin 128) (d : Fin 1024) : hA x0 x3 x4 (ix2 r d) = hid (fun k => x0 (ix3 0 ⟨r.val, by omega⟩ k)) (fun k => x4 (ix2 0 k)) (fun k => x3 (ix3 0 0 ⟨1024 + k.val, by omega⟩)) (fun k => x3 (ix3 0 0 ⟨k.val, by omega⟩)) d := by
  refine (pay9_apply _ _ _ _ r d).trans ?_
  simp only [ldX x0 0 (by decide), nwV_apply, scV_apply, shV_apply, Nat.zero_add]
theorem hB_apply (r : Fin 128) (d : Fin 1024) : hB x0 x3 x4 (ix2 r d) = hid (fun k => x0 (ix3 0 ⟨128 + r.val, by omega⟩ k)) (fun k => x4 (ix2 0 k)) (fun k => x3 (ix3 0 0 ⟨1024 + k.val, by omega⟩)) (fun k => x3 (ix3 0 0 ⟨k.val, by omega⟩)) d := by
  refine (pay10_apply _ _ _ _ r d).trans ?_
  simp only [ldX x0 128 (by decide), nwV_apply, scV_apply, shV_apply]

/-- The row of the layer's input behind a row of the stored columns: a neighbour's or the block's. -/
def erow (q : Fin 272) (k : Fin 1024) : EReal :=
  if h : q.val < 8 then x1 (ix3 0 ⟨q.val, h⟩ k) else if h' : q.val < 264 then x0 (ix3 0 ⟨q.val - 8, by omega⟩ k) else x2 (ix3 0 ⟨q.val - 264, by omega⟩ k)
/-- The stored columns: zero past the region's ends. -/
def ext (q : Fin 272) (n : Fin 1024) : EReal :=
  if (q.val < 8 ∧ first i = 1#1) ∨ (264 ≤ q.val ∧ last i = 1#1) then 0 else col x3 x4 x5 x6 (erow x0 x1 x2 q) ⟨6656 + n.val, by omega⟩

theorem read_SS (v : View sig .tc .vmem S272x1024 .f32) (b) (q : Fin 272) (n : Fin 1024) :
    v.read (Elt Ideal) (v.writes (Elt Ideal) b (SS i x0 x1 x2 x3 x4 x5 x6)) (ix2 q n) = ext i x0 x1 x2 x3 x4 x5 x6 q n := by
  unfold SS ext
  by_cases h3 : 136 ≤ q.val ∧ q.val < 264
  · refine (View.read_writes_cons_unit_of_mem v b _ _ _ (ix2 q n) (ix2 (⟨q.val - 136, by omega⟩ : Fin 128) n) rfl fun a => ?_).trans ?_
    · match a with
      | 0 => show q.val = 136 + (q.val - 136); omega
      | 1 => exact (Nat.zero_add _).symm
    rw [if_neg (by omega), pay13_apply]
    have e : erow x0 x1 x2 q = fun k => x0 (ix3 0 ⟨128 + (q.val - 136), by omega⟩ k) := by
      funext k
      unfold erow
      rw [dif_neg (by omega), dif_pos h3.2]
      congr 2
      exact Fin.ext (by show q.val - 8 = 128 + (q.val - 136); omega)
    rw [e]
    unfold col proj
    simp only [hB_apply, wQ_apply, bQ_apply]
  refine (View.read_writes_cons_unit_of_not_mem v b _ _ _ (ix2 q n) rfl (0 : Fin 2) (show q.val < 136 ∨ 136 + 128 ≤ q.val by omega)).trans ?_
  by_cases h2 : 8 ≤ q.val ∧ q.val < 136
  · refine (View.read_writes_cons_unit_of_mem v b _ _ _ (ix2 q n) (ix2 (⟨q.val - 8, by omega⟩ : Fin 128) n) rfl fun a => ?_).trans ?_
    · match a with
      | 0 => show q.val = 8 + (q.val - 8); omega
      | 1 => exact (Nat.zero_add _).symm
    rw [if_neg (by omega), pay13_apply]
    have e : erow x0 x1 x2 q = fun k => x0 (ix3 0 ⟨q.val - 8, by omega⟩ k) := by
      funext k
      unfold erow
      rw [dif_neg (by omega), dif_pos (by omega)]
    rw [e]
    unfold col proj
    simp only [hA_apply, wQ_apply, bQ_apply]
  refine (View.read_writes_cons_unit_of_not_mem v b _ _ _ (ix2 q n) rfl (0 : Fin 2) (show q.val < 8 ∨ 8 + 128 ≤ q.val by omega)).trans ?_
  by_cases h1 : 264 ≤ q.val
  · refine (View.read_writes_cons_unit_of_mem v b _ _ _ (ix2 q n) (ix2 (⟨q.val - 264, by omega⟩ : Fin 8) n) rfl fun a => ?_).trans ?_
    · match a with
      | 0 => show q.val = 264 + (q.val - 264); omega
      | 1 => exact (Nat.zero_add _).symm
    rw [pay6_apply]
    by_cases hl : last i = 1#1
    · rw [if_pos hl, if_pos (Or.inr ⟨h1, hl⟩)]
    rw [if_neg hl, if_neg (by rintro (⟨h, -⟩ | ⟨-, h⟩); exacts [absurd h (by omega), hl h])]
    have e : erow x0 x1 x2 q = fun k => x2 (ix3 0 ⟨q.val - 264, by omega⟩ k) := by
      funext k
      unfold erow
      rw [dif_neg (by omega), dif_neg (by omega)]
    rw [e]
    unfold col proj
    simp only [wQ_apply, bQ_apply]
    refine congrArg (· + _) (Finset.sum_congr rfl fun d _ => congrArg (· * _) (hN_hi x1 x2 x3 x4 ⟨q.val - 264, by omega⟩ d))
  refine (View.read_writes_cons_unit_of_not_mem v b _ _ _ (ix2 q n) rfl (0 : Fin 2) (show q.val < 264 ∨ 264 + 8 ≤ q.val by omega)).trans ?_
  have h0 : q.val < 8 := by omega
  refine (View.read_writes_cons_unit_of_mem v b _ _ _ (ix2 q n) (ix2 (⟨q.val, h0⟩ : Fin 8) n) rfl fun a => ?_).trans ?_
  · match a with
    | 0 => exact (Nat.zero_add _).symm
    | 1 => exact (Nat.zero_add _).symm
  rw [pay5_apply]
  by_cases hl : first i = 1#1
  · rw [if_pos hl, if_pos (Or.inl ⟨h0, hl⟩)]
  rw [if_neg hl, if_neg (by rintro (⟨-, h⟩ | ⟨h, -⟩); exacts [hl h, absurd h (by omega)])]
  have e : erow x0 x1 x2 q = fun k => x1 (ix3 0 ⟨q.val, h0⟩ k) := by
    funext k
    unfold erow
    rw [dif_pos h0]
  rw [e]
  unfold col proj
  simp only [wQ_apply, bQ_apply]
  refine congrArg (· + _) (Finset.sum_congr rfl fun d _ => congrArg (· * _) (hN_lo x1 x2 x3 x4 ⟨q.val, h0⟩ d))

theorem colA (o : ℕ) (ho : o + 3328 ≤ 7680) (inb inb') (r : Fin 128) (n : Fin 3328) :
    k0_pay14 (F := Ideal) (hA x0 x3 x4) (wO x5 o inb) (bO x6 o inb') (ix3 0 r n) = col x3 x4 x5 x6 (fun k => x0 (ix3 0 ⟨r.val, by omega⟩ k)) ⟨o + n.val, by omega⟩ := by
  rw [pay14_apply]
  unfold col proj
  simp only [hA_apply, wO_apply x5 o ho, bO_apply x6 o ho]
theorem colB (o : ℕ) (ho : o + 3328 ≤ 7680) (inb inb') (r : Fin 128) (n : Fin 3328) :
    k0_pay14 (F := Ideal) (hB x0 x3 x4) (wO x5 o inb) (bO x6 o inb') (ix3 0 r n) = col x3 x4 x5 x6 (fun k => x0 (ix3 0 ⟨128 + r.val, by omega⟩ k)) ⟨o + n.val, by omega⟩ := by
  rw [pay14_apply]
  unfold col proj
  simp only [hB_apply, wO_apply x5 o ho, bO_apply x6 o ho]
theorem col_congr {r r' : Fin 256} {n n' : Fin 7680} (hr : r.val = r'.val) (hn : n.val = n'.val) :
    col x3 x4 x5 x6 (fun k => x0 (ix3 0 r k)) n = col x3 x4 x5 x6 (fun k => x0 (ix3 0 r' k)) n' := by
  rw [Fin.ext hr, Fin.ext hn]

/-- The other columns as stored. -/
theorem read_O9 (v : View sig .tc .vmem S1x256x6656 .f32) (b) (r : Fin 256) (n : Fin 6656) :
    v.read (Elt Ideal) (v.writes (Elt Ideal) b (O9 x0 x3 x4 x5 x6)) (ix3 0 r n) = col x3 x4 x5 x6 (fun k => x0 (ix3 0 r k)) ⟨n.val, by omega⟩ := by
  unfold O9
  by_cases hr : 128 ≤ r.val
  · by_cases hn : 3328 ≤ n.val
    · refine (View.read_writes_cons_unit_of_mem v b _ _ _ (ix3 0 r n) (ix3 0 (⟨r.val - 128, by omega⟩ : Fin 128) (⟨n.val - 3328, by omega⟩ : Fin 3328)) rfl fun a => ?_).trans ?_
      · match a with
        | 0 => rfl
        | 1 => show r.val = 128 + (r.val - 128); omega
        | 2 => show n.val = 3328 + (n.val - 3328); omega
      exact (colB x0 x3 x4 x5 x6 3328 (by decide) _ _ _ _).trans (col_congr x0 x3 x4 x5 x6 (by show 128 + (r.val - 128) = r.val; omega) (by show 3328 + (n.val - 3328) = n.val; omega))
    refine (View.read_writes_cons_unit_of_not_mem v b _ _ _ (ix3 0 r n) rfl (2 : Fin 3) (show n.val < 3328 ∨ 3328 + 3328 ≤ n.val by omega)).trans ?_
    refine (View.read_writes_cons_unit_of_mem v b _ _ _ (ix3 0 r n) (ix3 0 (⟨r.val - 128, by omega⟩ : Fin 128) (⟨n.val, by omega⟩ : Fin 3328)) rfl fun a => ?_).trans ?_
    · match a with
      | 0 => rfl
      | 1 => show r.val = 128 + (r.val - 128); omega
      | 2 => exact (Nat.zero_add _).symm
    exact (colB x0 x3 x4 x5 x6 0 (by decide) _ _ _ _).trans (col_congr x0 x3 x4 x5 x6 (by show 128 + (r.val - 128) = r.val; omega) (Nat.zero_add _))
  refine (View.read_writes_cons_unit_of_not_mem v b _ _ _ (ix3 0 r n) rfl (1 : Fin 3) (show r.val < 128 ∨ 128 + 128 ≤ r.val by omega)).trans ?_
  refine (View.read_writes_cons_unit_of_not_mem v b _ _ _ (ix3 0 r n) rfl (1 : Fin 3) (show r.val < 128 ∨ 128 + 128 ≤ r.val by omega)).trans ?_
  by_cases hn : 3328 ≤ n.val
  · refine (View.read_writes_cons_unit_of_mem v b _ _ _ (ix3 0 r n) (ix3 0 (⟨r.val, by omega⟩ : Fin 128) (⟨n.val - 3328, by omega⟩ : Fin 3328)) rfl fun a => ?_).trans ?_
    · match a with
      | 0 => rfl
      | 1 => exact (Nat.zero_add _).symm
      | 2 => show n.val = 3328 + (n.val - 3328); omega
    exact (colA x0 x3 x4 x5 x6 3328 (by decide) _ _ _ _).trans (col_congr x0 x3 x4 x5 x6 rfl (by show 3328 + (n.val - 3328) = n.val; omega))
  refine (View.read_writes_cons_unit_of_not_mem v b _ _ _ (ix3 0 r n) rfl (2 : Fin 3) (show n.val < 3328 ∨ 3328 + 3328 ≤ n.val by omega)).trans ?_
  refine (View.read_writes_cons_unit_of_mem v b _ _ _ (ix3 0 r n) (ix3 0 (⟨r.val, by omega⟩ : Fin 128) (⟨n.val, by omega⟩ : Fin 3328)) rfl fun a => ?_).trans ?_
  · match a with
    | 0 => rfl
    | 1 => exact (Nat.zero_add _).symm
    | 2 => exact (Nat.zero_add _).symm
  exact (colA x0 x3 x4 x5 x6 0 (by decide) _ _ _ _).trans (col_congr x0 x3 x4 x5 x6 rfl (Nat.zero_add _))

/-- A convolved column of a row, through the gate. -/
def qk (s : Fin 272 → Fin 1024 → EReal) (r : Fin 256) (n : Fin 1024) : EReal :=
  silu (conv (x8 (ix2 0 n)) (fun j => s ⟨6 + j.val + r.val, by omega⟩ n) (fun j => x7 (ix2 j n)))
theorem gate_apply (u : Vec Ideal S272x1024 .f32) (r : Fin 256) (n : Fin 1024) :
    k0_pay20 (F := Ideal) (k0_pay18 (cbV x8) (win u 6 inb_S272x1024_S256x1024_6_0) (tap x7 0 inb_S5x1024_S1x1024_0_0))
    (win u 7 inb_S272x1024_S256x1024_7_0) (k0_pay19 (tap x7 1 inb_S5x1024_S1x1024_1_0)) (win u 8 inb_S272x1024_S256x1024_8_0) (tap x7 2 inb_S5x1024_S1x1024_2_0)
    (win u 9 inb_S272x1024_S256x1024_9_0) (tap x7 3 inb_S5x1024_S1x1024_3_0) (win u 10 inb_S272x1024_S256x1024_10_0) (tap x7 4 inb_S5x1024_S1x1024_4_0) (ix2 r n) = qk x7 x8 (fun q n => u (ix2 q n)) r n := by
  rw [pay20_apply, cbV_apply, win_apply u 6 (by decide), win_apply u 7 (by decide), win_apply u 8 (by decide), win_apply u 9 (by decide), win_apply u 10 (by decide),
    tap_apply x7 0 (by decide), tap_apply x7 1 (by decide), tap_apply x7 2 (by decide), tap_apply x7 3 (by decide), tap_apply x7 4 (by decide)]
  rfl
theorem read_O10 (u : Vec Ideal S272x1024 .f32) (v : View sig .tc .vmem S1x256x512 .bf16) (b) (r : Fin 256) (n : Fin 512) :
    v.read (Elt Ideal) (v.writes (Elt Ideal) b (O10 x7 x8 u)) (ix3 0 r n) = qk x7 x8 (fun q n => u (ix2 q n)) r ⟨n.val, by omega⟩ := by
  refine (View.read_writes_cons_unit_of_mem v b _ _ _ (ix3 0 r n) (ix3 0 r n) rfl fun a => ?_).trans ?_
  · match a with
    | 0 => rfl
    | 1 => exact (Nat.zero_add _).symm
    | 2 => exact (Nat.zero_add _).symm
  exact (pay21_apply _ _ _ _ _ _ _ _ _ r n).trans (gate_apply x7 x8 u r _)
theorem read_O11 (u : Vec Ideal S272x1024 .f32) (v : View sig .tc .vmem S1x256x512 .bf16) (b) (r : Fin 256) (n : Fin 512) :
    v.read (Elt Ideal) (v.writes (Elt Ideal) b (O11 x7 x8 u)) (ix3 0 r n) = qk x7 x8 (fun q n => u (ix2 q n)) r ⟨512 + n.val, by omega⟩ * bits 0x3E000000#32 := by
  refine (View.read_writes_cons_unit_of_mem v b _ _ _ (ix3 0 r n) (ix3 0 r n) rfl fun a => ?_).trans ?_
  · match a with
    | 0 => rfl
    | 1 => exact (Nat.zero_add _).symm
    | 2 => exact (Nat.zero_add _).symm
  exact (pay22_apply _ _ _ _ _ _ _ _ _ r n).trans (congrArg (· * _) (gate_apply x7 x8 u r _))
end values

section body
variable (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x6144 .f32) (harg5 : arg5.IsWhole) (arg6 : Memref sig .tc .vmem S1x1024 .f32) (harg6 : arg6.IsWhole) (arg7 : Memref sig .tc .vmem S1x1024x7680 .bf16) (harg7 : arg7.IsWhole) (arg8 : Memref sig .tc .vmem S1x1x7680 .f32) (harg8 : arg8.IsWhole) (arg9 : Memref sig .tc .vmem S5x1024 .f32) (harg9 : arg9.IsWhole) (arg10 : Memref sig .tc .vmem S1x1024 .f32) (harg10 : arg10.IsWhole) (arg11 : Memref sig .tc .vmem S1x256x6656 .f32) (harg11 : arg11.IsWhole) (arg12 : Memref sig .tc .vmem S1x256x512 .bf16) (harg12 : arg12.IsWhole) (arg13 : Memref sig .tc .vmem S1x256x512 .bf16) (harg13 : arg13.IsWhole) (arg14 : Memref sig .tc .vmem S272x1024 .f32) (harg14 : arg14.IsWhole)
    (x0 : Vec Ideal S1x256x1024 .f32) (x1 : Vec Ideal S1x8x1024 .f32) (x2 : Vec Ideal S1x8x1024 .f32) (x3 : Vec Ideal S1x1x6144 .f32) (x4 : Vec Ideal S1x1024 .f32) (x5 : Vec Ideal S1x1024x7680 .bf16) (x6 : Vec Ideal S1x1x7680 .f32) (x7 : Vec Ideal S5x1024 .f32) (x8 : Vec Ideal S1x1024 .f32)

theorem run9_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 = O9 x0 x3 x4 x5 x6 := by
  unfold kernelRun0_A
  dsimp only
  sl_unfold_run_names
  simp only [View.readAt_eq_ld, View.readCov, harg2.read_unread, harg3.read_unread, harg4.read_unread, harg5.read_unread, harg6.read_unread, harg7.read_unread, harg8.read_unread, harg9.read_unread, harg10.read_unread]
  rfl

theorem run10_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1 = O10 x7 x8 (arg14.view.read (Elt Ideal) (arg14.view.writes (Elt Ideal) arg14.view.junk (SS i x0 x1 x2 x3 x4 x5 x6))) := by
  unfold kernelRun0_A
  dsimp only
  sl_unfold_run_names
  simp only [View.readAt_eq_ld, View.readCov, harg2.read_unread, harg3.read_unread, harg4.read_unread, harg5.read_unread, harg6.read_unread, harg7.read_unread, harg8.read_unread, harg9.read_unread, harg10.read_unread]
  rfl

theorem run11_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1 = O11 x7 x8 (arg14.view.read (Elt Ideal) (arg14.view.writes (Elt Ideal) arg14.view.junk (SS i x0 x1 x2 x3 x4 x5 x6))) := by
  unfold kernelRun0_A
  dsimp only
  sl_unfold_run_names
  simp only [View.readAt_eq_ld, View.readCov, harg2.read_unread, harg3.read_unread, harg4.read_unread, harg5.read_unread, harg6.read_unread, harg7.read_unread, harg8.read_unread, harg9.read_unread, harg10.read_unread]
  rfl

/-- The block of other columns. -/
theorem out9_apply (r : Fin 256) (n : Fin 6656) : out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 r n) = col x3 x4 x5 x6 (fun k => x0 (ix3 0 r k)) ⟨n.val, by omega⟩ := by
  unfold out0_A_9
  rw [run9_eq]
  exact read_O9 x0 x3 x4 x5 x6 VO0_9 _ r n
/-- The block of queries. -/
theorem out10_apply (r : Fin 256) (n : Fin 512) : out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 r n) = qk x7 x8 (ext i x0 x1 x2 x3 x4 x5 x6) r ⟨n.val, by omega⟩ := by
  unfold out0_A_10
  rw [run10_eq]
  refine (read_O10 x7 x8 _ VO0_10 _ r n).trans ?_
  simp only [read_SS]
/-- The block of keys. -/
theorem out11_apply (r : Fin 256) (n : Fin 512) : out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 r n) = qk x7 x8 (ext i x0 x1 x2 x3 x4 x5 x6) r ⟨512 + n.val, by omega⟩ * bits 0x3E000000#32 := by
  unfold out0_A_11
  rw [run11_eq]
  refine (read_O11 x7 x8 _ VO0_11 _ r n).trans ?_
  simp only [read_SS]
end body

end Cert.Kernel3Ideal.InProj

end
-- ==== Proof.InProj.Ref.lean ====
/- The reference's input projection read at an index. -/
module

public import proofs.«01_k».proof.Proof.InProj.Body
public import proofs.«01_k».proof.Proof.Gen.Reference3Ideal.Read
public import Idealize.ShloMosaic.Lib.KernelVsHost

@[expose] public section

set_option maxRecDepth 16384

noncomputable section

namespace Cert.Reference3Ideal.InProj

open Idealize.ShloMosaic Idealize.ShloMosaic.TcCoe Idealize.ShloMosaic.Tactic
open Cert.Reference3Ideal Cert.Reference3Ideal.Gen Cert.Reference3Ideal.Read
open Cert.Kernel3Ideal.InProj (bits hid proj silu conv)

variable (x0 : Vec Ideal S2x8448x1024 .f32) (x1 : Vec Ideal S8x1x6144 .f32) (x2 : Vec Ideal S1x1024 .f32) (x3 : Vec Ideal S4x1024x7680 .bf16) (x4 : Vec Ideal S4x1x7680 .f32) (x5 : Vec Ideal S5x1024 .f32) (x6 : Vec Ideal S1x1024 .f32)

/-- A column of a row's projection, modulated by a row of the modulation. -/
def rcol (s : Fin 8) (b : Fin 2) (l : Fin 8448) (n : Fin 7680) : EReal :=
  proj (fun k => x0 (ix3 b l k)) (fun k => x2 (ix2 0 k)) (fun k => x1 (ix3 s 0 ⟨1024 + k.val, by omega⟩)) (fun k => x1 (ix3 s 0 ⟨k.val, by omega⟩)) (fun d => x3 (ix3 0 d n)) (x4 (ix3 0 0 n))
/-- The modulation row of a row: its batch element's among the latents, the third among the contexts. -/
def mrow (b : Fin 2) (l : ℕ) : Fin 8 := if l < 8192 then ⟨b.val, by omega⟩ else 2

theorem hidL (b : Fin 2) (l : Fin 8192) (d : Fin 1024) : val_main_v22 (F := Ideal) x0 x1 x2 (ix3 b l d) =
    hid (fun k => x0 (ix3 b ⟨l.val, by omega⟩ k)) (fun k => x2 (ix2 0 k)) (fun k => x1 (ix3 ⟨b.val, by omega⟩ 0 ⟨1024 + k.val, by omega⟩)) (fun k => x1 (ix3 ⟨b.val, by omega⟩ 0 ⟨k.val, by omega⟩)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, hid]
theorem hidC (b : Fin 2) (l : Fin 256) (d : Fin 1024) : val_main_v54 (F := Ideal) x0 x1 x2 (ix3 b l d) =
    hid (fun k => x0 (ix3 b ⟨8192 + l.val, by omega⟩ k)) (fun k => x2 (ix2 0 k)) (fun k => x1 (ix3 2 0 ⟨1024 + k.val, by omega⟩)) (fun k => x1 (ix3 2 0 ⟨k.val, by omega⟩)) d := by
  pointwise [val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_cst_3, val_main_cst_4, val_main_cst_5, val_main_cst_6, hid]
theorem colL (b : Fin 2) (l : Fin 8192) (n : Fin 7680) : val_main_v31 (F := Ideal) x0 x1 x2 x3 x4 (ix3 b l n) = rcol x0 x1 x2 x3 x4 ⟨b.val, by omega⟩ b ⟨l.val, by omega⟩ n := by
  unfold rcol proj
  simp only [← hidL]
  unfold val_main_v31 val_main_v26
  generalize val_main_v22 (F := Ideal) x0 x1 x2 = z
  pointwise [val_main_v23, val_main_v24, val_main_v25, val_main_v27, val_main_v28, val_main_v29, val_main_v30]
theorem colC (b : Fin 2) (l : Fin 256) (n : Fin 7680) : val_main_v63 (F := Ideal) x0 x1 x2 x3 x4 (ix3 b l n) = rcol x0 x1 x2 x3 x4 2 b ⟨8192 + l.val, by omega⟩ n := by
  unfold rcol proj
  simp only [← hidC]
  unfold val_main_v63 val_main_v58
  generalize val_main_v54 (F := Ideal) x0 x1 x2 = z
  pointwise [val_main_v55, val_main_v56, val_main_v57, val_main_v59, val_main_v60, val_main_v61, val_main_v62]

/-- The latents' convolution, from the padded columns. -/
theorem convL (b : Fin 2) (l : Fin 8192) (n : Fin 1024) : val_main_v105 (F := Ideal) x0 x1 x2 x3 x4 x5 x6 (ix3 b l n) =
    conv (x6 (ix2 0 n)) (fun j => val_main_v65 (F := Ideal) x0 x1 x2 x3 x4 (ix3 b ⟨j.val + l.val, by omega⟩ n)) (fun j => x5 (ix2 j n)) := by
  unfold val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_cst_7
  generalize val_main_v65 (F := Ideal) x0 x1 x2 x3 x4 = z
  pointwise []
  have h0 : (⟨(0 : Fin 5).val + l.val, by omega⟩ : Fin 8196) = ⟨l.val, by omega⟩ := Fin.ext (Nat.zero_add _)
  unfold conv
  rw [add_comm]
  simp only [← add_assoc, h0]
  rfl

theorem convC (b : Fin 2) (l : Fin 256) (n : Fin 1024) : val_main_v147 (F := Ideal) x0 x1 x2 x3 x4 x5 x6 (ix3 b l n) =
    conv (x6 (ix2 0 n)) (fun j => val_main_v107 (F := Ideal) x0 x1 x2 x3 x4 (ix3 b ⟨j.val + l.val, by omega⟩ n)) (fun j => x5 (ix2 j n)) := by
  unfold val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_cst_9
  generalize val_main_v107 (F := Ideal) x0 x1 x2 x3 x4 = z
  pointwise []
  have h0 : (⟨(0 : Fin 5).val + l.val, by omega⟩ : Fin 260) = ⟨l.val, by omega⟩ := Fin.ext (Nat.zero_add _)
  unfold conv
  rw [add_comm]
  simp only [← add_assoc, h0]
  rfl

/-- The padded columns: the latents', with two zeros at either end. -/
theorem padL (b : Fin 2) (p : Fin 8196) (n : Fin 1024) : val_main_v65 (F := Ideal) x0 x1 x2 x3 x4 (ix3 b p n) =
    if h : 2 ≤ p.val ∧ p.val < 8194 then rcol x0 x1 x2 x3 x4 ⟨b.val, by omega⟩ b ⟨p.val - 2, by omega⟩ ⟨6656 + n.val, by omega⟩ else 0 := by
  unfold val_main_v65
  by_cases h : 2 ≤ p.val ∧ p.val < 8194
  · rw [dif_pos h]
    refine (pad_apply_of_inside _ _ _ _ _ _ _ _ (ix3 b (⟨p.val - 2, by omega⟩ : Fin 8192) n) fun a => ?_).trans ?_
    · match a with
      | 0 => show b.val = 0 + b.val * 1; omega
      | 1 => show p.val = 2 + (p.val - 2) * 1; omega
      | 2 => show n.val = 0 + n.val * 1; omega
    rw [val_main_v64_apply]
    refine (congrArg (val_main_v31 (F := Ideal) x0 x1 x2 x3 x4) (show _ = (ix3 b (⟨p.val - 2, by omega⟩ : Fin 8192) (⟨6656 + n.val, by omega⟩ : Fin 7680) : S2x8192x7680.Idx) from funext fun a => ?_)).trans (colL x0 x1 x2 x3 x4 b _ _)
    match a with
    | 0 => rfl
    | 1 => rfl
    | 2 => rfl
  · rw [dif_neg h]
    refine (pad_apply_of_not_inside _ _ _ _ _ _ _ _ (1 : Fin 3) fun h' => h ?_).trans ?_
    · have h1 : 2 ≤ p.val := h'.1
      have h2 : (p.val - 2) / 1 < 8192 := h'.2.2
      omega
    · show ((((0#32 : BitVec 32).toInt : ℝ)) : EReal) = 0
      simp
/-- The padded columns of the contexts. -/
theorem padC (b : Fin 2) (p : Fin 260) (n : Fin 1024) : val_main_v107 (F := Ideal) x0 x1 x2 x3 x4 (ix3 b p n) =
    if h : 2 ≤ p.val ∧ p.val < 258 then rcol x0 x1 x2 x3 x4 2 b ⟨8192 + (p.val - 2), by omega⟩ ⟨6656 + n.val, by omega⟩ else 0 := by
  unfold val_main_v107
  by_cases h : 2 ≤ p.val ∧ p.val < 258
  · rw [dif_pos h]
    refine (pad_apply_of_inside _ _ _ _ _ _ _ _ (ix3 b (⟨p.val - 2, by omega⟩ : Fin 256) n) fun a => ?_).trans ?_
    · match a with
      | 0 => show b.val = 0 + b.val * 1; omega
      | 1 => show p.val = 2 + (p.val - 2) * 1; omega
      | 2 => show n.val = 0 + n.val * 1; omega
    rw [val_main_v106_apply]
    refine (congrArg (val_main_v63 (F := Ideal) x0 x1 x2 x3 x4) (show _ = (ix3 b (⟨p.val - 2, by omega⟩ : Fin 256) (⟨6656 + n.val, by omega⟩ : Fin 7680) : S2x256x7680.Idx) from funext fun a => ?_)).trans (colC x0 x1 x2 x3 x4 b _ _)
    match a with
    | 0 => rfl
    | 1 => rfl
    | 2 => rfl
  · rw [dif_neg h]
    refine (pad_apply_of_not_inside _ _ _ _ _ _ _ _ (1 : Fin 3) fun h' => h ?_).trans ?_
    · have h1 : 2 ≤ p.val := h'.1
      have h2 : (p.val - 2) / 1 < 256 := h'.2.2
      omega
    · show ((((0#32 : BitVec 32).toInt : ℝ)) : EReal) = 0
      simp

/-- The `j`-th of the five rows around a row lies in the row's region. -/
def inR (l j : ℕ) : Prop := (l < 8192 ∧ 2 ≤ l + j ∧ l + j < 8194) ∨ (8192 ≤ l ∧ 8194 ≤ l + j ∧ l + j < 8450)
instance (l j : ℕ) : Decidable (inR l j) := by unfold inR; infer_instance
/-- A column at the `j`-th of the five rows around a row: zero past the region's ends. -/
def rwin (b : Fin 2) (l : Fin 8448) (n : Fin 1024) (j : Fin 5) : EReal :=
  if h : inR l.val j.val then rcol x0 x1 x2 x3 x4 (mrow b l.val) b ⟨l.val + j.val - 2, by unfold inR at h; omega⟩ ⟨6656 + n.val, by omega⟩ else 0

theorem slab_lo (b : Fin 2) (l : Fin 8192) (n : Fin 6656) : val_main_v151 (F := Ideal) x0 x1 x2 x3 x4 (ix3 b ⟨l.val, by omega⟩ n) = val_main_v31 (F := Ideal) x0 x1 x2 x3 x4 (ix3 b l ⟨n.val, by omega⟩) := by
  unfold val_main_v151 val_main_v150
  generalize val_main_v31 (F := Ideal) x0 x1 x2 x3 x4 = z
  generalize val_main_v63 (F := Ideal) x0 x1 x2 x3 x4 = z'
  pointwise []
theorem slab_hi (b : Fin 2) (l : Fin 256) (n : Fin 6656) : val_main_v151 (F := Ideal) x0 x1 x2 x3 x4 (ix3 b ⟨8192 + l.val, by omega⟩ n) = val_main_v63 (F := Ideal) x0 x1 x2 x3 x4 (ix3 b l ⟨n.val, by omega⟩) := by
  unfold val_main_v151 val_main_v150
  generalize val_main_v31 (F := Ideal) x0 x1 x2 x3 x4 = z
  generalize val_main_v63 (F := Ideal) x0 x1 x2 x3 x4 = z'
  pointwise []
theorem cat_lo (b : Fin 2) (l : Fin 8192) (n : Fin 1024) : val_main_v148 (F := Ideal) x0 x1 x2 x3 x4 x5 x6 (ix3 b ⟨l.val, by omega⟩ n) = val_main_v105 (F := Ideal) x0 x1 x2 x3 x4 x5 x6 (ix3 b l n) := by
  unfold val_main_v148
  generalize val_main_v105 (F := Ideal) x0 x1 x2 x3 x4 x5 x6 = z
  generalize val_main_v147 (F := Ideal) x0 x1 x2 x3 x4 x5 x6 = z'
  pointwise []
theorem cat_hi (b : Fin 2) (l : Fin 256) (n : Fin 1024) : val_main_v148 (F := Ideal) x0 x1 x2 x3 x4 x5 x6 (ix3 b ⟨8192 + l.val, by omega⟩ n) = val_main_v147 (F := Ideal) x0 x1 x2 x3 x4 x5 x6 (ix3 b l n) := by
  unfold val_main_v148
  generalize val_main_v105 (F := Ideal) x0 x1 x2 x3 x4 x5 x6 = z
  generalize val_main_v147 (F := Ideal) x0 x1 x2 x3 x4 x5 x6 = z'
  pointwise []

/-- The reference's other columns. -/
theorem slab_apply (b : Fin 2) (l : Fin 8448) (n : Fin 6656) : val_main_v151 (F := Ideal) x0 x1 x2 x3 x4 (ix3 b l n) = rcol x0 x1 x2 x3 x4 (mrow b l.val) b l ⟨n.val, by omega⟩ := by
  by_cases hl : l.val < 8192
  · refine (slab_lo x0 x1 x2 x3 x4 b ⟨l.val, hl⟩ n).trans ((colL x0 x1 x2 x3 x4 b ⟨l.val, hl⟩ ⟨n.val, by omega⟩).trans ?_)
    rw [mrow, if_pos hl]
  · obtain ⟨l', hl'⟩ : ∃ l' : Fin 256, l.val = 8192 + l'.val := ⟨⟨l.val - 8192, by omega⟩, by show l.val = 8192 + (l.val - 8192); omega⟩
    obtain rfl : l = ⟨8192 + l'.val, Nat.add_lt_add_left l'.isLt 8192⟩ := Fin.ext hl'
    refine (slab_hi x0 x1 x2 x3 x4 b l' n).trans ((colC x0 x1 x2 x3 x4 b l' ⟨n.val, by omega⟩).trans ?_)
    rw [mrow, if_neg hl]

/-- The reference's convolved columns. -/
theorem cat_apply (b : Fin 2) (l : Fin 8448) (n : Fin 1024) : val_main_v148 (F := Ideal) x0 x1 x2 x3 x4 x5 x6 (ix3 b l n) = conv (x6 (ix2 0 n)) (rwin x0 x1 x2 x3 x4 b l n) (fun j => x5 (ix2 j n)) := by
  by_cases hl : l.val < 8192
  · refine (cat_lo x0 x1 x2 x3 x4 x5 x6 b ⟨l.val, hl⟩ n).trans ((convL x0 x1 x2 x3 x4 x5 x6 b ⟨l.val, hl⟩ n).trans (congrArg (conv _ · _) (funext fun j => (padL x0 x1 x2 x3 x4 b _ n).trans ?_)))
    unfold rwin
    by_cases h : inR l.val j.val
    · rw [dif_pos h, dif_pos (by unfold inR at h; show 2 ≤ j.val + l.val ∧ j.val + l.val < 8194; omega), mrow, if_pos hl]
      exact congrArg (rcol x0 x1 x2 x3 x4 _ b · _) (Fin.ext (by show j.val + l.val - 2 = l.val + j.val - 2; omega))
    · rw [dif_neg h, dif_neg (by unfold inR at h; show ¬(2 ≤ j.val + l.val ∧ j.val + l.val < 8194); omega)]
  · obtain ⟨l', hl'⟩ : ∃ l' : Fin 256, l.val = 8192 + l'.val := ⟨⟨l.val - 8192, by omega⟩, by show l.val = 8192 + (l.val - 8192); omega⟩
    obtain rfl : l = ⟨8192 + l'.val, Nat.add_lt_add_left l'.isLt 8192⟩ := Fin.ext hl'
    refine (cat_hi x0 x1 x2 x3 x4 x5 x6 b l' n).trans ((convC x0 x1 x2 x3 x4 x5 x6 b l' n).trans (congrArg (conv _ · _) (funext fun j => (padC x0 x1 x2 x3 x4 b _ n).trans ?_)))
    unfold rwin
    by_cases h : inR (8192 + l'.val) j.val
    · rw [dif_pos h, dif_pos (by unfold inR at h; show 2 ≤ j.val + l'.val ∧ j.val + l'.val < 258; omega), mrow, if_neg hl]
      exact congrArg (rcol x0 x1 x2 x3 x4 _ b · _) (Fin.ext (by unfold inR at h; show 8192 + (j.val + l'.val - 2) = 8192 + l'.val + j.val - 2; omega))
    · rw [dif_neg h, dif_neg (by unfold inR at h; show ¬(2 ≤ j.val + l'.val ∧ j.val + l'.val < 258); omega)]

/-- … through the gate. -/
theorem qk_apply (b : Fin 2) (l : Fin 8448) (n : Fin 1024) : val_main_v149 (F := Ideal) x0 x1 x2 x3 x4 x5 x6 (ix3 b l n) =
    silu (conv (x6 (ix2 0 n)) (rwin x0 x1 x2 x3 x4 b l n) (fun j => x5 (ix2 j n))) := by
  rw [← cat_apply]
  unfold val_main_v149 val_main_call2_v5 val_main_call2_v4 val_main_call2_v3 val_main_call2_v2 val_main_call2_v1 val_main_call2_v0 val_main_call2_cst val_main_call2_cst_0
  generalize val_main_v148 (F := Ideal) x0 x1 x2 x3 x4 x5 x6 = z
  pointwise [silu]
  rw [zero_sub]

theorem q_apply (b : Fin 2) (l : Fin 8448) (n : Fin 512) : val_main_v153 (F := Ideal) x0 x1 x2 x3 x4 x5 x6 (ix3 b l n) = val_main_v149 (F := Ideal) x0 x1 x2 x3 x4 x5 x6 (ix3 b l ⟨n.val, by omega⟩) := by
  unfold val_main_v153 val_main_v152
  generalize val_main_v149 (F := Ideal) x0 x1 x2 x3 x4 x5 x6 = z
  pointwise []
theorem k_apply (b : Fin 2) (l : Fin 8448) (n : Fin 512) : val_main_v157 (F := Ideal) x0 x1 x2 x3 x4 x5 x6 (ix3 b l n) = val_main_v149 (F := Ideal) x0 x1 x2 x3 x4 x5 x6 (ix3 b l ⟨512 + n.val, by omega⟩) * bits 0x3E000000#32 := by
  unfold val_main_v157 val_main_v156 val_main_v155 val_main_v154 val_main_cst_10
  generalize val_main_v149 (F := Ideal) x0 x1 x2 x3 x4 x5 x6 = z
  pointwise []

end Cert.Reference3Ideal.InProj

end
-- ==== Proof.InProj.Value.lean ====
/- The input projection's result arrays: the reference's, element by element. -/
module

public import proofs.«01_k».proof.Proof.InProj.Out
public import proofs.«01_k».proof.Proof.InProj.Ref
public import proofs.«01_k».proof.Proof.Gen.Kernel3Ideal.Value

@[expose] public section

set_option maxRecDepth 16384

noncomputable section

namespace Cert.Kernel3Ideal.InProj

open Idealize.ShloMosaic Idealize.ShloMosaic.TcCoe Idealize.ShloMosaic.Tactic
open Cert.Kernel3Ideal Cert.Kernel3Ideal.Gen
open Cert.Reference3Ideal.InProj (rcol mrow inR rwin slab_apply qk_apply q_apply k_apply)

variable (m : (ℓ : Loc nD τ sig) → Buf (Elt Ideal) ℓ) (c : Dev nD)

/-- A grid point's batch element and block of rows. -/
abbrev gb (t : Fin grid0.N) : Fin 2 := grid0.coords t 0
abbrev gi (t : Fin grid0.N) : Fin 33 := grid0.coords t 1

theorem ix0 : ∀ t : Fin grid0.N, cc0_transform_0 (grid0.coords t) = ![(gb t).val, (gi t).val, 0] := by decide +kernel
theorem ix1 : ∀ t : Fin grid0.N, cc0_transform_1 (grid0.coords t) = ![(gb t).val, 32 * (gi t).val - 1, 0] := by decide +kernel
theorem ix2' : ∀ t : Fin grid0.N, cc0_transform_2 (grid0.coords t) = ![(gb t).val, min (32 * ((gi t).val + 1)) 1055, 0] := by decide +kernel
theorem ix3' : ∀ t : Fin grid0.N, cc0_transform_3 (grid0.coords t) = ![if (gi t).val < 32 then (gb t).val else 2, 0, 0] := by decide +kernel
theorem ix4' : ∀ t : Fin grid0.N, cc0_transform_4 (grid0.coords t) = ![0, 0] := by decide +kernel
theorem ix5 : ∀ t : Fin grid0.N, cc0_transform_5 (grid0.coords t) = ![0, 0, 0] := by decide +kernel
theorem ix6 : ∀ t : Fin grid0.N, cc0_transform_6 (grid0.coords t) = ![0, 0, 0] := by decide +kernel
theorem ix7 : ∀ t : Fin grid0.N, cc0_transform_7 (grid0.coords t) = ![0, 0] := by decide +kernel
theorem ix8 : ∀ t : Fin grid0.N, cc0_transform_8 (grid0.coords t) = ![0, 0] := by decide +kernel
theorem ix9 : ∀ t : Fin grid0.N, cc0_transform_9 (grid0.coords t) = ![(gb t).val, (gi t).val, 0] := by decide +kernel
theorem ix10 : ∀ t : Fin grid0.N, cc0_transform_10 (grid0.coords t) = ![(gb t).val, (gi t).val, 0] := by decide +kernel
theorem ix11 : ∀ t : Fin grid0.N, cc0_transform_11 (grid0.coords t) = ![(gb t).val, (gi t).val, 0] := by decide +kernel
theorem mrow_val : ∀ t : Fin grid0.N, (if (gi t).val < 32 then (gb t).val else 2) = (mrow (gb t) (256 * (gi t).val)).val := by decide +kernel
theorem first_iff : ∀ t : Fin grid0.N, first (grid0.coords t) = 1#1 ↔ ((gi t).val = 0 ∨ (gi t).val = 32) := by decide +kernel
theorem last_iff : ∀ t : Fin grid0.N, last (grid0.coords t) = 1#1 ↔ ((gi t).val = 31 ∨ (gi t).val = 32) := by decide +kernel

theorem blk0 (t : Fin grid0.N) (r : Fin 256) (k : Fin 1024) :
    iblk m c 0 t (ix3 0 r k) = m ((c : Thread nD τ).loc main_arg0) (ix3 (gb t) ⟨256 * (gi t).val + r.val, by omega⟩ k) := by
  refine congrArg (m ((c : Thread nD τ).loc main_arg0)) (funext (α := Fin 3) (β := fun a => Fin (S2x8448x1024.size a)) fun a => Fin.ext ?_)
  have e := ix0 t
  match a with
  | 0 => show cc0_transform_0 (grid0.coords t) 0 * 1 + 1 * 0 = (gb t).val; rw [e]; show (gb t).val * 1 + 1 * 0 = _; omega
  | 1 => show cc0_transform_0 (grid0.coords t) 1 * 256 + 1 * r.val = 256 * (gi t).val + r.val; rw [e]; show (gi t).val * 256 + 1 * r.val = _; omega
  | 2 => show cc0_transform_0 (grid0.coords t) 2 * 1024 + 1 * k.val = k.val; rw [e]; show 0 * 1024 + 1 * k.val = _; omega
theorem blk1 (t : Fin grid0.N) (q : Fin 8) (k : Fin 1024) :
    iblk m c 1 t (ix3 0 q k) = m ((c : Thread nD τ).loc main_arg0) (ix3 (gb t) ⟨8 * (32 * (gi t).val - 1) + q.val, by omega⟩ k) := by
  refine congrArg (m ((c : Thread nD τ).loc main_arg0)) (funext (α := Fin 3) (β := fun a => Fin (S2x8448x1024.size a)) fun a => Fin.ext ?_)
  have e := ix1 t
  match a with
  | 0 => show cc0_transform_1 (grid0.coords t) 0 * 1 + 1 * 0 = (gb t).val; rw [e]; show (gb t).val * 1 + 1 * 0 = _; omega
  | 1 => show cc0_transform_1 (grid0.coords t) 1 * 8 + 1 * q.val = 8 * (32 * (gi t).val - 1) + q.val; rw [e]; show (32 * (gi t).val - 1) * 8 + 1 * q.val = _; omega
  | 2 => show cc0_transform_1 (grid0.coords t) 2 * 1024 + 1 * k.val = k.val; rw [e]; show 0 * 1024 + 1 * k.val = _; omega
theorem blk2 (t : Fin grid0.N) (q : Fin 8) (k : Fin 1024) :
    iblk m c 2 t (ix3 0 q k) = m ((c : Thread nD τ).loc main_arg0) (ix3 (gb t) ⟨8 * min (32 * ((gi t).val + 1)) 1055 + q.val, by omega⟩ k) := by
  refine congrArg (m ((c : Thread nD τ).loc main_arg0)) (funext (α := Fin 3) (β := fun a => Fin (S2x8448x1024.size a)) fun a => Fin.ext ?_)
  have e := ix2' t
  match a with
  | 0 => show cc0_transform_2 (grid0.coords t) 0 * 1 + 1 * 0 = (gb t).val; rw [e]; show (gb t).val * 1 + 1 * 0 = _; omega
  | 1 => show cc0_transform_2 (grid0.coords t) 1 * 8 + 1 * q.val = 8 * min (32 * ((gi t).val + 1)) 1055 + q.val; rw [e]; show (min (32 * ((gi t).val + 1)) 1055) * 8 + 1 * q.val = _; omega
  | 2 => show cc0_transform_2 (grid0.coords t) 2 * 1024 + 1 * k.val = k.val; rw [e]; show 0 * 1024 + 1 * k.val = _; omega
theorem blk3 (t : Fin grid0.N) (k : Fin 6144) :
    iblk m c 3 t (ix3 0 0 k) = m ((c : Thread nD τ).loc main_arg1) (ix3 (mrow (gb t) (256 * (gi t).val)) 0 k) := by
  refine congrArg (m ((c : Thread nD τ).loc main_arg1)) (funext (α := Fin 3) (β := fun a => Fin (S8x1x6144.size a)) fun a => Fin.ext ?_)
  have e := ix3' t
  match a with
  | 0 => show cc0_transform_3 (grid0.coords t) 0 * 1 + 1 * 0 = (mrow (gb t) (256 * (gi t).val)).val; rw [e]; show (if (gi t).val < 32 then (gb t).val else 2) * 1 + 1 * 0 = _; rw [mrow_val t]; omega
  | 1 => show cc0_transform_3 (grid0.coords t) 1 * 1 + 1 * 0 = 0; rw [e]; show 0 * 1 + 1 * 0 = _; omega
  | 2 => show cc0_transform_3 (grid0.coords t) 2 * 6144 + 1 * k.val = k.val; rw [e]; show 0 * 6144 + 1 * k.val = _; omega
theorem blk4 (t : Fin grid0.N) (k : Fin 1024) :
    iblk m c 4 t (ix2 0 k) = m ((c : Thread nD τ).loc main_arg2) (ix2 0 k) := by
  refine congrArg (m ((c : Thread nD τ).loc main_arg2)) (funext (α := Fin 2) (β := fun a => Fin (S1x1024.size a)) fun a => Fin.ext ?_)
  have e := ix4' t
  match a with
  | 0 => show cc0_transform_4 (grid0.coords t) 0 * 1 + 1 * 0 = 0; rw [e]; show 0 * 1 + 1 * 0 = _; omega
  | 1 => show cc0_transform_4 (grid0.coords t) 1 * 1024 + 1 * k.val = k.val; rw [e]; show 0 * 1024 + 1 * k.val = _; omega
theorem blk5 (t : Fin grid0.N) (d : Fin 1024) (n : Fin 7680) :
    iblk m c 5 t (ix3 0 d n) = m ((c : Thread nD τ).loc main_arg3) (ix3 0 d n) := by
  refine congrArg (m ((c : Thread nD τ).loc main_arg3)) (funext (α := Fin 3) (β := fun a => Fin (S4x1024x7680.size a)) fun a => Fin.ext ?_)
  have e := ix5 t
  match a with
  | 0 => show cc0_transform_5 (grid0.coords t) 0 * 1 + 1 * 0 = 0; rw [e]; show 0 * 1 + 1 * 0 = _; omega
  | 1 => show cc0_transform_5 (grid0.coords t) 1 * 1024 + 1 * d.val = d.val; rw [e]; show 0 * 1024 + 1 * d.val = _; omega
  | 2 => show cc0_transform_5 (grid0.coords t) 2 * 7680 + 1 * n.val = n.val; rw [e]; show 0 * 7680 + 1 * n.val = _; omega
theorem blk6 (t : Fin grid0.N) (n : Fin 7680) :
    iblk m c 6 t (ix3 0 0 n) = m ((c : Thread nD τ).loc main_arg4) (ix3 0 0 n) := by
  refine congrArg (m ((c : Thread nD τ).loc main_arg4)) (funext (α := Fin 3) (β := fun a => Fin (S4x1x7680.size a)) fun a => Fin.ext ?_)
  have e := ix6 t
  match a with
  | 0 => show cc0_transform_6 (grid0.coords t) 0 * 1 + 1 * 0 = 0; rw [e]; show 0 * 1 + 1 * 0 = _; omega
  | 1 => show cc0_transform_6 (grid0.coords t) 1 * 1 + 1 * 0 = 0; rw [e]; show 0 * 1 + 1 * 0 = _; omega
  | 2 => show cc0_transform_6 (grid0.coords t) 2 * 7680 + 1 * n.val = n.val; rw [e]; show 0 * 7680 + 1 * n.val = _; omega
theorem blk7 (t : Fin grid0.N) (j : Fin 5) (n : Fin 1024) :
    iblk m c 7 t (ix2 j n) = m ((c : Thread nD τ).loc main_arg5) (ix2 j n) := by
  refine congrArg (m ((c : Thread nD τ).loc main_arg5)) (funext (α := Fin 2) (β := fun a => Fin (S5x1024.size a)) fun a => Fin.ext ?_)
  have e := ix7 t
  match a with
  | 0 => show cc0_transform_7 (grid0.coords t) 0 * 5 + 1 * j.val = j.val; rw [e]; show 0 * 5 + 1 * j.val = _; omega
  | 1 => show cc0_transform_7 (grid0.coords t) 1 * 1024 + 1 * n.val = n.val; rw [e]; show 0 * 1024 + 1 * n.val = _; omega
theorem blk8 (t : Fin grid0.N) (n : Fin 1024) :
    iblk m c 8 t (ix2 0 n) = m ((c : Thread nD τ).loc main_arg6) (ix2 0 n) := by
  refine congrArg (m ((c : Thread nD τ).loc main_arg6)) (funext (α := Fin 2) (β := fun a => Fin (S1x1024.size a)) fun a => Fin.ext ?_)
  have e := ix8 t
  match a with
  | 0 => show cc0_transform_8 (grid0.coords t) 0 * 1 + 1 * 0 = 0; rw [e]; show 0 * 1 + 1 * 0 = _; omega
  | 1 => show cc0_transform_8 (grid0.coords t) 1 * 1024 + 1 * n.val = n.val; rw [e]; show 0 * 1024 + 1 * n.val = _; omega

theorem proj_congr {x x' nw nw' sc sc' sh sh' w w' : Fin 1024 → EReal} {b b' : EReal} (h0 : x = x') (h1 : nw = nw') (h2 : sc = sc') (h3 : sh = sh') (h4 : w = w') (h5 : b = b') :
    proj x nw sc sh w b = proj x' nw' sc' sh' w' b' := by
  rw [h0, h1, h2, h3, h4, h5]

/-- A block's column of a row of the layer's input is the reference's. -/
theorem col_eq (t : Fin grid0.N) (x : Fin 1024 → EReal) (l : Fin 8448) (n : Fin 7680) (hx : ∀ k, x k = m ((c : Thread nD τ).loc main_arg0) (ix3 (gb t) l k)) :
    col (iblk m c 3 t) (iblk m c 4 t) (iblk m c 5 t) (iblk m c 6 t) x n = rcol (m ((c : Thread nD τ).loc main_arg0)) (m ((c : Thread nD τ).loc main_arg1)) (m ((c : Thread nD τ).loc main_arg2)) (m ((c : Thread nD τ).loc main_arg3)) (m ((c : Thread nD τ).loc main_arg4)) (mrow (gb t) (256 * (gi t).val)) (gb t) l n :=
  proj_congr (funext hx) (funext fun k => blk4 m c t k) (funext fun k => blk3 m c t ⟨1024 + k.val, by omega⟩) (funext fun k => blk3 m c t ⟨k.val, by omega⟩) (funext fun d => blk5 m c t d n) (blk6 m c t n)

theorem mrow_eq (t : Fin grid0.N) (r : Fin 256) : mrow (gb t) (256 * (gi t).val + r.val) = mrow (gb t) (256 * (gi t).val) := by
  unfold mrow
  by_cases h : (gi t).val < 32
  · rw [if_pos (by omega), if_pos (by omega)]
  · rw [if_neg (by omega), if_neg (by omega)]

/-- A stored column around a row of the block is the reference's. -/
theorem ext_eq (t : Fin grid0.N) (r : Fin 256) (n : Fin 1024) (j : Fin 5) :
    ext (grid0.coords t) (iblk m c 0 t) (iblk m c 1 t) (iblk m c 2 t) (iblk m c 3 t) (iblk m c 4 t) (iblk m c 5 t) (iblk m c 6 t) ⟨6 + j.val + r.val, by omega⟩ n = rwin (m ((c : Thread nD τ).loc main_arg0)) (m ((c : Thread nD τ).loc main_arg1)) (m ((c : Thread nD τ).loc main_arg2)) (m ((c : Thread nD τ).loc main_arg3)) (m ((c : Thread nD τ).loc main_arg4)) (gb t) ⟨256 * (gi t).val + r.val, by omega⟩ n j := by
  have hg : (gi t).val < 33 := (gi t).isLt
  unfold ext rwin
  by_cases h : inR (256 * (gi t).val + r.val) j.val
  · rw [dif_pos h, if_neg ?_]
    · show _ = rcol (m ((c : Thread nD τ).loc main_arg0)) (m ((c : Thread nD τ).loc main_arg1)) (m ((c : Thread nD τ).loc main_arg2)) (m ((c : Thread nD τ).loc main_arg3)) (m ((c : Thread nD τ).loc main_arg4)) (mrow (gb t) (256 * (gi t).val + r.val)) (gb t) _ _
      rw [mrow_eq]
      refine col_eq m c t _ _ _ fun k => ?_
      unfold inR at h
      unfold erow
      by_cases h1 : 6 + j.val + r.val < 8
      · rw [dif_pos h1]
        refine (blk1 m c t _ k).trans (congrArg (fun l => m ((c : Thread nD τ).loc main_arg0) (ix3 (gb t) l k)) (Fin.ext ?_))
        show 8 * (32 * (gi t).val - 1) + (6 + j.val + r.val) = 256 * (gi t).val + r.val + j.val - 2
        omega
      · rw [dif_neg h1]
        by_cases h2 : 6 + j.val + r.val < 264
        · rw [dif_pos h2]
          refine (blk0 m c t _ k).trans (congrArg (fun l => m ((c : Thread nD τ).loc main_arg0) (ix3 (gb t) l k)) (Fin.ext ?_))
          show 256 * (gi t).val + (6 + j.val + r.val - 8) = 256 * (gi t).val + r.val + j.val - 2
          omega
        · rw [dif_neg h2]
          refine (blk2 m c t _ k).trans (congrArg (fun l => m ((c : Thread nD τ).loc main_arg0) (ix3 (gb t) l k)) (Fin.ext ?_))
          show 8 * min (32 * ((gi t).val + 1)) 1055 + (6 + j.val + r.val - 264) = 256 * (gi t).val + r.val + j.val - 2
          omega
    · rw [first_iff, last_iff]
      unfold inR at h
      show ¬((6 + j.val + r.val < 8 ∧ _) ∨ (264 ≤ 6 + j.val + r.val ∧ _))
      omega
  · rw [dif_neg h, if_pos ?_]
    rw [first_iff, last_iff]
    unfold inR at h
    show (6 + j.val + r.val < 8 ∧ _) ∨ (264 ≤ 6 + j.val + r.val ∧ _)
    omega

/-- A convolved column of a row of the block is the reference's. -/
theorem qk_eq (t : Fin grid0.N) (r : Fin 256) (n : Fin 1024) :
    qk (iblk m c 7 t) (iblk m c 8 t) (ext (grid0.coords t) (iblk m c 0 t) (iblk m c 1 t) (iblk m c 2 t) (iblk m c 3 t) (iblk m c 4 t) (iblk m c 5 t) (iblk m c 6 t)) r n =
      Cert.Reference3Ideal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (gb t) ⟨256 * (gi t).val + r.val, by omega⟩ n) := by
  refine Eq.trans ?_ (qk_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (gb t) ⟨256 * (gi t).val + r.val, by omega⟩ n).symm
  unfold qk
  refine congrArg silu ?_
  exact (congrArg (conv · _ _) (blk8 m c t n)).trans ((congrArg (conv _ · _) (funext fun j => ext_eq m c t r n j)).trans (congrArg (conv _ _) (funext fun j => blk7 m c t j n)))

theorem pts : ∀ (b : Fin 2) (i : Fin 33), ∃ t : Fin grid0.N, gb t = b ∧ gi t = i := by decide +kernel

/-- Where result 0's window places an element of its block. -/
theorem emb9 (t : Fin grid0.N) (r : Fin 256) (n : Fin 6656) :
    ((cfg0.win 9).blk t).view.emb (ix3 0 r n) = ix3 (gb t) ⟨256 * (gi t).val + r.val, by omega⟩ n := by
  refine funext (α := Fin 3) (β := fun a => Fin (S2x8448x6656.size a)) fun a => Fin.ext ?_
  have e := ix9 t
  match a with
  | 0 => show cc0_transform_9 (grid0.coords t) 0 * 1 + 1 * 0 = (gb t).val; rw [e]; show (gb t).val * 1 + 1 * 0 = _; omega
  | 1 => show cc0_transform_9 (grid0.coords t) 1 * 256 + 1 * r.val = 256 * (gi t).val + r.val; rw [e]; show (gi t).val * 256 + 1 * r.val = _; omega
  | 2 => show cc0_transform_9 (grid0.coords t) 2 * 6656 + 1 * n.val = n.val; rw [e]; show 0 * 6656 + 1 * n.val = _; omega
/-- Its blocks cover the array. -/
theorem covers9 : (cfg0.win 9).Covers := by
  refine ⟨(by decide : ∀ a : Fin 3, 0 < S1x256x6656.size a), fun β => ?_⟩
  have n0 : (cfg0.win 9).nblk (0 : Fin 3) = 2 := (by decide : (S2x8448x6656.size 0 + S1x256x6656.size 0 - 1) / S1x256x6656.size 0 = 2)
  have n1 : (cfg0.win 9).nblk (1 : Fin 3) = 33 := (by decide : (S2x8448x6656.size 1 + S1x256x6656.size 1 - 1) / S1x256x6656.size 1 = 33)
  have n2 : (cfg0.win 9).nblk (2 : Fin 3) = 1 := (by decide : (S2x8448x6656.size 2 + S1x256x6656.size 2 - 1) / S1x256x6656.size 2 = 1)
  obtain ⟨t, h0, h1⟩ := pts ((β (0 : Fin 3)).cast n0) ((β (1 : Fin 3)).cast n1)
  refine ⟨t, flush0_9 t, fun (a : Fin 3) => ⟨?_, Or.inl rfl⟩⟩
  show cc0_transform_9 (grid0.coords t) a = _
  rw [ix9 t]
  match a with
  | 0 => exact congrArg Fin.val h0
  | 1 => exact congrArg Fin.val h1
  | 2 => exact (Nat.lt_one_iff.mp (lt_of_lt_of_eq (β (2 : Fin 3)).isLt n2)).symm

/-- Where result 1's window places an element of its block. -/
theorem emb10 (t : Fin grid0.N) (r : Fin 256) (n : Fin 512) :
    ((cfg0.win 10).blk t).view.emb (ix3 0 r n) = ix3 (gb t) ⟨256 * (gi t).val + r.val, by omega⟩ n := by
  refine funext (α := Fin 3) (β := fun a => Fin (S2x8448x512.size a)) fun a => Fin.ext ?_
  have e := ix10 t
  match a with
  | 0 => show cc0_transform_10 (grid0.coords t) 0 * 1 + 1 * 0 = (gb t).val; rw [e]; show (gb t).val * 1 + 1 * 0 = _; omega
  | 1 => show cc0_transform_10 (grid0.coords t) 1 * 256 + 1 * r.val = 256 * (gi t).val + r.val; rw [e]; show (gi t).val * 256 + 1 * r.val = _; omega
  | 2 => show cc0_transform_10 (grid0.coords t) 2 * 512 + 1 * n.val = n.val; rw [e]; show 0 * 512 + 1 * n.val = _; omega
/-- Its blocks cover the array. -/
theorem covers10 : (cfg0.win 10).Covers := by
  refine ⟨(by decide : ∀ a : Fin 3, 0 < S1x256x512.size a), fun β => ?_⟩
  have n0 : (cfg0.win 10).nblk (0 : Fin 3) = 2 := (by decide : (S2x8448x512.size 0 + S1x256x512.size 0 - 1) / S1x256x512.size 0 = 2)
  have n1 : (cfg0.win 10).nblk (1 : Fin 3) = 33 := (by decide : (S2x8448x512.size 1 + S1x256x512.size 1 - 1) / S1x256x512.size 1 = 33)
  have n2 : (cfg0.win 10).nblk (2 : Fin 3) = 1 := (by decide : (S2x8448x512.size 2 + S1x256x512.size 2 - 1) / S1x256x512.size 2 = 1)
  obtain ⟨t, h0, h1⟩ := pts ((β (0 : Fin 3)).cast n0) ((β (1 : Fin 3)).cast n1)
  refine ⟨t, flush0_10 t, fun (a : Fin 3) => ⟨?_, Or.inl rfl⟩⟩
  show cc0_transform_10 (grid0.coords t) a = _
  rw [ix10 t]
  match a with
  | 0 => exact congrArg Fin.val h0
  | 1 => exact congrArg Fin.val h1
  | 2 => exact (Nat.lt_one_iff.mp (lt_of_lt_of_eq (β (2 : Fin 3)).isLt n2)).symm

/-- Where result 2's window places an element of its block. -/
theorem emb11 (t : Fin grid0.N) (r : Fin 256) (n : Fin 512) :
    ((cfg0.win 11).blk t).view.emb (ix3 0 r n) = ix3 (gb t) ⟨256 * (gi t).val + r.val, by omega⟩ n := by
  refine funext (α := Fin 3) (β := fun a => Fin (S2x8448x512.size a)) fun a => Fin.ext ?_
  have e := ix11 t
  match a with
  | 0 => show cc0_transform_11 (grid0.coords t) 0 * 1 + 1 * 0 = (gb t).val; rw [e]; show (gb t).val * 1 + 1 * 0 = _; omega
  | 1 => show cc0_transform_11 (grid0.coords t) 1 * 256 + 1 * r.val = 256 * (gi t).val + r.val; rw [e]; show (gi t).val * 256 + 1 * r.val = _; omega
  | 2 => show cc0_transform_11 (grid0.coords t) 2 * 512 + 1 * n.val = n.val; rw [e]; show 0 * 512 + 1 * n.val = _; omega
/-- Its blocks cover the array. -/
theorem covers11 : (cfg0.win 11).Covers := by
  refine ⟨(by decide : ∀ a : Fin 3, 0 < S1x256x512.size a), fun β => ?_⟩
  have n0 : (cfg0.win 11).nblk (0 : Fin 3) = 2 := (by decide : (S2x8448x512.size 0 + S1x256x512.size 0 - 1) / S1x256x512.size 0 = 2)
  have n1 : (cfg0.win 11).nblk (1 : Fin 3) = 33 := (by decide : (S2x8448x512.size 1 + S1x256x512.size 1 - 1) / S1x256x512.size 1 = 33)
  have n2 : (cfg0.win 11).nblk (2 : Fin 3) = 1 := (by decide : (S2x8448x512.size 2 + S1x256x512.size 2 - 1) / S1x256x512.size 2 = 1)
  obtain ⟨t, h0, h1⟩ := pts ((β (0 : Fin 3)).cast n0) ((β (1 : Fin 3)).cast n1)
  refine ⟨t, flush0_11 t, fun (a : Fin 3) => ⟨?_, Or.inl rfl⟩⟩
  show cc0_transform_11 (grid0.coords t) a = _
  rw [ix11 t]
  match a with
  | 0 => exact congrArg Fin.val h0
  | 1 => exact congrArg Fin.val h1
  | 2 => exact (Nat.lt_one_iff.mp (lt_of_lt_of_eq (β (2 : Fin 3)).isLt n2)).symm

theorem point9 (t : Fin grid0.N) (r : Fin 256) (n : Fin 6656) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 0 r n) =
      Cert.Reference3Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (gb t) ⟨256 * (gi t).val + r.val, by omega⟩ n) := by
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) r n).trans ((col_eq m c t _ ⟨256 * (gi t).val + r.val, by omega⟩ _ fun k => blk0 m c t r k).trans ?_)
  refine Eq.trans ?_ (slab_apply (m ((c : Thread nD τ).loc main_arg0)) (m ((c : Thread nD τ).loc main_arg1)) (m ((c : Thread nD τ).loc main_arg2)) (m ((c : Thread nD τ).loc main_arg3)) (m ((c : Thread nD τ).loc main_arg4)) (gb t) ⟨256 * (gi t).val + r.val, by omega⟩ n).symm
  rw [mrow_eq]
/-- Result 0 is the reference's. -/
theorem final9 : (dats (F := Ideal) m 0 c).arrAt 9 cfg0.N = Cert.Reference3Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats (F := Ideal) m 0 c).arrAt_eq_of_covers 9 _ covers9 fun t hf y => ?_
  obtain ⟨y0, r, n, rfl⟩ : ∃ (y0 : Fin 1) (r : Fin 256) (n : Fin 6656), y = (ix3 y0 r n : S1x256x6656.Idx) := ⟨_, _, _, eq_ix3 (n0 := 1) (n1 := 256) (n2 := 6656) y⟩
  obtain rfl : y0 = 0 := Subsingleton.elim _ _
  refine (congrFun (Value.flushed9_A m c t) _).trans ((point9 m c t r n).trans ?_)
  exact congrArg (Cert.Reference3Ideal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (emb9 t r n).symm

theorem point10 (t : Fin grid0.N) (r : Fin 256) (n : Fin 512) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 0 r n) =
      Cert.Reference3Ideal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (gb t) ⟨256 * (gi t).val + r.val, by omega⟩ n) := by
  refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) r n).trans ((qk_eq m c t r _).trans (q_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (gb t) ⟨256 * (gi t).val + r.val, by omega⟩ n).symm)
/-- Result 1 is the reference's. -/
theorem final10 : (dats (F := Ideal) m 0 c).arrAt 10 cfg0.N = Cert.Reference3Ideal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats (F := Ideal) m 0 c).arrAt_eq_of_covers 10 _ covers10 fun t hf y => ?_
  obtain ⟨y0, r, n, rfl⟩ : ∃ (y0 : Fin 1) (r : Fin 256) (n : Fin 512), y = (ix3 y0 r n : S1x256x512.Idx) := ⟨_, _, _, eq_ix3 (n0 := 1) (n1 := 256) (n2 := 512) y⟩
  obtain rfl : y0 = 0 := Subsingleton.elim _ _
  refine (congrFun (Value.flushed10_A m c t) _).trans ((point10 m c t r n).trans ?_)
  exact congrArg (Cert.Reference3Ideal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10 t r n).symm

theorem point11 (t : Fin grid0.N) (r : Fin 256) (n : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 0 r n) =
      Cert.Reference3Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (gb t) ⟨256 * (gi t).val + r.val, by omega⟩ n) := by
  refine (out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) r n).trans ((congrArg (· * _) (qk_eq m c t r _)).trans (k_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (gb t) ⟨256 * (gi t).val + r.val, by omega⟩ n).symm)
/-- Result 2 is the reference's. -/
theorem final11 : (dats (F := Ideal) m 0 c).arrAt 11 cfg0.N = Cert.Reference3Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats (F := Ideal) m 0 c).arrAt_eq_of_covers 11 _ covers11 fun t hf y => ?_
  obtain ⟨y0, r, n, rfl⟩ : ∃ (y0 : Fin 1) (r : Fin 256) (n : Fin 512), y = (ix3 y0 r n : S1x256x512.Idx) := ⟨_, _, _, eq_ix3 (n0 := 1) (n1 := 256) (n2 := 512) y⟩
  obtain rfl : y0 = 0 := Subsingleton.elim _ _
  refine (congrFun (Value.flushed11_A m c t) _).trans ((point11 m c t r n).trans ?_)
  exact congrArg (Cert.Reference3Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb11 t r n).symm

end Cert.Kernel3Ideal.InProj

end
-- ==== Proof.lean ====
/- The proof of the claims: each kernel and its idealization run and leave their arguments and counters as they were,
   and over the extended reals each kernel's result is its reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Kernel.Frame
public import proofs.«01_k».proof.Proof.KernelIdeal.Frame
public import proofs.«01_k».proof.Proof.KernelIdeal.Value
public import proofs.«01_k».proof.Proof.Pre
public import proofs.«01_k».proof.Proof.Ffn.Value
public import proofs.«01_k».proof.Proof.InProj.Value
public import Idealize.ShloMosaic.Lib.Quiescent

@[expose] public section

noncomputable section

namespace Cert.Proof

open Idealize.ShloMosaic Idealize.SL.Sem

/-- The reference leaves its arguments as they were; it has no counters. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel of the attention computes the reference. -/
theorem kernel_value : Cert.algebraic_KernelIdeal_ReferenceIdeal_pre_attn_finite := fun m g m' g' hpre hargs => by
  refine ⟨fun c => Cert.ReferenceIdeal.Read.val_main_v26 (F := Ideal) (m (c.tc.loc Cert.KernelIdeal.main_arg1)) (m (c.tc.loc Cert.KernelIdeal.main_arg2)) (m (c.tc.loc Cert.KernelIdeal.main_arg3)), ?_, ?_⟩
  · refine (θ_run Cert.KernelIdeal.defs _ _).mono (fun r h c => ⟨?_, h.2.1 c⟩)
      (θ_run_and (Cert.KernelIdeal.Attn.run_main (F := Ideal) m g) (Cert.KernelIdeal.Attn.frame (F := Ideal) m g))
    obtain ⟨xq, xk, u, hq, hk, hu⟩ := Cert.Pre_attn_finite.Attn.reals _ _ _ _ _ (congrFun (hpre c))
    exact (h.1.out_eq c 4).trans (Cert.KernelIdeal.Attn.final m c xq xk u hq hk hu)
  · refine (θ_run Cert.ReferenceIdeal.defs _ _).mono (fun r h c => ⟨(h c).1.trans ?_, (h c).2⟩) (Cert.ReferenceIdeal.Value.run (F := Ideal) m' g')
    refine (Cert.ReferenceIdeal.Read.val_main_v26_eq _ _ _).trans ?_
    obtain ⟨-, e1, e2, e3, -⟩ := hargs c
    rw [e1, e2, e3]

/-- The second reference leaves its arguments as they were; it has no counters. -/
theorem reference2_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The kernel of the experts computes the second reference. -/
theorem kernel2_value : Cert.algebraic_Kernel2Ideal_Reference2Ideal := fun m g m' g' _ hargs => by
  refine ⟨fun c => Cert.Reference2Ideal.Read.val_main_v19 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)), ?_, ?_⟩
  · exact (θ_run Cert.Kernel2Ideal.defs _ _).mono (fun r h c => ⟨(h c).1.trans (Cert.Kernel2Ideal.Ffn.final m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    refine (Cert.Reference2Ideal.Read.val_main_v19_eq _ _ _ _ _).trans ?_
    obtain ⟨e0, e1, e2, e3, e4⟩ := hargs c
    rw [e0, e1, e2, e3, e4]

/-- The third reference leaves its arguments as they were; it has no counters. -/
theorem reference3_frame : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run (F := Ideal) m g)

/-- The kernel of the input projection computes the third reference. -/
theorem kernel3_value : Cert.algebraic_Kernel3Ideal_Reference3Ideal := fun m g m' g' _ hargs => by
  refine ⟨fun c => Cert.Reference3Ideal.Read.val_main_v151 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)),
    fun c => Cert.Reference3Ideal.Read.val_main_v153 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)),
    fun c => Cert.Reference3Ideal.Read.val_main_v157 (F := Ideal) (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)), ?_, ?_⟩
  · exact (θ_run Cert.Kernel3Ideal.defs _ _).mono (fun r h c => ⟨(h c).1.trans (Cert.Kernel3Ideal.InProj.final9 m c),
        (h c).2.1.trans (Cert.Kernel3Ideal.InProj.final10 m c), (h c).2.2.1.trans (Cert.Kernel3Ideal.InProj.final11 m c), (h c).2.2.2⟩)
      (Cert.Kernel3Ideal.Value.run_blocks (F := Ideal) m g)
  · refine (θ_run Cert.Reference3Ideal.defs _ _).mono (fun r h c => ⟨(h c).1.trans ?_, (h c).2.1.trans ?_, (h c).2.2.1.trans ?_, (h c).2.2.2⟩)
      (Cert.Reference3Ideal.Value.run (F := Ideal) m' g')
    · refine (Cert.Reference3Ideal.Read.val_main_v151_eq _).trans ?_
      obtain ⟨e0, e1, e2, e3, e4, -, -⟩ := hargs c
      show Cert.Reference3Ideal.Read.val_main_v151 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) = _
      rw [e0, e1, e2, e3, e4]
    · refine (Cert.Reference3Ideal.Read.val_main_v153_eq _).trans ?_
      obtain ⟨e0, e1, e2, e3, e4, e5, e6⟩ := hargs c
      show Cert.Reference3Ideal.Read.val_main_v153 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) = _
      rw [e0, e1, e2, e3, e4, e5, e6]
    · refine (Cert.Reference3Ideal.Read.val_main_v157_eq _).trans ?_
      obtain ⟨e0, e1, e2, e3, e4, e5, e6⟩ := hargs c
      show Cert.Reference3Ideal.Read.val_main_v157 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) = _
      rw [e0, e1, e2, e3, e4, e5, e6]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_attn_finite.Attn.facts,
  fun m g _ => Cert.Kernel.Attn.frame m g, fun m g _ => Cert.KernelIdeal.Attn.frame m g, fun m g _ => Cert.KernelIdeal.Attn.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  trivial, kernel_value, trivial, kernel2_value, trivial, kernel3_value⟩

end Cert.Proof

end
